-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_KernelQkv1 (m : (ℓ : Loc Cert.KernelQkv1.nD Cert.KernelQkv1.τ Cert.KernelQkv1.sig) → Buf (Elt Bits) ℓ) : Prop :=
  True

def Pre_KernelQkv1Ideal (m : (ℓ : Loc Cert.KernelQkv1Ideal.nD Cert.KernelQkv1Ideal.τ Cert.KernelQkv1Ideal.sig) → Buf (Elt Ideal) ℓ) : Prop :=
  True

def Pre_ReferenceQkv1Ideal (m : (ℓ : Loc Cert.ReferenceQkv1Ideal.nD Cert.ReferenceQkv1Ideal.τ Cert.ReferenceQkv1Ideal.sig) → Buf (Elt Ideal) ℓ) : Prop :=
  True

def Pre_KernelQkv4 (m : (ℓ : Loc Cert.KernelQkv4.nD Cert.KernelQkv4.τ Cert.KernelQkv4.sig) → Buf (Elt Bits) ℓ) : Prop :=
  True

def Pre_KernelQkv4Ideal (m : (ℓ : Loc Cert.KernelQkv4Ideal.nD Cert.KernelQkv4Ideal.τ Cert.KernelQkv4Ideal.sig) → Buf (Elt Ideal) ℓ) : Prop :=
  True

def Pre_ReferenceQkv4Ideal (m : (ℓ : Loc Cert.ReferenceQkv4Ideal.nD Cert.ReferenceQkv4Ideal.τ Cert.ReferenceQkv4Ideal.sig) → Buf (Elt Ideal) ℓ) : Prop :=
  True

def Pre_KernelQkv16 (m : (ℓ : Loc Cert.KernelQkv16.nD Cert.KernelQkv16.τ Cert.KernelQkv16.sig) → Buf (Elt Bits) ℓ) : Prop :=
  True

def Pre_KernelQkv16Ideal (m : (ℓ : Loc Cert.KernelQkv16Ideal.nD Cert.KernelQkv16Ideal.τ Cert.KernelQkv16Ideal.sig) → Buf (Elt Ideal) ℓ) : Prop :=
  True

def Pre_ReferenceQkv16Ideal (m : (ℓ : Loc Cert.ReferenceQkv16Ideal.nD Cert.ReferenceQkv16Ideal.τ Cert.ReferenceQkv16Ideal.sig) → Buf (Elt Ideal) ℓ) : Prop :=
  True

def Pre_KernelAo (m : (ℓ : Loc Cert.KernelAo.nD Cert.KernelAo.τ Cert.KernelAo.sig) → Buf (Elt Bits) ℓ) : Prop :=
  True

def Pre_KernelAoIdeal (m : (ℓ : Loc Cert.KernelAoIdeal.nD Cert.KernelAoIdeal.τ Cert.KernelAoIdeal.sig) → Buf (Elt Ideal) ℓ) : Prop :=
  True

def Pre_ReferenceAoIdeal (m : (ℓ : Loc Cert.ReferenceAoIdeal.nD Cert.ReferenceAoIdeal.τ Cert.ReferenceAoIdeal.sig) → Buf (Elt Ideal) ℓ) : Prop :=
  True

def Pre_KernelBq (m : (ℓ : Loc Cert.KernelBq.nD Cert.KernelBq.τ Cert.KernelBq.sig) → Buf (Elt Bits) ℓ) : Prop :=
  True

def Pre_KernelBqIdeal (m : (ℓ : Loc Cert.KernelBqIdeal.nD Cert.KernelBqIdeal.τ Cert.KernelBqIdeal.sig) → Buf (Elt Ideal) ℓ) : Prop :=
  True

def Pre_ReferenceBqIdeal (m : (ℓ : Loc Cert.ReferenceBqIdeal.nD Cert.ReferenceBqIdeal.τ Cert.ReferenceBqIdeal.sig) → Buf (Elt Ideal) ℓ) : Prop :=
  True

def Pre_KernelBo (m : (ℓ : Loc Cert.KernelBo.nD Cert.KernelBo.τ Cert.KernelBo.sig) → Buf (Elt Bits) ℓ) : Prop :=
  True

def Pre_KernelBoIdeal (m : (ℓ : Loc Cert.KernelBoIdeal.nD Cert.KernelBoIdeal.τ Cert.KernelBoIdeal.sig) → Buf (Elt Ideal) ℓ) : Prop :=
  True

def Pre_ReferenceBoIdeal (m : (ℓ : Loc Cert.ReferenceBoIdeal.nD Cert.ReferenceBoIdeal.τ Cert.ReferenceBoIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelPro (m : (ℓ : Loc Cert.KernelPro.nD Cert.KernelPro.τ Cert.KernelPro.sig) → Buf (Elt Bits) ℓ) : Prop :=
  True

def Pre_KernelProIdeal (m : (ℓ : Loc Cert.KernelProIdeal.nD Cert.KernelProIdeal.τ Cert.KernelProIdeal.sig) → Buf (Elt Ideal) ℓ) : Prop :=
  True

def Pre_ReferenceProIdeal (m : (ℓ : Loc Cert.ReferenceProIdeal.nD Cert.ReferenceProIdeal.τ Cert.ReferenceProIdeal.sig) → Buf (Elt Ideal) ℓ) : Prop :=
  True

def Pre_KernelMean (m : (ℓ : Loc Cert.KernelMean.nD Cert.KernelMean.τ Cert.KernelMean.sig) → Buf (Elt Bits) ℓ) : Prop :=
  True

def Pre_KernelMeanIdeal (m : (ℓ : Loc Cert.KernelMeanIdeal.nD Cert.KernelMeanIdeal.τ Cert.KernelMeanIdeal.sig) → Buf (Elt Ideal) ℓ) : Prop :=
  True

def Pre_ReferenceMeanIdeal (m : (ℓ : Loc Cert.ReferenceMeanIdeal.nD Cert.ReferenceMeanIdeal.τ Cert.ReferenceMeanIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_KernelQkv1 [hKernelQkv1 : Cert.KernelQkv1.Facts] : Prop :=
  ∀ (m : (ℓ : Loc Cert.KernelQkv1.nD Cert.KernelQkv1.τ Cert.KernelQkv1.sig) → Buf (Elt Bits) ℓ) (g : Dev Cert.KernelQkv1.nD → PrngReg), Pre_KernelQkv1 m →
    θ_run (Cert.KernelQkv1.defs (F := Bits)) (onTc (τ := Cert.KernelQkv1.τ) (Cert.KernelQkv1.main (F := Bits))) ⟨m, fun _ => 0, g⟩ (fun r => (∀ c : Dev Cert.KernelQkv1.nD,
      r.2.mem ((c.tc : Thread Cert.KernelQkv1.nD Cert.KernelQkv1.τ).loc Cert.KernelQkv1.main_arg0) = m ((c.tc : Thread Cert.KernelQkv1.nD Cert.KernelQkv1.τ).loc Cert.KernelQkv1.main_arg0)
      ∧ r.2.mem ((c.tc : Thread Cert.KernelQkv1.nD Cert.KernelQkv1.τ).loc Cert.KernelQkv1.main_arg1) = m ((c.tc : Thread Cert.KernelQkv1.nD Cert.KernelQkv1.τ).loc Cert.KernelQkv1.main_arg1))
      ∧ r.2.sem = fun _ => 0)

def quiescent_KernelQkv1Ideal [hKernelQkv1Ideal : Cert.KernelQkv1Ideal.Facts] : Prop :=
  ∀ (m : (ℓ : Loc Cert.KernelQkv1Ideal.nD Cert.KernelQkv1Ideal.τ Cert.KernelQkv1Ideal.sig) → Buf (Elt Ideal) ℓ) (g : Dev Cert.KernelQkv1Ideal.nD → PrngReg), Pre_KernelQkv1Ideal m →
    θ_run (Cert.KernelQkv1Ideal.defs (F := Ideal)) (onTc (τ := Cert.KernelQkv1Ideal.τ) (Cert.KernelQkv1Ideal.main (F := Ideal))) ⟨m, fun _ => 0, g⟩ (fun r => (∀ c : Dev Cert.KernelQkv1Ideal.nD,
      r.2.mem ((c.tc : Thread Cert.KernelQkv1Ideal.nD Cert.KernelQkv1Ideal.τ).loc Cert.KernelQkv1Ideal.main_arg0) = m ((c.tc : Thread Cert.KernelQkv1Ideal.nD Cert.KernelQkv1Ideal.τ).loc Cert.KernelQkv1Ideal.main_arg0)
      ∧ r.2.mem ((c.tc : Thread Cert.KernelQkv1Ideal.nD Cert.KernelQkv1Ideal.τ).loc Cert.KernelQkv1Ideal.main_arg1) = m ((c.tc : Thread Cert.KernelQkv1Ideal.nD Cert.KernelQkv1Ideal.τ).loc Cert.KernelQkv1Ideal.main_arg1))
      ∧ r.2.sem = fun _ => 0)

def quiescent_ReferenceQkv1Ideal [hReferenceQkv1Ideal : Cert.ReferenceQkv1Ideal.Facts] : Prop :=
  ∀ (m : (ℓ : Loc Cert.ReferenceQkv1Ideal.nD Cert.ReferenceQkv1Ideal.τ Cert.ReferenceQkv1Ideal.sig) → Buf (Elt Ideal) ℓ) (g : Dev Cert.ReferenceQkv1Ideal.nD → PrngReg), Pre_ReferenceQkv1Ideal m →
    θ_run (Cert.ReferenceQkv1Ideal.defs (F := Ideal)) (onTc (τ := Cert.ReferenceQkv1Ideal.τ) (Cert.ReferenceQkv1Ideal.main (F := Ideal))) ⟨m, fun _ => 0, g⟩ (fun r => (∀ c : Dev Cert.ReferenceQkv1Ideal.nD,
      r.2.mem ((c.tc : Thread Cert.ReferenceQkv1Ideal.nD Cert.ReferenceQkv1Ideal.τ).loc Cert.ReferenceQkv1Ideal.main_arg0) = m ((c.tc : Thread Cert.ReferenceQkv1Ideal.nD Cert.ReferenceQkv1Ideal.τ).loc Cert.ReferenceQkv1Ideal.main_arg0)
      ∧ r.2.mem ((c.tc : Thread Cert.ReferenceQkv1Ideal.nD Cert.ReferenceQkv1Ideal.τ).loc Cert.ReferenceQkv1Ideal.main_arg1) = m ((c.tc : Thread Cert.ReferenceQkv1Ideal.nD Cert.ReferenceQkv1Ideal.τ).loc Cert.ReferenceQkv1Ideal.main_arg1))
      ∧ r.2.sem = fun _ => 0)

def quiescent_KernelQkv4 [hKernelQkv4 : Cert.KernelQkv4.Facts] : Prop :=
  ∀ (m : (ℓ : Loc Cert.KernelQkv4.nD Cert.KernelQkv4.τ Cert.KernelQkv4.sig) → Buf (Elt Bits) ℓ) (g : Dev Cert.KernelQkv4.nD → PrngReg), Pre_KernelQkv4 m →
    θ_run (Cert.KernelQkv4.defs (F := Bits)) (onTc (τ := Cert.KernelQkv4.τ) (Cert.KernelQkv4.main (F := Bits))) ⟨m, fun _ => 0, g⟩ (fun r => (∀ c : Dev Cert.KernelQkv4.nD,
      r.2.mem ((c.tc : Thread Cert.KernelQkv4.nD Cert.KernelQkv4.τ).loc Cert.KernelQkv4.main_arg0) = m ((c.tc : Thread Cert.KernelQkv4.nD Cert.KernelQkv4.τ).loc Cert.KernelQkv4.main_arg0)
      ∧ r.2.mem ((c.tc : Thread Cert.KernelQkv4.nD Cert.KernelQkv4.τ).loc Cert.KernelQkv4.main_arg1) = m ((c.tc : Thread Cert.KernelQkv4.nD Cert.KernelQkv4.τ).loc Cert.KernelQkv4.main_arg1))
      ∧ r.2.sem = fun _ => 0)

def quiescent_KernelQkv4Ideal [hKernelQkv4Ideal : Cert.KernelQkv4Ideal.Facts] : Prop :=
  ∀ (m : (ℓ : Loc Cert.KernelQkv4Ideal.nD Cert.KernelQkv4Ideal.τ Cert.KernelQkv4Ideal.sig) → Buf (Elt Ideal) ℓ) (g : Dev Cert.KernelQkv4Ideal.nD → PrngReg), Pre_KernelQkv4Ideal m →
    θ_run (Cert.KernelQkv4Ideal.defs (F := Ideal)) (onTc (τ := Cert.KernelQkv4Ideal.τ) (Cert.KernelQkv4Ideal.main (F := Ideal))) ⟨m, fun _ => 0, g⟩ (fun r => (∀ c : Dev Cert.KernelQkv4Ideal.nD,
      r.2.mem ((c.tc : Thread Cert.KernelQkv4Ideal.nD Cert.KernelQkv4Ideal.τ).loc Cert.KernelQkv4Ideal.main_arg0) = m ((c.tc : Thread Cert.KernelQkv4Ideal.nD Cert.KernelQkv4Ideal.τ).loc Cert.KernelQkv4Ideal.main_arg0)
      ∧ r.2.mem ((c.tc : Thread Cert.KernelQkv4Ideal.nD Cert.KernelQkv4Ideal.τ).loc Cert.KernelQkv4Ideal.main_arg1) = m ((c.tc : Thread Cert.KernelQkv4Ideal.nD Cert.KernelQkv4Ideal.τ).loc Cert.KernelQkv4Ideal.main_arg1))
      ∧ r.2.sem = fun _ => 0)

def quiescent_ReferenceQkv4Ideal [hReferenceQkv4Ideal : Cert.ReferenceQkv4Ideal.Facts] : Prop :=
  ∀ (m : (ℓ : Loc Cert.ReferenceQkv4Ideal.nD Cert.ReferenceQkv4Ideal.τ Cert.ReferenceQkv4Ideal.sig) → Buf (Elt Ideal) ℓ) (g : Dev Cert.ReferenceQkv4Ideal.nD → PrngReg), Pre_ReferenceQkv4Ideal m →
    θ_run (Cert.ReferenceQkv4Ideal.defs (F := Ideal)) (onTc (τ := Cert.ReferenceQkv4Ideal.τ) (Cert.ReferenceQkv4Ideal.main (F := Ideal))) ⟨m, fun _ => 0, g⟩ (fun r => (∀ c : Dev Cert.ReferenceQkv4Ideal.nD,
      r.2.mem ((c.tc : Thread Cert.ReferenceQkv4Ideal.nD Cert.ReferenceQkv4Ideal.τ).loc Cert.ReferenceQkv4Ideal.main_arg0) = m ((c.tc : Thread Cert.ReferenceQkv4Ideal.nD Cert.ReferenceQkv4Ideal.τ).loc Cert.ReferenceQkv4Ideal.main_arg0)
      ∧ r.2.mem ((c.tc : Thread Cert.ReferenceQkv4Ideal.nD Cert.ReferenceQkv4Ideal.τ).loc Cert.ReferenceQkv4Ideal.main_arg1) = m ((c.tc : Thread Cert.ReferenceQkv4Ideal.nD Cert.ReferenceQkv4Ideal.τ).loc Cert.ReferenceQkv4Ideal.main_arg1))
      ∧ r.2.sem = fun _ => 0)

def quiescent_KernelQkv16 [hKernelQkv16 : Cert.KernelQkv16.Facts] : Prop :=
  ∀ (m : (ℓ : Loc Cert.KernelQkv16.nD Cert.KernelQkv16.τ Cert.KernelQkv16.sig) → Buf (Elt Bits) ℓ) (g : Dev Cert.KernelQkv16.nD → PrngReg), Pre_KernelQkv16 m →
    θ_run (Cert.KernelQkv16.defs (F := Bits)) (onTc (τ := Cert.KernelQkv16.τ) (Cert.KernelQkv16.main (F := Bits))) ⟨m, fun _ => 0, g⟩ (fun r => (∀ c : Dev Cert.KernelQkv16.nD,
      r.2.mem ((c.tc : Thread Cert.KernelQkv16.nD Cert.KernelQkv16.τ).loc Cert.KernelQkv16.main_arg0) = m ((c.tc : Thread Cert.KernelQkv16.nD Cert.KernelQkv16.τ).loc Cert.KernelQkv16.main_arg0)
      ∧ r.2.mem ((c.tc : Thread Cert.KernelQkv16.nD Cert.KernelQkv16.τ).loc Cert.KernelQkv16.main_arg1) = m ((c.tc : Thread Cert.KernelQkv16.nD Cert.KernelQkv16.τ).loc Cert.KernelQkv16.main_arg1))
      ∧ r.2.sem = fun _ => 0)

def quiescent_KernelQkv16Ideal [hKernelQkv16Ideal : Cert.KernelQkv16Ideal.Facts] : Prop :=
  ∀ (m : (ℓ : Loc Cert.KernelQkv16Ideal.nD Cert.KernelQkv16Ideal.τ Cert.KernelQkv16Ideal.sig) → Buf (Elt Ideal) ℓ) (g : Dev Cert.KernelQkv16Ideal.nD → PrngReg), Pre_KernelQkv16Ideal m →
    θ_run (Cert.KernelQkv16Ideal.defs (F := Ideal)) (onTc (τ := Cert.KernelQkv16Ideal.τ) (Cert.KernelQkv16Ideal.main (F := Ideal))) ⟨m, fun _ => 0, g⟩ (fun r => (∀ c : Dev Cert.KernelQkv16Ideal.nD,
      r.2.mem ((c.tc : Thread Cert.KernelQkv16Ideal.nD Cert.KernelQkv16Ideal.τ).loc Cert.KernelQkv16Ideal.main_arg0) = m ((c.tc : Thread Cert.KernelQkv16Ideal.nD Cert.KernelQkv16Ideal.τ).loc Cert.KernelQkv16Ideal.main_arg0)
      ∧ r.2.mem ((c.tc : Thread Cert.KernelQkv16Ideal.nD Cert.KernelQkv16Ideal.τ).loc Cert.KernelQkv16Ideal.main_arg1) = m ((c.tc : Thread Cert.KernelQkv16Ideal.nD Cert.KernelQkv16Ideal.τ).loc Cert.KernelQkv16Ideal.main_arg1))
      ∧ r.2.sem = fun _ => 0)

def quiescent_ReferenceQkv16Ideal [hReferenceQkv16Ideal : Cert.ReferenceQkv16Ideal.Facts] : Prop :=
  ∀ (m : (ℓ : Loc Cert.ReferenceQkv16Ideal.nD Cert.ReferenceQkv16Ideal.τ Cert.ReferenceQkv16Ideal.sig) → Buf (Elt Ideal) ℓ) (g : Dev Cert.ReferenceQkv16Ideal.nD → PrngReg), Pre_ReferenceQkv16Ideal m →
    θ_run (Cert.ReferenceQkv16Ideal.defs (F := Ideal)) (onTc (τ := Cert.ReferenceQkv16Ideal.τ) (Cert.ReferenceQkv16Ideal.main (F := Ideal))) ⟨m, fun _ => 0, g⟩ (fun r => (∀ c : Dev Cert.ReferenceQkv16Ideal.nD,
      r.2.mem ((c.tc : Thread Cert.ReferenceQkv16Ideal.nD Cert.ReferenceQkv16Ideal.τ).loc Cert.ReferenceQkv16Ideal.main_arg0) = m ((c.tc : Thread Cert.ReferenceQkv16Ideal.nD Cert.ReferenceQkv16Ideal.τ).loc Cert.ReferenceQkv16Ideal.main_arg0)
      ∧ r.2.mem ((c.tc : Thread Cert.ReferenceQkv16Ideal.nD Cert.ReferenceQkv16Ideal.τ).loc Cert.ReferenceQkv16Ideal.main_arg1) = m ((c.tc : Thread Cert.ReferenceQkv16Ideal.nD Cert.ReferenceQkv16Ideal.τ).loc Cert.ReferenceQkv16Ideal.main_arg1))
      ∧ r.2.sem = fun _ => 0)

def quiescent_KernelAo [hKernelAo : Cert.KernelAo.Facts] : Prop :=
  ∀ (m : (ℓ : Loc Cert.KernelAo.nD Cert.KernelAo.τ Cert.KernelAo.sig) → Buf (Elt Bits) ℓ) (g : Dev Cert.KernelAo.nD → PrngReg), Pre_KernelAo m →
    θ_run (Cert.KernelAo.defs (F := Bits)) (onTc (τ := Cert.KernelAo.τ) (Cert.KernelAo.main (F := Bits))) ⟨m, fun _ => 0, g⟩ (fun r => (∀ c : Dev Cert.KernelAo.nD,
      r.2.mem ((c.tc : Thread Cert.KernelAo.nD Cert.KernelAo.τ).loc Cert.KernelAo.main_arg0) = m ((c.tc : Thread Cert.KernelAo.nD Cert.KernelAo.τ).loc Cert.KernelAo.main_arg0)
      ∧ r.2.mem ((c.tc : Thread Cert.KernelAo.nD Cert.KernelAo.τ).loc Cert.KernelAo.main_arg1) = m ((c.tc : Thread Cert.KernelAo.nD Cert.KernelAo.τ).loc Cert.KernelAo.main_arg1))
      ∧ r.2.sem = fun _ => 0)

def quiescent_KernelAoIdeal [hKernelAoIdeal : Cert.KernelAoIdeal.Facts] : Prop :=
  ∀ (m : (ℓ : Loc Cert.KernelAoIdeal.nD Cert.KernelAoIdeal.τ Cert.KernelAoIdeal.sig) → Buf (Elt Ideal) ℓ) (g : Dev Cert.KernelAoIdeal.nD → PrngReg), Pre_KernelAoIdeal m →
    θ_run (Cert.KernelAoIdeal.defs (F := Ideal)) (onTc (τ := Cert.KernelAoIdeal.τ) (Cert.KernelAoIdeal.main (F := Ideal))) ⟨m, fun _ => 0, g⟩ (fun r => (∀ c : Dev Cert.KernelAoIdeal.nD,
      r.2.mem ((c.tc : Thread Cert.KernelAoIdeal.nD Cert.KernelAoIdeal.τ).loc Cert.KernelAoIdeal.main_arg0) = m ((c.tc : Thread Cert.KernelAoIdeal.nD Cert.KernelAoIdeal.τ).loc Cert.KernelAoIdeal.main_arg0)
      ∧ r.2.mem ((c.tc : Thread Cert.KernelAoIdeal.nD Cert.KernelAoIdeal.τ).loc Cert.KernelAoIdeal.main_arg1) = m ((c.tc : Thread Cert.KernelAoIdeal.nD Cert.KernelAoIdeal.τ).loc Cert.KernelAoIdeal.main_arg1))
      ∧ r.2.sem = fun _ => 0)

def quiescent_ReferenceAoIdeal [hReferenceAoIdeal : Cert.ReferenceAoIdeal.Facts] : Prop :=
  ∀ (m : (ℓ : Loc Cert.ReferenceAoIdeal.nD Cert.ReferenceAoIdeal.τ Cert.ReferenceAoIdeal.sig) → Buf (Elt Ideal) ℓ) (g : Dev Cert.ReferenceAoIdeal.nD → PrngReg), Pre_ReferenceAoIdeal m →
    θ_run (Cert.ReferenceAoIdeal.defs (F := Ideal)) (onTc (τ := Cert.ReferenceAoIdeal.τ) (Cert.ReferenceAoIdeal.main (F := Ideal))) ⟨m, fun _ => 0, g⟩ (fun r => (∀ c : Dev Cert.ReferenceAoIdeal.nD,
      r.2.mem ((c.tc : Thread Cert.ReferenceAoIdeal.nD Cert.ReferenceAoIdeal.τ).loc Cert.ReferenceAoIdeal.main_arg0) = m ((c.tc : Thread Cert.ReferenceAoIdeal.nD Cert.ReferenceAoIdeal.τ).loc Cert.ReferenceAoIdeal.main_arg0)
      ∧ r.2.mem ((c.tc : Thread Cert.ReferenceAoIdeal.nD Cert.ReferenceAoIdeal.τ).loc Cert.ReferenceAoIdeal.main_arg1) = m ((c.tc : Thread Cert.ReferenceAoIdeal.nD Cert.ReferenceAoIdeal.τ).loc Cert.ReferenceAoIdeal.main_arg1))
      ∧ r.2.sem = fun _ => 0)

def quiescent_KernelBq [hKernelBq : Cert.KernelBq.Facts] : Prop :=
  ∀ (m : (ℓ : Loc Cert.KernelBq.nD Cert.KernelBq.τ Cert.KernelBq.sig) → Buf (Elt Bits) ℓ) (g : Dev Cert.KernelBq.nD → PrngReg), Pre_KernelBq m →
    θ_run (Cert.KernelBq.defs (F := Bits)) (onTc (τ := Cert.KernelBq.τ) (Cert.KernelBq.main (F := Bits))) ⟨m, fun _ => 0, g⟩ (fun r => (∀ c : Dev Cert.KernelBq.nD,
      r.2.mem ((c.tc : Thread Cert.KernelBq.nD Cert.KernelBq.τ).loc Cert.KernelBq.main_arg0) = m ((c.tc : Thread Cert.KernelBq.nD Cert.KernelBq.τ).loc Cert.KernelBq.main_arg0)
      ∧ r.2.mem ((c.tc : Thread Cert.KernelBq.nD Cert.KernelBq.τ).loc Cert.KernelBq.main_arg1) = m ((c.tc : Thread Cert.KernelBq.nD Cert.KernelBq.τ).loc Cert.KernelBq.main_arg1))
      ∧ r.2.sem = fun _ => 0)

def quiescent_KernelBqIdeal [hKernelBqIdeal : Cert.KernelBqIdeal.Facts] : Prop :=
  ∀ (m : (ℓ : Loc Cert.KernelBqIdeal.nD Cert.KernelBqIdeal.τ Cert.KernelBqIdeal.sig) → Buf (Elt Ideal) ℓ) (g : Dev Cert.KernelBqIdeal.nD → PrngReg), Pre_KernelBqIdeal m →
    θ_run (Cert.KernelBqIdeal.defs (F := Ideal)) (onTc (τ := Cert.KernelBqIdeal.τ) (Cert.KernelBqIdeal.main (F := Ideal))) ⟨m, fun _ => 0, g⟩ (fun r => (∀ c : Dev Cert.KernelBqIdeal.nD,
      r.2.mem ((c.tc : Thread Cert.KernelBqIdeal.nD Cert.KernelBqIdeal.τ).loc Cert.KernelBqIdeal.main_arg0) = m ((c.tc : Thread Cert.KernelBqIdeal.nD Cert.KernelBqIdeal.τ).loc Cert.KernelBqIdeal.main_arg0)
      ∧ r.2.mem ((c.tc : Thread Cert.KernelBqIdeal.nD Cert.KernelBqIdeal.τ).loc Cert.KernelBqIdeal.main_arg1) = m ((c.tc : Thread Cert.KernelBqIdeal.nD Cert.KernelBqIdeal.τ).loc Cert.KernelBqIdeal.main_arg1))
      ∧ r.2.sem = fun _ => 0)

def quiescent_ReferenceBqIdeal [hReferenceBqIdeal : Cert.ReferenceBqIdeal.Facts] : Prop :=
  ∀ (m : (ℓ : Loc Cert.ReferenceBqIdeal.nD Cert.ReferenceBqIdeal.τ Cert.ReferenceBqIdeal.sig) → Buf (Elt Ideal) ℓ) (g : Dev Cert.ReferenceBqIdeal.nD → PrngReg), Pre_ReferenceBqIdeal m →
    θ_run (Cert.ReferenceBqIdeal.defs (F := Ideal)) (onTc (τ := Cert.ReferenceBqIdeal.τ) (Cert.ReferenceBqIdeal.main (F := Ideal))) ⟨m, fun _ => 0, g⟩ (fun r => (∀ c : Dev Cert.ReferenceBqIdeal.nD,
      r.2.mem ((c.tc : Thread Cert.ReferenceBqIdeal.nD Cert.ReferenceBqIdeal.τ).loc Cert.ReferenceBqIdeal.main_arg0) = m ((c.tc : Thread Cert.ReferenceBqIdeal.nD Cert.ReferenceBqIdeal.τ).loc Cert.ReferenceBqIdeal.main_arg0)
      ∧ r.2.mem ((c.tc : Thread Cert.ReferenceBqIdeal.nD Cert.ReferenceBqIdeal.τ).loc Cert.ReferenceBqIdeal.main_arg1) = m ((c.tc : Thread Cert.ReferenceBqIdeal.nD Cert.ReferenceBqIdeal.τ).loc Cert.ReferenceBqIdeal.main_arg1))
      ∧ r.2.sem = fun _ => 0)

def quiescent_KernelBo [hKernelBo : Cert.KernelBo.Facts] : Prop :=
  ∀ (m : (ℓ : Loc Cert.KernelBo.nD Cert.KernelBo.τ Cert.KernelBo.sig) → Buf (Elt Bits) ℓ) (g : Dev Cert.KernelBo.nD → PrngReg), Pre_KernelBo m →
    θ_run (Cert.KernelBo.defs (F := Bits)) (onTc (τ := Cert.KernelBo.τ) (Cert.KernelBo.main (F := Bits))) ⟨m, fun _ => 0, g⟩ (fun r => (∀ c : Dev Cert.KernelBo.nD,
      r.2.mem ((c.tc : Thread Cert.KernelBo.nD Cert.KernelBo.τ).loc Cert.KernelBo.main_arg0) = m ((c.tc : Thread Cert.KernelBo.nD Cert.KernelBo.τ).loc Cert.KernelBo.main_arg0)
      ∧ r.2.mem ((c.tc : Thread Cert.KernelBo.nD Cert.KernelBo.τ).loc Cert.KernelBo.main_arg1) = m ((c.tc : Thread Cert.KernelBo.nD Cert.KernelBo.τ).loc Cert.KernelBo.main_arg1))
      ∧ r.2.sem = fun _ => 0)

def quiescent_KernelBoIdeal [hKernelBoIdeal : Cert.KernelBoIdeal.Facts] : Prop :=
  ∀ (m : (ℓ : Loc Cert.KernelBoIdeal.nD Cert.KernelBoIdeal.τ Cert.KernelBoIdeal.sig) → Buf (Elt Ideal) ℓ) (g : Dev Cert.KernelBoIdeal.nD → PrngReg), Pre_KernelBoIdeal m →
    θ_run (Cert.KernelBoIdeal.defs (F := Ideal)) (onTc (τ := Cert.KernelBoIdeal.τ) (Cert.KernelBoIdeal.main (F := Ideal))) ⟨m, fun _ => 0, g⟩ (fun r => (∀ c : Dev Cert.KernelBoIdeal.nD,
      r.2.mem ((c.tc : Thread Cert.KernelBoIdeal.nD Cert.KernelBoIdeal.τ).loc Cert.KernelBoIdeal.main_arg0) = m ((c.tc : Thread Cert.KernelBoIdeal.nD Cert.KernelBoIdeal.τ).loc Cert.KernelBoIdeal.main_arg0)
      ∧ r.2.mem ((c.tc : Thread Cert.KernelBoIdeal.nD Cert.KernelBoIdeal.τ).loc Cert.KernelBoIdeal.main_arg1) = m ((c.tc : Thread Cert.KernelBoIdeal.nD Cert.KernelBoIdeal.τ).loc Cert.KernelBoIdeal.main_arg1))
      ∧ r.2.sem = fun _ => 0)

def quiescent_ReferenceBoIdeal [hReferenceBoIdeal : Cert.ReferenceBoIdeal.Facts] : Prop :=
  ∀ (m : (ℓ : Loc Cert.ReferenceBoIdeal.nD Cert.ReferenceBoIdeal.τ Cert.ReferenceBoIdeal.sig) → Buf (Elt Ideal) ℓ) (g : Dev Cert.ReferenceBoIdeal.nD → PrngReg), Pre_ReferenceBoIdeal m →
    θ_run (Cert.ReferenceBoIdeal.defs (F := Ideal)) (onTc (τ := Cert.ReferenceBoIdeal.τ) (Cert.ReferenceBoIdeal.main (F := Ideal))) ⟨m, fun _ => 0, g⟩ (fun r => (∀ c : Dev Cert.ReferenceBoIdeal.nD,
      r.2.mem ((c.tc : Thread Cert.ReferenceBoIdeal.nD Cert.ReferenceBoIdeal.τ).loc Cert.ReferenceBoIdeal.main_arg0) = m ((c.tc : Thread Cert.ReferenceBoIdeal.nD Cert.ReferenceBoIdeal.τ).loc Cert.ReferenceBoIdeal.main_arg0)
      ∧ r.2.mem ((c.tc : Thread Cert.ReferenceBoIdeal.nD Cert.ReferenceBoIdeal.τ).loc Cert.ReferenceBoIdeal.main_arg1) = m ((c.tc : Thread Cert.ReferenceBoIdeal.nD Cert.ReferenceBoIdeal.τ).loc Cert.ReferenceBoIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelPro [hKernelPro : Cert.KernelPro.Facts] : Prop :=
  ∀ (m : (ℓ : Loc Cert.KernelPro.nD Cert.KernelPro.τ Cert.KernelPro.sig) → Buf (Elt Bits) ℓ) (g : Dev Cert.KernelPro.nD → PrngReg), Pre_KernelPro m →
    θ_run (Cert.KernelPro.defs (F := Bits)) (onTc (τ := Cert.KernelPro.τ) (Cert.KernelPro.main (F := Bits))) ⟨m, fun _ => 0, g⟩ (fun r => (∀ c : Dev Cert.KernelPro.nD,
      r.2.mem ((c.tc : Thread Cert.KernelPro.nD Cert.KernelPro.τ).loc Cert.KernelPro.main_arg0) = m ((c.tc : Thread Cert.KernelPro.nD Cert.KernelPro.τ).loc Cert.KernelPro.main_arg0)
      ∧ r.2.mem ((c.tc : Thread Cert.KernelPro.nD Cert.KernelPro.τ).loc Cert.KernelPro.main_arg1) = m ((c.tc : Thread Cert.KernelPro.nD Cert.KernelPro.τ).loc Cert.KernelPro.main_arg1))
      ∧ r.2.sem = fun _ => 0)

def quiescent_KernelProIdeal [hKernelProIdeal : Cert.KernelProIdeal.Facts] : Prop :=
  ∀ (m : (ℓ : Loc Cert.KernelProIdeal.nD Cert.KernelProIdeal.τ Cert.KernelProIdeal.sig) → Buf (Elt Ideal) ℓ) (g : Dev Cert.KernelProIdeal.nD → PrngReg), Pre_KernelProIdeal m →
    θ_run (Cert.KernelProIdeal.defs (F := Ideal)) (onTc (τ := Cert.KernelProIdeal.τ) (Cert.KernelProIdeal.main (F := Ideal))) ⟨m, fun _ => 0, g⟩ (fun r => (∀ c : Dev Cert.KernelProIdeal.nD,
      r.2.mem ((c.tc : Thread Cert.KernelProIdeal.nD Cert.KernelProIdeal.τ).loc Cert.KernelProIdeal.main_arg0) = m ((c.tc : Thread Cert.KernelProIdeal.nD Cert.KernelProIdeal.τ).loc Cert.KernelProIdeal.main_arg0)
      ∧ r.2.mem ((c.tc : Thread Cert.KernelProIdeal.nD Cert.KernelProIdeal.τ).loc Cert.KernelProIdeal.main_arg1) = m ((c.tc : Thread Cert.KernelProIdeal.nD Cert.KernelProIdeal.τ).loc Cert.KernelProIdeal.main_arg1))
      ∧ r.2.sem = fun _ => 0)

def quiescent_ReferenceProIdeal [hReferenceProIdeal : Cert.ReferenceProIdeal.Facts] : Prop :=
  ∀ (m : (ℓ : Loc Cert.ReferenceProIdeal.nD Cert.ReferenceProIdeal.τ Cert.ReferenceProIdeal.sig) → Buf (Elt Ideal) ℓ) (g : Dev Cert.ReferenceProIdeal.nD → PrngReg), Pre_ReferenceProIdeal m →
    θ_run (Cert.ReferenceProIdeal.defs (F := Ideal)) (onTc (τ := Cert.ReferenceProIdeal.τ) (Cert.ReferenceProIdeal.main (F := Ideal))) ⟨m, fun _ => 0, g⟩ (fun r => (∀ c : Dev Cert.ReferenceProIdeal.nD,
      r.2.mem ((c.tc : Thread Cert.ReferenceProIdeal.nD Cert.ReferenceProIdeal.τ).loc Cert.ReferenceProIdeal.main_arg0) = m ((c.tc : Thread Cert.ReferenceProIdeal.nD Cert.ReferenceProIdeal.τ).loc Cert.ReferenceProIdeal.main_arg0)
      ∧ r.2.mem ((c.tc : Thread Cert.ReferenceProIdeal.nD Cert.ReferenceProIdeal.τ).loc Cert.ReferenceProIdeal.main_arg1) = m ((c.tc : Thread Cert.ReferenceProIdeal.nD Cert.ReferenceProIdeal.τ).loc Cert.ReferenceProIdeal.main_arg1))
      ∧ r.2.sem = fun _ => 0)

def quiescent_KernelMean [hKernelMean : Cert.KernelMean.Facts] : Prop :=
  ∀ (m : (ℓ : Loc Cert.KernelMean.nD Cert.KernelMean.τ Cert.KernelMean.sig) → Buf (Elt Bits) ℓ) (g : Dev Cert.KernelMean.nD → PrngReg), Pre_KernelMean m →
    θ_run (Cert.KernelMean.defs (F := Bits)) (onTc (τ := Cert.KernelMean.τ) (Cert.KernelMean.main (F := Bits))) ⟨m, fun _ => 0, g⟩ (fun r => (∀ c : Dev Cert.KernelMean.nD,
      r.2.mem ((c.tc : Thread Cert.KernelMean.nD Cert.KernelMean.τ).loc Cert.KernelMean.main_arg0) = m ((c.tc : Thread Cert.KernelMean.nD Cert.KernelMean.τ).loc Cert.KernelMean.main_arg0))
      ∧ r.2.sem = fun _ => 0)

def quiescent_KernelMeanIdeal [hKernelMeanIdeal : Cert.KernelMeanIdeal.Facts] : Prop :=
  ∀ (m : (ℓ : Loc Cert.KernelMeanIdeal.nD Cert.KernelMeanIdeal.τ Cert.KernelMeanIdeal.sig) → Buf (Elt Ideal) ℓ) (g : Dev Cert.KernelMeanIdeal.nD → PrngReg), Pre_KernelMeanIdeal m →
    θ_run (Cert.KernelMeanIdeal.defs (F := Ideal)) (onTc (τ := Cert.KernelMeanIdeal.τ) (Cert.KernelMeanIdeal.main (F := Ideal))) ⟨m, fun _ => 0, g⟩ (fun r => (∀ c : Dev Cert.KernelMeanIdeal.nD,
      r.2.mem ((c.tc : Thread Cert.KernelMeanIdeal.nD Cert.KernelMeanIdeal.τ).loc Cert.KernelMeanIdeal.main_arg0) = m ((c.tc : Thread Cert.KernelMeanIdeal.nD Cert.KernelMeanIdeal.τ).loc Cert.KernelMeanIdeal.main_arg0))
      ∧ r.2.sem = fun _ => 0)

def quiescent_ReferenceMeanIdeal [hReferenceMeanIdeal : Cert.ReferenceMeanIdeal.Facts] : Prop :=
  ∀ (m : (ℓ : Loc Cert.ReferenceMeanIdeal.nD Cert.ReferenceMeanIdeal.τ Cert.ReferenceMeanIdeal.sig) → Buf (Elt Ideal) ℓ) (g : Dev Cert.ReferenceMeanIdeal.nD → PrngReg), Pre_ReferenceMeanIdeal m →
    θ_run (Cert.ReferenceMeanIdeal.defs (F := Ideal)) (onTc (τ := Cert.ReferenceMeanIdeal.τ) (Cert.ReferenceMeanIdeal.main (F := Ideal))) ⟨m, fun _ => 0, g⟩ (fun r => (∀ c : Dev Cert.ReferenceMeanIdeal.nD,
      r.2.mem ((c.tc : Thread Cert.ReferenceMeanIdeal.nD Cert.ReferenceMeanIdeal.τ).loc Cert.ReferenceMeanIdeal.main_arg0) = m ((c.tc : Thread Cert.ReferenceMeanIdeal.nD Cert.ReferenceMeanIdeal.τ).loc Cert.ReferenceMeanIdeal.main_arg0))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def preserves_Kernel_KernelIdeal : Prop :=
  IdealRules.named_const.Statement Cert.KernelIdeal.κ "mask" .f32 0x7149F2CA#32 ⊤
  ∧ IdealRules.named_const.Statement Cert.KernelIdeal.κ "log2e_inv_sqrt_e" .f32 0x3E0293EE#32 (((Real.log 2)⁻¹ * (Real.sqrt 128)⁻¹ : ℝ) : EReal)
  ∧ IdealRules.named_const.Statement Cert.KernelIdeal.κ "inv_sqrt_e" .f32 0x3DB504F3#32 (((Real.sqrt 128)⁻¹ : ℝ) : EReal)
  ∧ IdealRules.named_const.Statement Cert.KernelIdeal.κ "slope2" .f32 0x40B504F3#32 ((Real.sqrt 32 : ℝ) : EReal)
  ∧ IdealRules.named_const.Statement Cert.KernelIdeal.κ "slope4" .f32 0x403504F3#32 ((Real.sqrt 8 : ℝ) : EReal)
  ∧ IdealRules.named_const.Statement Cert.KernelIdeal.κ "slope6" .f32 0x3FB504F3#32 ((Real.sqrt 2 : ℝ) : EReal)
  ∧ IdealRules.named_const.Statement Cert.KernelIdeal.κ "slope8" .f32 0x3F3504F3#32 ((Real.sqrt (1 / 2) : ℝ) : EReal)
  ∧ IdealRules.named_const.Statement Cert.KernelIdeal.κ "slope10" .f32 0x3EB504F3#32 ((Real.sqrt (1 / 8) : ℝ) : EReal)
  ∧ IdealRules.named_const.Statement Cert.KernelIdeal.κ "slope12" .f32 0x3E3504F3#32 ((Real.sqrt (1 / 32) : ℝ) : EReal)
  ∧ IdealRules.named_const.Statement Cert.KernelIdeal.κ "slope16" .f32 0x3D3504F3#32 ((Real.sqrt (1 / 512) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelQkv1_KernelQkv1Ideal : Prop :=
  True

def algebraic_KernelQkv1Ideal_ReferenceQkv1Ideal [hKernelQkv1Ideal : Cert.KernelQkv1Ideal.Facts] [hReferenceQkv1Ideal : Cert.ReferenceQkv1Ideal.Facts] : Prop :=
  ∀ (m : (ℓ : Loc Cert.KernelQkv1Ideal.nD Cert.KernelQkv1Ideal.τ Cert.KernelQkv1Ideal.sig) → Buf (Elt Ideal) ℓ) (g : Dev Cert.KernelQkv1Ideal.nD → PrngReg)
    (m' : (ℓ : Loc Cert.ReferenceQkv1Ideal.nD Cert.ReferenceQkv1Ideal.τ Cert.ReferenceQkv1Ideal.sig) → Buf (Elt Ideal) ℓ) (g' : Dev Cert.ReferenceQkv1Ideal.nD → PrngReg), Pre_KernelQkv1Ideal m →
    (∀ c : Dev Cert.KernelQkv1Ideal.nD,
      m' ((c.tc : Thread Cert.ReferenceQkv1Ideal.nD Cert.ReferenceQkv1Ideal.τ).loc Cert.ReferenceQkv1Ideal.main_arg0) = m ((c.tc : Thread Cert.KernelQkv1Ideal.nD Cert.KernelQkv1Ideal.τ).loc Cert.KernelQkv1Ideal.main_arg0)
      ∧ m' ((c.tc : Thread Cert.ReferenceQkv1Ideal.nD Cert.ReferenceQkv1Ideal.τ).loc Cert.ReferenceQkv1Ideal.main_arg1) = m ((c.tc : Thread Cert.KernelQkv1Ideal.nD Cert.KernelQkv1Ideal.τ).loc Cert.KernelQkv1Ideal.main_arg1)) →
    ∃ (v0 : (c : Dev Cert.KernelQkv1Ideal.nD) → Buf (Elt Ideal) ((c.tc : Thread Cert.KernelQkv1Ideal.nD Cert.KernelQkv1Ideal.τ).loc Cert.KernelQkv1Ideal.main_v0)),
      θ_run (Cert.KernelQkv1Ideal.defs (F := Ideal)) (onTc (τ := Cert.KernelQkv1Ideal.τ) (Cert.KernelQkv1Ideal.main (F := Ideal))) ⟨m, fun _ => 0, g⟩ (fun r => ∀ c : Dev Cert.KernelQkv1Ideal.nD,
          r.2.mem ((c.tc : Thread Cert.KernelQkv1Ideal.nD Cert.KernelQkv1Ideal.τ).loc Cert.KernelQkv1Ideal.main_v0) = v0 c
          ∧ r.2.mem ((c.tc : Thread Cert.KernelQkv1Ideal.nD Cert.KernelQkv1Ideal.τ).loc Cert.KernelQkv1Ideal.main_arg0) = m ((c.tc : Thread Cert.KernelQkv1Ideal.nD Cert.KernelQkv1Ideal.τ).loc Cert.KernelQkv1Ideal.main_arg0)
          ∧ r.2.mem ((c.tc : Thread Cert.KernelQkv1Ideal.nD Cert.KernelQkv1Ideal.τ).loc Cert.KernelQkv1Ideal.main_arg1) = m ((c.tc : Thread Cert.KernelQkv1Ideal.nD Cert.KernelQkv1Ideal.τ).loc Cert.KernelQkv1Ideal.main_arg1))
      ∧ θ_run (Cert.ReferenceQkv1Ideal.defs (F := Ideal)) (onTc (τ := Cert.ReferenceQkv1Ideal.τ) (Cert.ReferenceQkv1Ideal.main (F := Ideal))) ⟨m', fun _ => 0, g'⟩ (fun r => ∀ c : Dev Cert.ReferenceQkv1Ideal.nD,
          r.2.mem ((c.tc : Thread Cert.ReferenceQkv1Ideal.nD Cert.ReferenceQkv1Ideal.τ).loc Cert.ReferenceQkv1Ideal.main_v10) = v0 c
          ∧ r.2.mem ((c.tc : Thread Cert.ReferenceQkv1Ideal.nD Cert.ReferenceQkv1Ideal.τ).loc Cert.ReferenceQkv1Ideal.main_arg0) = m' ((c.tc : Thread Cert.ReferenceQkv1Ideal.nD Cert.ReferenceQkv1Ideal.τ).loc Cert.ReferenceQkv1Ideal.main_arg0)
          ∧ r.2.mem ((c.tc : Thread Cert.ReferenceQkv1Ideal.nD Cert.ReferenceQkv1Ideal.τ).loc Cert.ReferenceQkv1Ideal.main_arg1) = m' ((c.tc : Thread Cert.ReferenceQkv1Ideal.nD Cert.ReferenceQkv1Ideal.τ).loc Cert.ReferenceQkv1Ideal.main_arg1))

def preserves_KernelQkv4_KernelQkv4Ideal : Prop :=
  True

def algebraic_KernelQkv4Ideal_ReferenceQkv4Ideal [hKernelQkv4Ideal : Cert.KernelQkv4Ideal.Facts] [hReferenceQkv4Ideal : Cert.ReferenceQkv4Ideal.Facts] : Prop :=
  ∀ (m : (ℓ : Loc Cert.KernelQkv4Ideal.nD Cert.KernelQkv4Ideal.τ Cert.KernelQkv4Ideal.sig) → Buf (Elt Ideal) ℓ) (g : Dev Cert.KernelQkv4Ideal.nD → PrngReg)
    (m' : (ℓ : Loc Cert.ReferenceQkv4Ideal.nD Cert.ReferenceQkv4Ideal.τ Cert.ReferenceQkv4Ideal.sig) → Buf (Elt Ideal) ℓ) (g' : Dev Cert.ReferenceQkv4Ideal.nD → PrngReg), Pre_KernelQkv4Ideal m →
    (∀ c : Dev Cert.KernelQkv4Ideal.nD,
      m' ((c.tc : Thread Cert.ReferenceQkv4Ideal.nD Cert.ReferenceQkv4Ideal.τ).loc Cert.ReferenceQkv4Ideal.main_arg0) = m ((c.tc : Thread Cert.KernelQkv4Ideal.nD Cert.KernelQkv4Ideal.τ).loc Cert.KernelQkv4Ideal.main_arg0)
      ∧ m' ((c.tc : Thread Cert.ReferenceQkv4Ideal.nD Cert.ReferenceQkv4Ideal.τ).loc Cert.ReferenceQkv4Ideal.main_arg1) = m ((c.tc : Thread Cert.KernelQkv4Ideal.nD Cert.KernelQkv4Ideal.τ).loc Cert.KernelQkv4Ideal.main_arg1)) →
    ∃ (v0 : (c : Dev Cert.KernelQkv4Ideal.nD) → Buf (Elt Ideal) ((c.tc : Thread Cert.KernelQkv4Ideal.nD Cert.KernelQkv4Ideal.τ).loc Cert.KernelQkv4Ideal.main_v1)),
      θ_run (Cert.KernelQkv4Ideal.defs (F := Ideal)) (onTc (τ := Cert.KernelQkv4Ideal.τ) (Cert.KernelQkv4Ideal.main (F := Ideal))) ⟨m, fun _ => 0, g⟩ (fun r => ∀ c : Dev Cert.KernelQkv4Ideal.nD,
          r.2.mem ((c.tc : Thread Cert.KernelQkv4Ideal.nD Cert.KernelQkv4Ideal.τ).loc Cert.KernelQkv4Ideal.main_v1) = v0 c
          ∧ r.2.mem ((c.tc : Thread Cert.KernelQkv4Ideal.nD Cert.KernelQkv4Ideal.τ).loc Cert.KernelQkv4Ideal.main_arg0) = m ((c.tc : Thread Cert.KernelQkv4Ideal.nD Cert.KernelQkv4Ideal.τ).loc Cert.KernelQkv4Ideal.main_arg0)
          ∧ r.2.mem ((c.tc : Thread Cert.KernelQkv4Ideal.nD Cert.KernelQkv4Ideal.τ).loc Cert.KernelQkv4Ideal.main_arg1) = m ((c.tc : Thread Cert.KernelQkv4Ideal.nD Cert.KernelQkv4Ideal.τ).loc Cert.KernelQkv4Ideal.main_arg1))
      ∧ θ_run (Cert.ReferenceQkv4Ideal.defs (F := Ideal)) (onTc (τ := Cert.ReferenceQkv4Ideal.τ) (Cert.ReferenceQkv4Ideal.main (F := Ideal))) ⟨m', fun _ => 0, g'⟩ (fun r => ∀ c : Dev Cert.ReferenceQkv4Ideal.nD,
          r.2.mem ((c.tc : Thread Cert.ReferenceQkv4Ideal.nD Cert.ReferenceQkv4Ideal.τ).loc Cert.ReferenceQkv4Ideal.main_v10) = v0 c
          ∧ r.2.mem ((c.tc : Thread Cert.ReferenceQkv4Ideal.nD Cert.ReferenceQkv4Ideal.τ).loc Cert.ReferenceQkv4Ideal.main_arg0) = m' ((c.tc : Thread Cert.ReferenceQkv4Ideal.nD Cert.ReferenceQkv4Ideal.τ).loc Cert.ReferenceQkv4Ideal.main_arg0)
          ∧ r.2.mem ((c.tc : Thread Cert.ReferenceQkv4Ideal.nD Cert.ReferenceQkv4Ideal.τ).loc Cert.ReferenceQkv4Ideal.main_arg1) = m' ((c.tc : Thread Cert.ReferenceQkv4Ideal.nD Cert.ReferenceQkv4Ideal.τ).loc Cert.ReferenceQkv4Ideal.main_arg1))

def preserves_KernelQkv16_KernelQkv16Ideal : Prop :=
  True

def algebraic_KernelQkv16Ideal_ReferenceQkv16Ideal [hKernelQkv16Ideal : Cert.KernelQkv16Ideal.Facts] [hReferenceQkv16Ideal : Cert.ReferenceQkv16Ideal.Facts] : Prop :=
  ∀ (m : (ℓ : Loc Cert.KernelQkv16Ideal.nD Cert.KernelQkv16Ideal.τ Cert.KernelQkv16Ideal.sig) → Buf (Elt Ideal) ℓ) (g : Dev Cert.KernelQkv16Ideal.nD → PrngReg)
    (m' : (ℓ : Loc Cert.ReferenceQkv16Ideal.nD Cert.ReferenceQkv16Ideal.τ Cert.ReferenceQkv16Ideal.sig) → Buf (Elt Ideal) ℓ) (g' : Dev Cert.ReferenceQkv16Ideal.nD → PrngReg), Pre_KernelQkv16Ideal m →
    (∀ c : Dev Cert.KernelQkv16Ideal.nD,
      m' ((c.tc : Thread Cert.ReferenceQkv16Ideal.nD Cert.ReferenceQkv16Ideal.τ).loc Cert.ReferenceQkv16Ideal.main_arg0) = m ((c.tc : Thread Cert.KernelQkv16Ideal.nD Cert.KernelQkv16Ideal.τ).loc Cert.KernelQkv16Ideal.main_arg0)
      ∧ m' ((c.tc : Thread Cert.ReferenceQkv16Ideal.nD Cert.ReferenceQkv16Ideal.τ).loc Cert.ReferenceQkv16Ideal.main_arg1) = m ((c.tc : Thread Cert.KernelQkv16Ideal.nD Cert.KernelQkv16Ideal.τ).loc Cert.KernelQkv16Ideal.main_arg1)) →
    ∃ (v0 : (c : Dev Cert.KernelQkv16Ideal.nD) → Buf (Elt Ideal) ((c.tc : Thread Cert.KernelQkv16Ideal.nD Cert.KernelQkv16Ideal.τ).loc Cert.KernelQkv16Ideal.main_v1)),
      θ_run (Cert.KernelQkv16Ideal.defs (F := Ideal)) (onTc (τ := Cert.KernelQkv16Ideal.τ) (Cert.KernelQkv16Ideal.main (F := Ideal))) ⟨m, fun _ => 0, g⟩ (fun r => ∀ c : Dev Cert.KernelQkv16Ideal.nD,
          r.2.mem ((c.tc : Thread Cert.KernelQkv16Ideal.nD Cert.KernelQkv16Ideal.τ).loc Cert.KernelQkv16Ideal.main_v1) = v0 c
          ∧ r.2.mem ((c.tc : Thread Cert.KernelQkv16Ideal.nD Cert.KernelQkv16Ideal.τ).loc Cert.KernelQkv16Ideal.main_arg0) = m ((c.tc : Thread Cert.KernelQkv16Ideal.nD Cert.KernelQkv16Ideal.τ).loc Cert.KernelQkv16Ideal.main_arg0)
          ∧ r.2.mem ((c.tc : Thread Cert.KernelQkv16Ideal.nD Cert.KernelQkv16Ideal.τ).loc Cert.KernelQkv16Ideal.main_arg1) = m ((c.tc : Thread Cert.KernelQkv16Ideal.nD Cert.KernelQkv16Ideal.τ).loc Cert.KernelQkv16Ideal.main_arg1))
      ∧ θ_run (Cert.ReferenceQkv16Ideal.defs (F := Ideal)) (onTc (τ := Cert.ReferenceQkv16Ideal.τ) (Cert.ReferenceQkv16Ideal.main (F := Ideal))) ⟨m', fun _ => 0, g'⟩ (fun r => ∀ c : Dev Cert.ReferenceQkv16Ideal.nD,
          r.2.mem ((c.tc : Thread Cert.ReferenceQkv16Ideal.nD Cert.ReferenceQkv16Ideal.τ).loc Cert.ReferenceQkv16Ideal.main_v10) = v0 c
          ∧ r.2.mem ((c.tc : Thread Cert.ReferenceQkv16Ideal.nD Cert.ReferenceQkv16Ideal.τ).loc Cert.ReferenceQkv16Ideal.main_arg0) = m' ((c.tc : Thread Cert.ReferenceQkv16Ideal.nD Cert.ReferenceQkv16Ideal.τ).loc Cert.ReferenceQkv16Ideal.main_arg0)
          ∧ r.2.mem ((c.tc : Thread Cert.ReferenceQkv16Ideal.nD Cert.ReferenceQkv16Ideal.τ).loc Cert.ReferenceQkv16Ideal.main_arg1) = m' ((c.tc : Thread Cert.ReferenceQkv16Ideal.nD Cert.ReferenceQkv16Ideal.τ).loc Cert.ReferenceQkv16Ideal.main_arg1))

def preserves_KernelAo_KernelAoIdeal : Prop :=
  True

def algebraic_KernelAoIdeal_ReferenceAoIdeal [hKernelAoIdeal : Cert.KernelAoIdeal.Facts] [hReferenceAoIdeal : Cert.ReferenceAoIdeal.Facts] : Prop :=
  ∀ (m : (ℓ : Loc Cert.KernelAoIdeal.nD Cert.KernelAoIdeal.τ Cert.KernelAoIdeal.sig) → Buf (Elt Ideal) ℓ) (g : Dev Cert.KernelAoIdeal.nD → PrngReg)
    (m' : (ℓ : Loc Cert.ReferenceAoIdeal.nD Cert.ReferenceAoIdeal.τ Cert.ReferenceAoIdeal.sig) → Buf (Elt Ideal) ℓ) (g' : Dev Cert.ReferenceAoIdeal.nD → PrngReg), Pre_KernelAoIdeal m →
    (∀ c : Dev Cert.KernelAoIdeal.nD,
      m' ((c.tc : Thread Cert.ReferenceAoIdeal.nD Cert.ReferenceAoIdeal.τ).loc Cert.ReferenceAoIdeal.main_arg0) = m ((c.tc : Thread Cert.KernelAoIdeal.nD Cert.KernelAoIdeal.τ).loc Cert.KernelAoIdeal.main_arg0)
      ∧ m' ((c.tc : Thread Cert.ReferenceAoIdeal.nD Cert.ReferenceAoIdeal.τ).loc Cert.ReferenceAoIdeal.main_arg1) = m ((c.tc : Thread Cert.KernelAoIdeal.nD Cert.KernelAoIdeal.τ).loc Cert.KernelAoIdeal.main_arg1)) →
    ∃ (v0 : (c : Dev Cert.KernelAoIdeal.nD) → Buf (Elt Ideal) ((c.tc : Thread Cert.KernelAoIdeal.nD Cert.KernelAoIdeal.τ).loc Cert.KernelAoIdeal.main_v0)),
      θ_run (Cert.KernelAoIdeal.defs (F := Ideal)) (onTc (τ := Cert.KernelAoIdeal.τ) (Cert.KernelAoIdeal.main (F := Ideal))) ⟨m, fun _ => 0, g⟩ (fun r => ∀ c : Dev Cert.KernelAoIdeal.nD,
          r.2.mem ((c.tc : Thread Cert.KernelAoIdeal.nD Cert.KernelAoIdeal.τ).loc Cert.KernelAoIdeal.main_v0) = v0 c
          ∧ r.2.mem ((c.tc : Thread Cert.KernelAoIdeal.nD Cert.KernelAoIdeal.τ).loc Cert.KernelAoIdeal.main_arg0) = m ((c.tc : Thread Cert.KernelAoIdeal.nD Cert.KernelAoIdeal.τ).loc Cert.KernelAoIdeal.main_arg0)
          ∧ r.2.mem ((c.tc : Thread Cert.KernelAoIdeal.nD Cert.KernelAoIdeal.τ).loc Cert.KernelAoIdeal.main_arg1) = m ((c.tc : Thread Cert.KernelAoIdeal.nD Cert.KernelAoIdeal.τ).loc Cert.KernelAoIdeal.main_arg1))
      ∧ θ_run (Cert.ReferenceAoIdeal.defs (F := Ideal)) (onTc (τ := Cert.ReferenceAoIdeal.τ) (Cert.ReferenceAoIdeal.main (F := Ideal))) ⟨m', fun _ => 0, g'⟩ (fun r => ∀ c : Dev Cert.ReferenceAoIdeal.nD,
          r.2.mem ((c.tc : Thread Cert.ReferenceAoIdeal.nD Cert.ReferenceAoIdeal.τ).loc Cert.ReferenceAoIdeal.main_v4) = v0 c
          ∧ r.2.mem ((c.tc : Thread Cert.ReferenceAoIdeal.nD Cert.ReferenceAoIdeal.τ).loc Cert.ReferenceAoIdeal.main_arg0) = m' ((c.tc : Thread Cert.ReferenceAoIdeal.nD Cert.ReferenceAoIdeal.τ).loc Cert.ReferenceAoIdeal.main_arg0)
          ∧ r.2.mem ((c.tc : Thread Cert.ReferenceAoIdeal.nD Cert.ReferenceAoIdeal.τ).loc Cert.ReferenceAoIdeal.main_arg1) = m' ((c.tc : Thread Cert.ReferenceAoIdeal.nD Cert.ReferenceAoIdeal.τ).loc Cert.ReferenceAoIdeal.main_arg1))

def preserves_KernelBq_KernelBqIdeal : Prop :=
  True

def algebraic_KernelBqIdeal_ReferenceBqIdeal [hKernelBqIdeal : Cert.KernelBqIdeal.Facts] [hReferenceBqIdeal : Cert.ReferenceBqIdeal.Facts] : Prop :=
  ∀ (m : (ℓ : Loc Cert.KernelBqIdeal.nD Cert.KernelBqIdeal.τ Cert.KernelBqIdeal.sig) → Buf (Elt Ideal) ℓ) (g : Dev Cert.KernelBqIdeal.nD → PrngReg)
    (m' : (ℓ : Loc Cert.ReferenceBqIdeal.nD Cert.ReferenceBqIdeal.τ Cert.ReferenceBqIdeal.sig) → Buf (Elt Ideal) ℓ) (g' : Dev Cert.ReferenceBqIdeal.nD → PrngReg), Pre_KernelBqIdeal m →
    (∀ c : Dev Cert.KernelBqIdeal.nD,
      m' ((c.tc : Thread Cert.ReferenceBqIdeal.nD Cert.ReferenceBqIdeal.τ).loc Cert.ReferenceBqIdeal.main_arg0) = m ((c.tc : Thread Cert.KernelBqIdeal.nD Cert.KernelBqIdeal.τ).loc Cert.KernelBqIdeal.main_arg0)
      ∧ m' ((c.tc : Thread Cert.ReferenceBqIdeal.nD Cert.ReferenceBqIdeal.τ).loc Cert.ReferenceBqIdeal.main_arg1) = m ((c.tc : Thread Cert.KernelBqIdeal.nD Cert.KernelBqIdeal.τ).loc Cert.KernelBqIdeal.main_arg1)) →
    ∃ (v0 : (c : Dev Cert.KernelBqIdeal.nD) → Buf (Elt Ideal) ((c.tc : Thread Cert.KernelBqIdeal.nD Cert.KernelBqIdeal.τ).loc Cert.KernelBqIdeal.main_v0)),
      θ_run (Cert.KernelBqIdeal.defs (F := Ideal)) (onTc (τ := Cert.KernelBqIdeal.τ) (Cert.KernelBqIdeal.main (F := Ideal))) ⟨m, fun _ => 0, g⟩ (fun r => ∀ c : Dev Cert.KernelBqIdeal.nD,
          r.2.mem ((c.tc : Thread Cert.KernelBqIdeal.nD Cert.KernelBqIdeal.τ).loc Cert.KernelBqIdeal.main_v0) = v0 c
          ∧ r.2.mem ((c.tc : Thread Cert.KernelBqIdeal.nD Cert.KernelBqIdeal.τ).loc Cert.KernelBqIdeal.main_arg0) = m ((c.tc : Thread Cert.KernelBqIdeal.nD Cert.KernelBqIdeal.τ).loc Cert.KernelBqIdeal.main_arg0)
          ∧ r.2.mem ((c.tc : Thread Cert.KernelBqIdeal.nD Cert.KernelBqIdeal.τ).loc Cert.KernelBqIdeal.main_arg1) = m ((c.tc : Thread Cert.KernelBqIdeal.nD Cert.KernelBqIdeal.τ).loc Cert.KernelBqIdeal.main_arg1))
      ∧ θ_run (Cert.ReferenceBqIdeal.defs (F := Ideal)) (onTc (τ := Cert.ReferenceBqIdeal.τ) (Cert.ReferenceBqIdeal.main (F := Ideal))) ⟨m', fun _ => 0, g'⟩ (fun r => ∀ c : Dev Cert.ReferenceBqIdeal.nD,
          r.2.mem ((c.tc : Thread Cert.ReferenceBqIdeal.nD Cert.ReferenceBqIdeal.τ).loc Cert.ReferenceBqIdeal.main_v3) = v0 c
          ∧ r.2.mem ((c.tc : Thread Cert.ReferenceBqIdeal.nD Cert.ReferenceBqIdeal.τ).loc Cert.ReferenceBqIdeal.main_arg0) = m' ((c.tc : Thread Cert.ReferenceBqIdeal.nD Cert.ReferenceBqIdeal.τ).loc Cert.ReferenceBqIdeal.main_arg0)
          ∧ r.2.mem ((c.tc : Thread Cert.ReferenceBqIdeal.nD Cert.ReferenceBqIdeal.τ).loc Cert.ReferenceBqIdeal.main_arg1) = m' ((c.tc : Thread Cert.ReferenceBqIdeal.nD Cert.ReferenceBqIdeal.τ).loc Cert.ReferenceBqIdeal.main_arg1))

def preserves_KernelBo_KernelBoIdeal : Prop :=
  True

def algebraic_KernelBoIdeal_ReferenceBoIdeal [hKernelBoIdeal : Cert.KernelBoIdeal.Facts] [hReferenceBoIdeal : Cert.ReferenceBoIdeal.Facts] : Prop :=
  ∀ (m : (ℓ : Loc Cert.KernelBoIdeal.nD Cert.KernelBoIdeal.τ Cert.KernelBoIdeal.sig) → Buf (Elt Ideal) ℓ) (g : Dev Cert.KernelBoIdeal.nD → PrngReg)
    (m' : (ℓ : Loc Cert.ReferenceBoIdeal.nD Cert.ReferenceBoIdeal.τ Cert.ReferenceBoIdeal.sig) → Buf (Elt Ideal) ℓ) (g' : Dev Cert.ReferenceBoIdeal.nD → PrngReg), Pre_KernelBoIdeal m →
    (∀ c : Dev Cert.KernelBoIdeal.nD,
      m' ((c.tc : Thread Cert.ReferenceBoIdeal.nD Cert.ReferenceBoIdeal.τ).loc Cert.ReferenceBoIdeal.main_arg0) = m ((c.tc : Thread Cert.KernelBoIdeal.nD Cert.KernelBoIdeal.τ).loc Cert.KernelBoIdeal.main_arg0)
      ∧ m' ((c.tc : Thread Cert.ReferenceBoIdeal.nD Cert.ReferenceBoIdeal.τ).loc Cert.ReferenceBoIdeal.main_arg1) = m ((c.tc : Thread Cert.KernelBoIdeal.nD Cert.KernelBoIdeal.τ).loc Cert.KernelBoIdeal.main_arg1)) →
    ∃ (v0 : (c : Dev Cert.KernelBoIdeal.nD) → Buf (Elt Ideal) ((c.tc : Thread Cert.KernelBoIdeal.nD Cert.KernelBoIdeal.τ).loc Cert.KernelBoIdeal.main_v0)),
      θ_run (Cert.KernelBoIdeal.defs (F := Ideal)) (onTc (τ := Cert.KernelBoIdeal.τ) (Cert.KernelBoIdeal.main (F := Ideal))) ⟨m, fun _ => 0, g⟩ (fun r => ∀ c : Dev Cert.KernelBoIdeal.nD,
          r.2.mem ((c.tc : Thread Cert.KernelBoIdeal.nD Cert.KernelBoIdeal.τ).loc Cert.KernelBoIdeal.main_v0) = v0 c
          ∧ r.2.mem ((c.tc : Thread Cert.KernelBoIdeal.nD Cert.KernelBoIdeal.τ).loc Cert.KernelBoIdeal.main_arg0) = m ((c.tc : Thread Cert.KernelBoIdeal.nD Cert.KernelBoIdeal.τ).loc Cert.KernelBoIdeal.main_arg0)
          ∧ r.2.mem ((c.tc : Thread Cert.KernelBoIdeal.nD Cert.KernelBoIdeal.τ).loc Cert.KernelBoIdeal.main_arg1) = m ((c.tc : Thread Cert.KernelBoIdeal.nD Cert.KernelBoIdeal.τ).loc Cert.KernelBoIdeal.main_arg1))
      ∧ θ_run (Cert.ReferenceBoIdeal.defs (F := Ideal)) (onTc (τ := Cert.ReferenceBoIdeal.τ) (Cert.ReferenceBoIdeal.main (F := Ideal))) ⟨m', fun _ => 0, g'⟩ (fun r => ∀ c : Dev Cert.ReferenceBoIdeal.nD,
          r.2.mem ((c.tc : Thread Cert.ReferenceBoIdeal.nD Cert.ReferenceBoIdeal.τ).loc Cert.ReferenceBoIdeal.main_v4) = v0 c
          ∧ r.2.mem ((c.tc : Thread Cert.ReferenceBoIdeal.nD Cert.ReferenceBoIdeal.τ).loc Cert.ReferenceBoIdeal.main_arg0) = m' ((c.tc : Thread Cert.ReferenceBoIdeal.nD Cert.ReferenceBoIdeal.τ).loc Cert.ReferenceBoIdeal.main_arg0)
          ∧ r.2.mem ((c.tc : Thread Cert.ReferenceBoIdeal.nD Cert.ReferenceBoIdeal.τ).loc Cert.ReferenceBoIdeal.main_arg1) = m' ((c.tc : Thread Cert.ReferenceBoIdeal.nD Cert.ReferenceBoIdeal.τ).loc Cert.ReferenceBoIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v1) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v1) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelPro_KernelProIdeal : Prop :=
  True

def algebraic_KernelProIdeal_ReferenceProIdeal [hKernelProIdeal : Cert.KernelProIdeal.Facts] [hReferenceProIdeal : Cert.ReferenceProIdeal.Facts] : Prop :=
  ∀ (m : (ℓ : Loc Cert.KernelProIdeal.nD Cert.KernelProIdeal.τ Cert.KernelProIdeal.sig) → Buf (Elt Ideal) ℓ) (g : Dev Cert.KernelProIdeal.nD → PrngReg)
    (m' : (ℓ : Loc Cert.ReferenceProIdeal.nD Cert.ReferenceProIdeal.τ Cert.ReferenceProIdeal.sig) → Buf (Elt Ideal) ℓ) (g' : Dev Cert.ReferenceProIdeal.nD → PrngReg), Pre_KernelProIdeal m →
    (∀ c : Dev Cert.KernelProIdeal.nD,
      m' ((c.tc : Thread Cert.ReferenceProIdeal.nD Cert.ReferenceProIdeal.τ).loc Cert.ReferenceProIdeal.main_arg0) = m ((c.tc : Thread Cert.KernelProIdeal.nD Cert.KernelProIdeal.τ).loc Cert.KernelProIdeal.main_arg0)
      ∧ m' ((c.tc : Thread Cert.ReferenceProIdeal.nD Cert.ReferenceProIdeal.τ).loc Cert.ReferenceProIdeal.main_arg1) = m ((c.tc : Thread Cert.KernelProIdeal.nD Cert.KernelProIdeal.τ).loc Cert.KernelProIdeal.main_arg1)) →
    ∃ (v0 : (c : Dev Cert.KernelProIdeal.nD) → Buf (Elt Ideal) ((c.tc : Thread Cert.KernelProIdeal.nD Cert.KernelProIdeal.τ).loc Cert.KernelProIdeal.main_v0)),
      θ_run (Cert.KernelProIdeal.defs (F := Ideal)) (onTc (τ := Cert.KernelProIdeal.τ) (Cert.KernelProIdeal.main (F := Ideal))) ⟨m, fun _ => 0, g⟩ (fun r => ∀ c : Dev Cert.KernelProIdeal.nD,
          r.2.mem ((c.tc : Thread Cert.KernelProIdeal.nD Cert.KernelProIdeal.τ).loc Cert.KernelProIdeal.main_v0) = v0 c
          ∧ r.2.mem ((c.tc : Thread Cert.KernelProIdeal.nD Cert.KernelProIdeal.τ).loc Cert.KernelProIdeal.main_arg0) = m ((c.tc : Thread Cert.KernelProIdeal.nD Cert.KernelProIdeal.τ).loc Cert.KernelProIdeal.main_arg0)
          ∧ r.2.mem ((c.tc : Thread Cert.KernelProIdeal.nD Cert.KernelProIdeal.τ).loc Cert.KernelProIdeal.main_arg1) = m ((c.tc : Thread Cert.KernelProIdeal.nD Cert.KernelProIdeal.τ).loc Cert.KernelProIdeal.main_arg1))
      ∧ θ_run (Cert.ReferenceProIdeal.defs (F := Ideal)) (onTc (τ := Cert.ReferenceProIdeal.τ) (Cert.ReferenceProIdeal.main (F := Ideal))) ⟨m', fun _ => 0, g'⟩ (fun r => ∀ c : Dev Cert.ReferenceProIdeal.nD,
          r.2.mem ((c.tc : Thread Cert.ReferenceProIdeal.nD Cert.ReferenceProIdeal.τ).loc Cert.ReferenceProIdeal.main_v12) = v0 c
          ∧ r.2.mem ((c.tc : Thread Cert.ReferenceProIdeal.nD Cert.ReferenceProIdeal.τ).loc Cert.ReferenceProIdeal.main_arg0) = m' ((c.tc : Thread Cert.ReferenceProIdeal.nD Cert.ReferenceProIdeal.τ).loc Cert.ReferenceProIdeal.main_arg0)
          ∧ r.2.mem ((c.tc : Thread Cert.ReferenceProIdeal.nD Cert.ReferenceProIdeal.τ).loc Cert.ReferenceProIdeal.main_arg1) = m' ((c.tc : Thread Cert.ReferenceProIdeal.nD Cert.ReferenceProIdeal.τ).loc Cert.ReferenceProIdeal.main_arg1))

def preserves_KernelMean_KernelMeanIdeal : Prop :=
  True

def algebraic_KernelMeanIdeal_ReferenceMeanIdeal [hKernelMeanIdeal : Cert.KernelMeanIdeal.Facts] [hReferenceMeanIdeal : Cert.ReferenceMeanIdeal.Facts] : Prop :=
  ∀ (m : (ℓ : Loc Cert.KernelMeanIdeal.nD Cert.KernelMeanIdeal.τ Cert.KernelMeanIdeal.sig) → Buf (Elt Ideal) ℓ) (g : Dev Cert.KernelMeanIdeal.nD → PrngReg)
    (m' : (ℓ : Loc Cert.ReferenceMeanIdeal.nD Cert.ReferenceMeanIdeal.τ Cert.ReferenceMeanIdeal.sig) → Buf (Elt Ideal) ℓ) (g' : Dev Cert.ReferenceMeanIdeal.nD → PrngReg), Pre_KernelMeanIdeal m →
    (∀ c : Dev Cert.KernelMeanIdeal.nD,
      m' ((c.tc : Thread Cert.ReferenceMeanIdeal.nD Cert.ReferenceMeanIdeal.τ).loc Cert.ReferenceMeanIdeal.main_arg0) = m ((c.tc : Thread Cert.KernelMeanIdeal.nD Cert.KernelMeanIdeal.τ).loc Cert.KernelMeanIdeal.main_arg0)) →
    ∃ (v0 : (c : Dev Cert.KernelMeanIdeal.nD) → Buf (Elt Ideal) ((c.tc : Thread Cert.KernelMeanIdeal.nD Cert.KernelMeanIdeal.τ).loc Cert.KernelMeanIdeal.main_v0)),
      θ_run (Cert.KernelMeanIdeal.defs (F := Ideal)) (onTc (τ := Cert.KernelMeanIdeal.τ) (Cert.KernelMeanIdeal.main (F := Ideal))) ⟨m, fun _ => 0, g⟩ (fun r => ∀ c : Dev Cert.KernelMeanIdeal.nD,
          r.2.mem ((c.tc : Thread Cert.KernelMeanIdeal.nD Cert.KernelMeanIdeal.τ).loc Cert.KernelMeanIdeal.main_v0) = v0 c
          ∧ r.2.mem ((c.tc : Thread Cert.KernelMeanIdeal.nD Cert.KernelMeanIdeal.τ).loc Cert.KernelMeanIdeal.main_arg0) = m ((c.tc : Thread Cert.KernelMeanIdeal.nD Cert.KernelMeanIdeal.τ).loc Cert.KernelMeanIdeal.main_arg0))
      ∧ θ_run (Cert.ReferenceMeanIdeal.defs (F := Ideal)) (onTc (τ := Cert.ReferenceMeanIdeal.τ) (Cert.ReferenceMeanIdeal.main (F := Ideal))) ⟨m', fun _ => 0, g'⟩ (fun r => ∀ c : Dev Cert.ReferenceMeanIdeal.nD,
          r.2.mem ((c.tc : Thread Cert.ReferenceMeanIdeal.nD Cert.ReferenceMeanIdeal.τ).loc Cert.ReferenceMeanIdeal.main_v4) = v0 c
          ∧ r.2.mem ((c.tc : Thread Cert.ReferenceMeanIdeal.nD Cert.ReferenceMeanIdeal.τ).loc Cert.ReferenceMeanIdeal.main_arg0) = m' ((c.tc : Thread Cert.ReferenceMeanIdeal.nD Cert.ReferenceMeanIdeal.τ).loc Cert.ReferenceMeanIdeal.main_arg0))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)) →
    ∃ (v0 : (c : Dev Cert.KernelLastIdeal.nD) → Buf (Elt Ideal) ((c.tc : Thread Cert.KernelLastIdeal.nD Cert.KernelLastIdeal.τ).loc Cert.KernelLastIdeal.main_v0)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v0) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v57) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v2)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v2) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v49) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v32) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def Claim : Prop :=
  ∃ (hKernel : Cert.Kernel.Facts) (hKernelIdeal : Cert.KernelIdeal.Facts) (hReferenceIdeal : Cert.ReferenceIdeal.Facts) (hKernelQkv1 : Cert.KernelQkv1.Facts) (hKernelQkv1Ideal : Cert.KernelQkv1Ideal.Facts) (hReferenceQkv1Ideal : Cert.ReferenceQkv1Ideal.Facts) (hKernelQkv4 : Cert.KernelQkv4.Facts) (hKernelQkv4Ideal : Cert.KernelQkv4Ideal.Facts) (hReferenceQkv4Ideal : Cert.ReferenceQkv4Ideal.Facts) (hKernelQkv16 : Cert.KernelQkv16.Facts) (hKernelQkv16Ideal : Cert.KernelQkv16Ideal.Facts) (hReferenceQkv16Ideal : Cert.ReferenceQkv16Ideal.Facts) (hKernelAo : Cert.KernelAo.Facts) (hKernelAoIdeal : Cert.KernelAoIdeal.Facts) (hReferenceAoIdeal : Cert.ReferenceAoIdeal.Facts) (hKernelBq : Cert.KernelBq.Facts) (hKernelBqIdeal : Cert.KernelBqIdeal.Facts) (hReferenceBqIdeal : Cert.ReferenceBqIdeal.Facts) (hKernelBo : Cert.KernelBo.Facts) (hKernelBoIdeal : Cert.KernelBoIdeal.Facts) (hReferenceBoIdeal : Cert.ReferenceBoIdeal.Facts) (hKernelKv : Cert.KernelKv.Facts) (hKernelKvIdeal : Cert.KernelKvIdeal.Facts) (hReferenceKvIdeal : Cert.ReferenceKvIdeal.Facts) (hKernelPro : Cert.KernelPro.Facts) (hKernelProIdeal : Cert.KernelProIdeal.Facts) (hReferenceProIdeal : Cert.ReferenceProIdeal.Facts) (hKernelMean : Cert.KernelMean.Facts) (hKernelMeanIdeal : Cert.KernelMeanIdeal.Facts) (hReferenceMeanIdeal : Cert.ReferenceMeanIdeal.Facts) (hKernelLast : Cert.KernelLast.Facts) (hKernelLastIdeal : Cert.KernelLastIdeal.Facts) (hReferenceLastIdeal : Cert.ReferenceLastIdeal.Facts) (hKernelMod : Cert.KernelMod.Facts) (hKernelModIdeal : Cert.KernelModIdeal.Facts) (hReferenceModIdeal : Cert.ReferenceModIdeal.Facts) (hKernelMix : Cert.KernelMix.Facts) (hKernelMixIdeal : Cert.KernelMixIdeal.Facts) (hReferenceMixIdeal : Cert.ReferenceMixIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelQkv1 (hKernelQkv1 := hKernelQkv1)
    ∧ quiescent_KernelQkv1Ideal (hKernelQkv1Ideal := hKernelQkv1Ideal)
    ∧ quiescent_ReferenceQkv1Ideal (hReferenceQkv1Ideal := hReferenceQkv1Ideal)
    ∧ quiescent_KernelQkv4 (hKernelQkv4 := hKernelQkv4)
    ∧ quiescent_KernelQkv4Ideal (hKernelQkv4Ideal := hKernelQkv4Ideal)
    ∧ quiescent_ReferenceQkv4Ideal (hReferenceQkv4Ideal := hReferenceQkv4Ideal)
    ∧ quiescent_KernelQkv16 (hKernelQkv16 := hKernelQkv16)
    ∧ quiescent_KernelQkv16Ideal (hKernelQkv16Ideal := hKernelQkv16Ideal)
    ∧ quiescent_ReferenceQkv16Ideal (hReferenceQkv16Ideal := hReferenceQkv16Ideal)
    ∧ quiescent_KernelAo (hKernelAo := hKernelAo)
    ∧ quiescent_KernelAoIdeal (hKernelAoIdeal := hKernelAoIdeal)
    ∧ quiescent_ReferenceAoIdeal (hReferenceAoIdeal := hReferenceAoIdeal)
    ∧ quiescent_KernelBq (hKernelBq := hKernelBq)
    ∧ quiescent_KernelBqIdeal (hKernelBqIdeal := hKernelBqIdeal)
    ∧ quiescent_ReferenceBqIdeal (hReferenceBqIdeal := hReferenceBqIdeal)
    ∧ quiescent_KernelBo (hKernelBo := hKernelBo)
    ∧ quiescent_KernelBoIdeal (hKernelBoIdeal := hKernelBoIdeal)
    ∧ quiescent_ReferenceBoIdeal (hReferenceBoIdeal := hReferenceBoIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelPro (hKernelPro := hKernelPro)
    ∧ quiescent_KernelProIdeal (hKernelProIdeal := hKernelProIdeal)
    ∧ quiescent_ReferenceProIdeal (hReferenceProIdeal := hReferenceProIdeal)
    ∧ quiescent_KernelMean (hKernelMean := hKernelMean)
    ∧ quiescent_KernelMeanIdeal (hKernelMeanIdeal := hKernelMeanIdeal)
    ∧ quiescent_ReferenceMeanIdeal (hReferenceMeanIdeal := hReferenceMeanIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelQkv1_KernelQkv1Ideal
    ∧ algebraic_KernelQkv1Ideal_ReferenceQkv1Ideal (hKernelQkv1Ideal := hKernelQkv1Ideal) (hReferenceQkv1Ideal := hReferenceQkv1Ideal)
    ∧ preserves_KernelQkv4_KernelQkv4Ideal
    ∧ algebraic_KernelQkv4Ideal_ReferenceQkv4Ideal (hKernelQkv4Ideal := hKernelQkv4Ideal) (hReferenceQkv4Ideal := hReferenceQkv4Ideal)
    ∧ preserves_KernelQkv16_KernelQkv16Ideal
    ∧ algebraic_KernelQkv16Ideal_ReferenceQkv16Ideal (hKernelQkv16Ideal := hKernelQkv16Ideal) (hReferenceQkv16Ideal := hReferenceQkv16Ideal)
    ∧ preserves_KernelAo_KernelAoIdeal
    ∧ algebraic_KernelAoIdeal_ReferenceAoIdeal (hKernelAoIdeal := hKernelAoIdeal) (hReferenceAoIdeal := hReferenceAoIdeal)
    ∧ preserves_KernelBq_KernelBqIdeal
    ∧ algebraic_KernelBqIdeal_ReferenceBqIdeal (hKernelBqIdeal := hKernelBqIdeal) (hReferenceBqIdeal := hReferenceBqIdeal)
    ∧ preserves_KernelBo_KernelBoIdeal
    ∧ algebraic_KernelBoIdeal_ReferenceBoIdeal (hKernelBoIdeal := hKernelBoIdeal) (hReferenceBoIdeal := hReferenceBoIdeal)
    ∧ preserves_KernelKv_KernelKvIdeal
    ∧ algebraic_KernelKvIdeal_ReferenceKvIdeal (hKernelKvIdeal := hKernelKvIdeal) (hReferenceKvIdeal := hReferenceKvIdeal)
    ∧ preserves_KernelPro_KernelProIdeal
    ∧ algebraic_KernelProIdeal_ReferenceProIdeal (hKernelProIdeal := hKernelProIdeal) (hReferenceProIdeal := hReferenceProIdeal)
    ∧ preserves_KernelMean_KernelMeanIdeal
    ∧ algebraic_KernelMeanIdeal_ReferenceMeanIdeal (hKernelMeanIdeal := hKernelMeanIdeal) (hReferenceMeanIdeal := hReferenceMeanIdeal)
    ∧ preserves_KernelLast_KernelLastIdeal
    ∧ algebraic_KernelLastIdeal_ReferenceLastIdeal (hKernelLastIdeal := hKernelLastIdeal) (hReferenceLastIdeal := hReferenceLastIdeal)
    ∧ preserves_KernelMod_KernelModIdeal
    ∧ algebraic_KernelModIdeal_ReferenceModIdeal (hKernelModIdeal := hKernelModIdeal) (hReferenceModIdeal := hReferenceModIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
-- ==== Pre_finite.lean ====
abbrev S8192x6144 : Shape := ⟨2, ![8192, 6144]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)

variable [Facts]

def fn {F : FTy → Type} [FloatOps F] (main_arg0 : FVec F S8192x6144 .bf16) : IVec S8192x4096 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== Pre_finite_mix.lean ====
abbrev S8192x2048 : Shape := ⟨2, ![8192, 2048]⟩
abbrev S2048x8192 : Shape := ⟨2, ![2048, 8192]⟩
abbrev S512x32768 : Shape := ⟨2, ![512, 32768]⟩
abbrev S8192x128 : Shape := ⟨2, ![8192, 128]⟩
abbrev S2048x512 : Shape := ⟨2, ![2048, 512]⟩
abbrev S512x2048 : Shape := ⟨2, ![512, 2048]⟩
abbrev S8192x16 : Shape := ⟨2, ![8192, 16]⟩
abbrev S_ : Shape := ⟨0, ![]⟩

class Facts : Prop where
  slices_S8192x128_S8192x16_0_0 : S8192x128.Slices ![0, 0] S8192x16
  shapeCasts_S2048x512_S8192x128 : S2048x512.ShapeCasts S8192x128
  shapeCasts_S512x2048_S8192x128 : S512x2048.ShapeCasts S8192x128
  bcast_S_S8192x16 : S_.BroadcastsInDim S8192x16 (![] : Fin 0 → Fin S8192x16.rank)

variable [Facts]

def fn {F : FTy → Type} [FloatOps F] (main_arg0 : FVec F S8192x2048 .f32) (main_arg1 : FVec F S2048x8192 .f32) (main_arg2 : FVec F S512x32768 .f32) (main_arg3 : FVec F S8192x128 .f32) (main_arg4 : FVec F S2048x512 .f32) (main_arg5 : FVec F S512x2048 .f32) : IVec S8192x16 1 :=
  let main_v0 : FVec F S8192x16 .f32 := (extractStridedSlice S8192x16 ![0, 0] · slices_S8192x128_S8192x16_0_0) main_arg3
  let main_v1 : FVec F S8192x16 .f32 := Host.absf main_v0
  let main_v2 : FVec F S8192x128 .f32 := shapeCast S8192x128 main_arg4 shapeCasts_S2048x512_S8192x128
  let main_v3 : FVec F S8192x16 .f32 := (extractStridedSlice S8192x16 ![0, 0] · slices_S8192x128_S8192x16_0_0) main_v2
  let main_v4 : FVec F S8192x16 .f32 := Host.absf main_v3
  let main_v5 : FVec F S8192x128 .f32 := shapeCast S8192x128 main_arg5 shapeCasts_S512x2048_S8192x128
  let main_v6 : FVec F S8192x16 .f32 := (extractStridedSlice S8192x16 ![0, 0] · slices_S8192x128_S8192x16_0_0) main_v5
  let main_v7 : FVec F S8192x16 .f32 := Host.absf main_v6
  let main_v8 : FVec F S8192x16 .f32 := maximumf main_v1 main_v4
  let main_v9 : FVec F S8192x16 .f32 := maximumf main_v8 main_v7
  let main_cst : FVec F S_ .f32 := constant S_ .f32 0x7F800000#32
  let main_v10 : FVec F S8192x16 .f32 := broadcastInDim S8192x16 ![] bcast_S_S8192x16 main_cst
  let main_v11 : IVec S8192x16 1 := cmpf .olt main_v9 main_v10
  main_v11
-- ==== Kernel.lean ====
abbrev S8192x6144 : Shape := ⟨2, ![8192, 6144]⟩
abbrev S2048x8192 : Shape := ⟨2, ![2048, 8192]⟩
abbrev S2048x512 : Shape := ⟨2, ![2048, 512]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S2048x8192, .f32⟩
  | .hbm, ⟨2, _⟩ => ⟨S2048x512, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | .local _ .vmem, ⟨13, _⟩ => ⟨S128x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_sqrt_e" => some (((Real.sqrt 128)⁻¹ : ℝ) : EReal)
  | "log2e_inv_sqrt_e" => some (((Real.log 2)⁻¹ * (Real.sqrt 128)⁻¹ : ℝ) : EReal)
  | "mask" => some ⊤
  | "slope10" => some ((Real.sqrt (1 / 8) : ℝ) : EReal)
  | "slope12" => some ((Real.sqrt (1 / 32) : ℝ) : EReal)
  | "slope16" => some ((Real.sqrt (1 / 512) : ℝ) : EReal)
  | "slope2" => some ((Real.sqrt 32 : ℝ) : EReal)
  | "slope4" => some ((Real.sqrt 8 : ℝ) : EReal)
  | "slope6" => some ((Real.sqrt 2 : ℝ) : EReal)
  | "slope8" => some ((Real.sqrt (1 / 2) : ℝ) : EReal)
  | _ => none
-- ==== ReferenceIdeal.lean ====
abbrev S8192x6144 : Shape := ⟨2, ![8192, 6144]⟩
abbrev S4x2048x6144 : Shape := ⟨3, ![4, 2048, 6144]⟩
abbrev S2048x4x6144 : Shape := ⟨3, ![2048, 4, 6144]⟩
abbrev S1x8192x3x16x128 : Shape := ⟨5, ![1, 8192, 3, 16, 128]⟩
abbrev S1x8192x1x16x128 : Shape := ⟨5, ![1, 8192, 1, 16, 128]⟩
abbrev S1x8192x16x128 : Shape := ⟨4, ![1, 8192, 16, 128]⟩
abbrev S_ : Shape := ⟨0, ![]⟩
abbrev S16 : Shape := ⟨1, ![16]⟩
abbrev S1x2048x4x16x128 : Shape := ⟨5, ![1, 2048, 4, 16, 128]⟩
abbrev S1x4x2048x16x128 : Shape := ⟨5, ![1, 4, 2048, 16, 128]⟩
abbrev S1x4x16x128x16x128 : Shape := ⟨6, ![1, 4, 16, 128, 16, 128]⟩
abbrev S1x4x17x128x16x128 : Shape := ⟨6, ![1, 4, 17, 128, 16, 128]⟩
abbrev S1x4x16x256x16x128 : Shape := ⟨6, ![1, 4, 16, 256, 16, 128]⟩
abbrev S1x4x16x16x128x256 : Shape := ⟨6, ![1, 4, 16, 16, 128, 256]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x128x256 : Shape := ⟨4, ![16, 1, 128, 256]⟩
abbrev S1x1x1x16x128x256 : Shape := ⟨6, ![1, 1, 1, 16, 128, 256]⟩
abbrev S1x4x16x16x128 : Shape := ⟨5, ![1, 4, 16, 16, 128]⟩
abbrev S1x4x16x16x128x1 : Shape := ⟨6, ![1, 4, 16, 16, 128, 1]⟩
abbrev S1x4x16x16x128x128 : Shape := ⟨6, ![1, 4, 16, 16, 128, 128]⟩
abbrev S1x4x16x128x16 : Shape := ⟨5, ![1, 4, 16, 128, 16]⟩
abbrev S1x4x2048x16 : Shape := ⟨4, ![1, 4, 2048, 16]⟩
abbrev S1x2048x4x16 : Shape := ⟨4, ![1, 2048, 4, 16]⟩
abbrev S1x8192x16 : Shape := ⟨3, ![1, 8192, 16]⟩
abbrev S1x8192x128 : Shape := ⟨3, ![1, 8192, 128]⟩
abbrev S2048x8192 : Shape := ⟨2, ![2048, 8192]⟩
abbrev S2048x512 : Shape := ⟨2, ![2048, 512]⟩

abbrev nBuf : Space → Nat
  | .hbm => 139
  | .vmem => 0
  | .smem => 0
  | _ => 0

abbrev hbmTy0_0 (i : Nat) : BufTy := match i % 128 with
  | 0 => ⟨S8192x6144, .bf16⟩
  | 1 => ⟨S8192x6144, .f32⟩
  | 2 => ⟨S4x2048x6144, .f32⟩
  | 3 => ⟨S2048x4x6144, .f32⟩
  | 4 => ⟨S1x8192x3x16x128, .f32⟩
  | 5 => ⟨S1x8192x1x16x128, .f32⟩
  | 6 => ⟨S1x8192x16x128, .f32⟩
  | 7 => ⟨S1x8192x1x16x128, .f32⟩
  | 8 => ⟨S1x8192x16x128, .f32⟩
  | 9 => ⟨S1x8192x1x16x128, .f32⟩
  | 10 => ⟨S1x8192x16x128, .f32⟩
  | 11 => ⟨S_, .f32⟩
  | 12 => ⟨S_, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S16, .f32⟩
  | 25 => ⟨S16, .f32⟩
  | 26 => ⟨S1x2048x4x16x128, .f32⟩
  | 27 => ⟨S1x4x2048x16x128, .f32⟩
  | 28 => ⟨S_, .i32⟩
  | 29 => ⟨S_, .f32⟩
  | 30 => ⟨S1x4x2048x16x128, .f32⟩
  | 31 => ⟨S1x4x16x128x16x128, .f32⟩
  | 32 => ⟨S1x2048x4x16x128, .f32⟩
  | 33 => ⟨S1x4x2048x16x128, .f32⟩
  | 34 => ⟨S_, .i32⟩
  | 35 => ⟨S_, .f32⟩
  | 36 => ⟨S1x4x2048x16x128, .f32⟩
  | 37 => ⟨S1x4x16x128x16x128, .f32⟩
  | 38 => ⟨S_, .i32⟩
  | 39 => ⟨S_, .f32⟩
  | 40 => ⟨S1x4x17x128x16x128, .f32⟩
  | 41 => ⟨S1x4x16x128x16x128, .f32⟩
  | 42 => ⟨S1x4x16x256x16x128, .f32⟩
  | 43 => ⟨S1x2048x4x16x128, .f32⟩
  | 44 => ⟨S1x4x2048x16x128, .f32⟩
  | 45 => ⟨S_, .i32⟩
  | 46 => ⟨S_, .f32⟩
  | 47 => ⟨S1x4x2048x16x128, .f32⟩
  | 48 => ⟨S1x4x16x128x16x128, .f32⟩
  | 49 => ⟨S_, .i32⟩
  | 50 => ⟨S_, .f32⟩
  | 51 => ⟨S1x4x17x128x16x128, .f32⟩
  | 52 => ⟨S1x4x16x128x16x128, .f32⟩
  | 53 => ⟨S1x4x16x256x16x128, .f32⟩
  | 54 => ⟨S1x4x16x16x128x256, .f32⟩
  | 55 => ⟨S_, .f32⟩
  | 56 => ⟨S_, .f32⟩
  | 57 => ⟨S1x4x16x16x128x256, .f32⟩
  | 58 => ⟨S1x4x16x16x128x256, .f32⟩
  | 59 => ⟨S256, .i32⟩
  | 60 => ⟨S128, .i32⟩
  | 61 => ⟨S128x1, .i32⟩
  | 62 => ⟨S_, .i32⟩
  | 63 => ⟨S128x1, .i32⟩
  | 64 => ⟨S128x1, .i32⟩
  | 65 => ⟨S1x256, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S16, .i32⟩
  | 77 => ⟨S16x1x1, .i32⟩
  | 78 => ⟨S_, .i32⟩
  | 79 => ⟨S16x1x1, .i32⟩
  | 80 => ⟨S16x1x1, .i1⟩
  | 81 => ⟨S1x1x256, .i32⟩
  | 82 => ⟨S_, .i32⟩
  | 83 => ⟨S1x1x256, .i32⟩
  | 84 => ⟨S1x1x256, .i1⟩
  | 85 => ⟨S16x1x256, .i1⟩
  | 86 => ⟨S16x1x256, .i1⟩
  | 87 => ⟨S16x1x256, .i1⟩
  | 88 => ⟨S1x128x256, .i1⟩
  | 89 => ⟨S16x128x256, .i1⟩
  | 90 => ⟨S16x128x256, .i1⟩
  | 91 => ⟨S16x128x256, .i1⟩
  | 92 => ⟨S16x1x1, .f32⟩
  | 93 => ⟨S16x1x1, .f32⟩
  | 94 => ⟨S_, .i32⟩
  | 95 => ⟨S128x256, .i32⟩
  | 96 => ⟨S128x256, .i32⟩
  | 97 => ⟨S128x256, .f32⟩
  | 98 => ⟨S1x128x256, .f32⟩
  | 99 => ⟨S16x128x256, .f32⟩
  | 100 => ⟨S16x128x256, .f32⟩
  | 101 => ⟨S16x128x256, .f32⟩
  | 102 => ⟨S16x1x128x256, .i1⟩
  | 103 => ⟨S1x1x1x16x128x256, .f32⟩
  | 104 => ⟨S1x4x16x16x128x256, .f32⟩
  | 105 => ⟨S1x4x16x16x128x256, .f32⟩
  | 106 => ⟨S_, .f32⟩
  | 107 => ⟨S_, .f32⟩
  | 108 => ⟨S1x4x16x16x128x256, .i1⟩
  | 109 => ⟨S1x4x16x16x128x256, .f32⟩
  | 110 => ⟨S1x4x16x16x128x256, .f32⟩
  | 111 => ⟨S_, .f32⟩
  | 112 => ⟨S1x4x16x16x128, .f32⟩
  | 113 => ⟨S1x4x16x16x128x1, .f32⟩
  | 114 => ⟨S1x4x16x16x128x256, .f32⟩
  | 115 => ⟨S1x4x16x16x128x256, .f32⟩
  | 116 => ⟨S1x4x16x16x128x256, .f32⟩
  | 117 => ⟨S_, .f32⟩
  | 118 => ⟨S1x4x16x16x128, .f32⟩
  | 119 => ⟨S1x4x16x16x128, .f32⟩
  | 120 => ⟨S1x4x16x16x128, .f32⟩
  | 121 => ⟨S1x4x16x16x128x1, .f32⟩
  | 122 => ⟨S1x4x16x16x128x256, .f32⟩
  | 123 => ⟨S1x4x16x16x128x256, .f32⟩
  | 124 => ⟨S1x4x16x16x128x256, .f32⟩
  | 125 => ⟨S1x4x16x16x128x128, .f32⟩
  | 126 => ⟨S1x4x16x128x16x128, .f32⟩
  | 127 => ⟨S1x4x2048x16x128, .f32⟩
  | _ => ⟨S8192x6144, .bf16⟩

abbrev hbmTy0_1 (i : Nat) : BufTy := match i % 128 with
  | 0 => ⟨S1x2048x4x16x128, .f32⟩
  | 1 => ⟨S1x8192x16x128, .f32⟩
  | 2 => ⟨S1x4x16x128x16, .f32⟩
  | 3 => ⟨S1x4x2048x16, .f32⟩
  | 4 => ⟨S1x2048x4x16, .f32⟩
  | 5 => ⟨S1x8192x16, .f32⟩
  | 6 => ⟨S_, .i32⟩
  | 7 => ⟨S_, .f32⟩
  | 8 => ⟨S1x8192x128, .f32⟩
  | 9 => ⟨S2048x8192, .f32⟩
  | 10 => ⟨S2048x512, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_call0_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_call1_v0 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_call2_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_call3_v0 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_call4_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_16 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_c_17 : Ref sig .tc := ⟨.hbm, 134, rfl⟩
abbrev main_call6_v0 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩

abbrev nD : Nat := 1
abbrev τ : Topo := Topo.v7x

variable {F : FTy → Type} [FloatOps F]
-- ==== KernelQkv1.lean ====
abbrev S8192x4096 : Shape := ⟨2, ![8192, 4096]⟩
abbrev S2x4096x18432 : Shape := ⟨3, ![2, 4096, 18432]⟩
abbrev S8192x6144 : Shape := ⟨2, ![8192, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S8192x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg1 c16_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg1 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkv1Ideal.lean ====
abbrev S8192x4096 : Shape := ⟨2, ![8192, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x6144 : Shape := ⟨3, ![8192, 3, 6144]⟩
abbrev S8192x1x6144 : Shape := ⟨3, ![8192, 1, 6144]⟩
abbrev S8192x6144 : Shape := ⟨2, ![8192, 6144]⟩
abbrev S1x8192x6144 : Shape := ⟨3, ![1, 8192, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S8192x4096, .f32⟩
  | .hbm, ⟨3, _⟩ => ⟨S1x4096x18432, .f32⟩
  | .hbm, ⟨4, _⟩ => ⟨S4096x18432, .f32⟩
  | .hbm, ⟨5, _⟩ => ⟨S8192x18432, .f32⟩
  | .hbm, ⟨6, _⟩ => ⟨S8192x3x6144, .f32⟩
  | .hbm, ⟨7, _⟩ => ⟨S8192x1x6144, .f32⟩
  | .hbm, ⟨8, _⟩ => ⟨S8192x6144, .f32⟩
  | .hbm, ⟨9, _⟩ => ⟨S8192x1x6144, .f32⟩
  | .hbm, ⟨10, _⟩ => ⟨S1x8192x6144, .f32⟩
  | .hbm, ⟨11, _⟩ => ⟨S8192x6144, .f32⟩
  | .hbm, ⟨12, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelQkv4.lean ====
abbrev S8192x4096 : Shape := ⟨2, ![8192, 4096]⟩
abbrev S2x4096x18432 : Shape := ⟨3, ![2, 4096, 18432]⟩
abbrev S2048x16384 : Shape := ⟨2, ![2048, 16384]⟩
abbrev S8192x6144 : Shape := ⟨2, ![8192, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S2048x16384, .bf16⟩
  | .hbm, ⟨3, _⟩ => ⟨S8192x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkv4Ideal.lean ====
abbrev S8192x4096 : Shape := ⟨2, ![8192, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x6144 : Shape := ⟨3, ![8192, 3, 6144]⟩
abbrev S8192x1x6144 : Shape := ⟨3, ![8192, 1, 6144]⟩
abbrev S8192x6144 : Shape := ⟨2, ![8192, 6144]⟩
abbrev S2048x4x6144 : Shape := ⟨3, ![2048, 4, 6144]⟩
abbrev S4x2048x6144 : Shape := ⟨3, ![4, 2048, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S8192x4096, .f32⟩
  | .hbm, ⟨3, _⟩ => ⟨S1x4096x18432, .f32⟩
  | .hbm, ⟨4, _⟩ => ⟨S4096x18432, .f32⟩
  | .hbm, ⟨5, _⟩ => ⟨S8192x18432, .f32⟩
  | .hbm, ⟨6, _⟩ => ⟨S8192x3x6144, .f32⟩
  | .hbm, ⟨7, _⟩ => ⟨S8192x1x6144, .f32⟩
  | .hbm, ⟨8, _⟩ => ⟨S8192x6144, .f32⟩
  | .hbm, ⟨9, _⟩ => ⟨S2048x4x6144, .f32⟩
  | .hbm, ⟨10, _⟩ => ⟨S4x2048x6144, .f32⟩
  | .hbm, ⟨11, _⟩ => ⟨S8192x6144, .f32⟩
  | .hbm, ⟨12, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelQkv16.lean ====
abbrev S8192x4096 : Shape := ⟨2, ![8192, 4096]⟩
abbrev S2x4096x18432 : Shape := ⟨3, ![2, 4096, 18432]⟩
abbrev S512x65536 : Shape := ⟨2, ![512, 65536]⟩
abbrev S8192x6144 : Shape := ⟨2, ![8192, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S512x65536, .bf16⟩
  | .hbm, ⟨3, _⟩ => ⟨S8192x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg1 c1_i32_4
  let c0_i32_5 : BitVec 32 := 0#32
  let v11 : BitVec 1 := Scalar.cmpi .sgt arg1 c0_i32_5
  let v12 : BitVec 32 := Scalar.extui v11
  let c0_i32_6 : BitVec 32 := 0#32
  let v13 : BitVec 1 := Scalar.cmpi .slt arg1 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg1 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkv16Ideal.lean ====
abbrev S8192x4096 : Shape := ⟨2, ![8192, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S8192x18432 : Shape := ⟨2, ![8192, 18432]⟩
abbrev S8192x3x6144 : Shape := ⟨3, ![8192, 3, 6144]⟩
abbrev S8192x1x6144 : Shape := ⟨3, ![8192, 1, 6144]⟩
abbrev S8192x6144 : Shape := ⟨2, ![8192, 6144]⟩
abbrev S512x16x6144 : Shape := ⟨3, ![512, 16, 6144]⟩
abbrev S16x512x6144 : Shape := ⟨3, ![16, 512, 6144]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18432, .f32⟩
  | .hbm, ⟨2, _⟩ => ⟨S8192x4096, .f32⟩
  | .hbm, ⟨3, _⟩ => ⟨S1x4096x18432, .f32⟩
  | .hbm, ⟨4, _⟩ => ⟨S4096x18432, .f32⟩
  | .hbm, ⟨5, _⟩ => ⟨S8192x18432, .f32⟩
  | .hbm, ⟨6, _⟩ => ⟨S8192x3x6144, .f32⟩
  | .hbm, ⟨7, _⟩ => ⟨S8192x1x6144, .f32⟩
  | .hbm, ⟨8, _⟩ => ⟨S8192x6144, .f32⟩
  | .hbm, ⟨9, _⟩ => ⟨S512x16x6144, .f32⟩
  | .hbm, ⟨10, _⟩ => ⟨S16x512x6144, .f32⟩
  | .hbm, ⟨11, _⟩ => ⟨S8192x6144, .f32⟩
  | .hbm, ⟨12, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelAo.lean ====
abbrev S8192x2048 : Shape := ⟨2, ![8192, 2048]⟩
abbrev S2x2048x4096 : Shape := ⟨3, ![2, 2048, 4096]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg1 c16_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg1 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAoIdeal.lean ====
abbrev S8192x2048 : Shape := ⟨2, ![8192, 2048]⟩
abbrev S2x2048x4096 : Shape := ⟨3, ![2, 2048, 4096]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x4096, .f32⟩
  | .hbm, ⟨2, _⟩ => ⟨S8192x2048, .f32⟩
  | .hbm, ⟨3, _⟩ => ⟨S1x2048x4096, .f32⟩
  | .hbm, ⟨4, _⟩ => ⟨S2048x4096, .f32⟩
  | .hbm, ⟨5, _⟩ => ⟨S8192x4096, .f32⟩
  | .hbm, ⟨6, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelBq.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceBqIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelBo.lean ====
abbrev S8192x4096 : Shape := ⟨2, ![8192, 4096]⟩
abbrev S2x4096x4096 : Shape := ⟨3, ![2, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S512x1024, .bf16⟩
  | .local _ .vmem, ⟨5, _⟩ => ⟨S512x1024, .bf16⟩
  | .local _ .vmem, ⟨6, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg1 c16_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg1 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceBoIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelKv.lean ====
abbrev S8192x4096 : Shape := ⟨2, ![8192, 4096]⟩
abbrev S4096x2048 : Shape := ⟨2, ![4096, 2048]⟩
abbrev S1x4096x2048 : Shape := ⟨3, ![1, 4096, 2048]⟩
abbrev S8192x2048 : Shape := ⟨2, ![8192, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S1x4096x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg1 c8_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelPro.lean ====
abbrev S8192x4096 : Shape := ⟨2, ![8192, 4096]⟩
abbrev S8x4096 : Shape := ⟨2, ![8, 4096]⟩
abbrev S256x4096 : Shape := ⟨2, ![256, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S8x4096, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceProIdeal.lean ====
abbrev S8192x4096 : Shape := ⟨2, ![8192, 4096]⟩
abbrev S8x4096 : Shape := ⟨2, ![8, 4096]⟩
abbrev S1x4096 : Shape := ⟨2, ![1, 4096]⟩
abbrev S4096 : Shape := ⟨1, ![4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelMean.lean ====
abbrev S8192x1024 : Shape := ⟨2, ![8192, 1024]⟩
abbrev S32x1x1024 : Shape := ⟨3, ![32, 1, 1024]⟩
abbrev S256x1024 : Shape := ⟨2, ![256, 1024]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S32x1x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceMeanIdeal.lean ====
abbrev S8192x1024 : Shape := ⟨2, ![8192, 1024]⟩
abbrev S32x256x1024 : Shape := ⟨3, ![32, 256, 1024]⟩
abbrev S_ : Shape := ⟨0, ![]⟩
abbrev S32x1024 : Shape := ⟨2, ![32, 1024]⟩
abbrev S32x1x1024 : Shape := ⟨3, ![32, 1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32x256x1024, .f32⟩
  | .hbm, ⟨2, _⟩ => ⟨S_, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S32x1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelLast.lean ====
abbrev S8192x4096 : Shape := ⟨2, ![8192, 4096]⟩
abbrev S16640x2048 : Shape := ⟨2, ![16640, 2048]⟩
abbrev S8192x128 : Shape := ⟨2, ![8192, 128]⟩
abbrev S8x4096 : Shape := ⟨2, ![8, 4096]⟩
abbrev S256x4096 : Shape := ⟨2, ![256, 4096]⟩
abbrev S256x2048 : Shape := ⟨2, ![256, 2048]⟩
abbrev S256x128 : Shape := ⟨2, ![256, 128]⟩
abbrev S256x1 : Shape := ⟨2, ![256, 1]⟩
abbrev S1x4096 : Shape := ⟨2, ![1, 4096]⟩
abbrev S256 : Shape := ⟨1, ![256]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S16640x2048, .i32⟩
  | .hbm, ⟨2, _⟩ => ⟨S8192x128, .f32⟩
  | .hbm, ⟨3, _⟩ => ⟨S8x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x2048, .i32⟩
  | .local _ .vmem, ⟨3, _⟩ => ⟨S256x2048, .i32⟩
  | .local _ .vmem, ⟨4, _⟩ => ⟨S256x2048, .i32⟩
  | .local _ .vmem, ⟨5, _⟩ => ⟨S256x2048, .i32⟩
  | .local _ .vmem, ⟨6, _⟩ => ⟨S256x128, .f32⟩
  | .local _ .vmem, ⟨7, _⟩ => ⟨S256x128, .f32⟩
  | .local _ .vmem, ⟨8, _⟩ => ⟨S8x4096, .f32⟩
  | .local _ .vmem, ⟨9, _⟩ => ⟨S256x4096, .f32⟩
  | .local _ .vmem, ⟨10, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLastIdeal.lean ====
abbrev S8192x4096 : Shape := ⟨2, ![8192, 4096]⟩
abbrev S16640x2048 : Shape := ⟨2, ![16640, 2048]⟩
abbrev S8192x128 : Shape := ⟨2, ![8192, 128]⟩
abbrev S8x4096 : Shape := ⟨2, ![8, 4096]⟩
abbrev S16384x2048 : Shape := ⟨2, ![16384, 2048]⟩
abbrev S16384x2048x2 : Shape := ⟨3, ![16384, 2048, 2]⟩
abbrev S16384x2048x1 : Shape := ⟨3, ![16384, 2048, 1]⟩
abbrev S16384x4096 : Shape := ⟨2, ![16384, 4096]⟩
abbrev S2x8192x4096 : Shape := ⟨3, ![2, 8192, 4096]⟩
abbrev S1x8192x4096 : Shape := ⟨3, ![1, 8192, 4096]⟩
abbrev S8192x1 : Shape := ⟨2, ![8192, 1]⟩
abbrev S1x4096 : Shape := ⟨2, ![1, 4096]⟩
abbrev S4096 : Shape := ⟨1, ![4096]⟩
abbrev S_ : Shape := ⟨0, ![]⟩
abbrev S8192 : Shape := ⟨1, ![8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16640x2048, .i32⟩
  | .hbm, ⟨2, _⟩ => ⟨S8192x128, .f32⟩
  | .hbm, ⟨3, _⟩ => ⟨S8x4096, .f32⟩
  | .hbm, ⟨4, _⟩ => ⟨S16384x2048, .i32⟩
  | .hbm, ⟨5, _⟩ => ⟨S16384x2048x2, .bf16⟩
  | .hbm, ⟨6, _⟩ => ⟨S16384x2048x2, .f32⟩
  | .hbm, ⟨7, _⟩ => ⟨S16384x2048x1, .f32⟩
  | .hbm, ⟨8, _⟩ => ⟨S16384x2048, .f32⟩
  | .hbm, ⟨9, _⟩ => ⟨S16384x2048x1, .f32⟩
  | .hbm, ⟨10, _⟩ => ⟨S16384x2048, .f32⟩
  | .hbm, ⟨11, _⟩ => ⟨S16384x4096, .f32⟩
  | .hbm, ⟨12, _⟩ => ⟨S2x8192x4096, .f32⟩
  | .hbm, ⟨13, _⟩ => ⟨S1x8192x4096, .f32⟩
  | .hbm, ⟨14, _⟩ => ⟨S8192x4096, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x8192x4096, .f32⟩
  | .hbm, ⟨19, _⟩ => ⟨S8192x4096, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | .hbm, ⟨66, _⟩ => ⟨S1x4096, .f32⟩
  | .hbm, ⟨67, _⟩ => ⟨S8192x4096, .f32⟩
  | .hbm, ⟨68, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩

abbrev nD : Nat := 1
abbrev τ : Topo := Topo.v7x

variable {F : FTy → Type} [FloatOps F]
-- ==== KernelMod.lean ====
abbrev S1x4096 : Shape := ⟨2, ![1, 4096]⟩
abbrev S4x4096x256 : Shape := ⟨3, ![4, 4096, 256]⟩
abbrev S4x256x24576 : Shape := ⟨3, ![4, 256, 24576]⟩
abbrev S4x24576 : Shape := ⟨2, ![4, 24576]⟩
abbrev S8x4096 : Shape := ⟨2, ![8, 4096]⟩
abbrev S4x1x24576 : Shape := ⟨3, ![4, 1, 24576]⟩
abbrev S4x8x24576 : Shape := ⟨3, ![4, 8, 24576]⟩
abbrev S1x4096x256 : Shape := ⟨3, ![1, 4096, 256]⟩
abbrev S1x256x6144 : Shape := ⟨3, ![1, 256, 6144]⟩
abbrev S1x1x6144 : Shape := ⟨3, ![1, 1, 6144]⟩
abbrev S1x8x6144 : Shape := ⟨3, ![1, 8, 6144]⟩
abbrev S8x256 : Shape := ⟨2, ![8, 256]⟩
abbrev S4096x256 : Shape := ⟨2, ![4096, 256]⟩
abbrev S256x6144 : Shape := ⟨2, ![256, 6144]⟩
abbrev S8x6144 : Shape := ⟨2, ![8, 6144]⟩
abbrev S1x6144 : Shape := ⟨2, ![1, 6144]⟩

abbrev nBuf : Space → Nat
  | .hbm => 7
  | .vmem => 10
  | .smem => 0
  | _ => 0

abbrev bufTy : (tb : Table) → Fin (tcTables nBuf tb) → BufTy
  | .hbm, ⟨0, _⟩ => ⟨S1x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S8x4096, .f32⟩
  | .hbm, ⟨5, _⟩ => ⟨S4x1x24576, .f32⟩
  | .hbm, ⟨6, _⟩ => ⟨S4x8x24576, .f32⟩
  | .local _ .vmem, ⟨0, _⟩ => ⟨S8x4096, .f32⟩
  | .local _ .vmem, ⟨1, _⟩ => ⟨S1x4096x256, .f32⟩
  | .local _ .vmem, ⟨2, _⟩ => ⟨S1x4096x256, .f32⟩
  | .local _ .vmem, ⟨3, _⟩ => ⟨S1x256x6144, .f32⟩
  | .local _ .vmem, ⟨4, _⟩ => ⟨S1x256x6144, .f32⟩
  | .local _ .vmem, ⟨5, _⟩ => ⟨S1x1x6144, .f32⟩
  | .local _ .vmem, ⟨6, _⟩ => ⟨S1x1x6144, .f32⟩
  | .local _ .vmem, ⟨7, _⟩ => ⟨S1x8x6144, .f32⟩
  | .local _ .vmem, ⟨8, _⟩ => ⟨S1x8x6144, .f32⟩
  | .local _ .vmem, ⟨9, _⟩ => ⟨S8x256, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceModIdeal.lean ====
abbrev S1x4096 : Shape := ⟨2, ![1, 4096]⟩
abbrev S4x4096x256 : Shape := ⟨3, ![4, 4096, 256]⟩
abbrev S4x256x24576 : Shape := ⟨3, ![4, 256, 24576]⟩
abbrev S4x24576 : Shape := ⟨2, ![4, 24576]⟩
abbrev S_ : Shape := ⟨0, ![]⟩
abbrev S1x4096x256 : Shape := ⟨3, ![1, 4096, 256]⟩
abbrev S4096x256 : Shape := ⟨2, ![4096, 256]⟩
abbrev S1x256 : Shape := ⟨2, ![1, 256]⟩
abbrev S1x256x24576 : Shape := ⟨3, ![1, 256, 24576]⟩
abbrev S256x24576 : Shape := ⟨2, ![256, 24576]⟩
abbrev S1x24576 : Shape := ⟨2, ![1, 24576]⟩
abbrev S24576 : Shape := ⟨1, ![24576]⟩
abbrev S1x1x24576 : Shape := ⟨3, ![1, 1, 24576]⟩
abbrev S4x1x24576 : Shape := ⟨3, ![4, 1, 24576]⟩
abbrev S4x8x24576 : Shape := ⟨3, ![4, 8, 24576]⟩

abbrev nBuf : Space → Nat
  | .hbm => 86
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4x4096x256, .f32⟩
  | .hbm, ⟨2, _⟩ => ⟨S4x256x24576, .f32⟩
  | .hbm, ⟨3, _⟩ => ⟨S4x24576, .f32⟩
  | .hbm, ⟨4, _⟩ => ⟨S1x4096, .f32⟩
  | .hbm, ⟨5, _⟩ => ⟨S1x4096, .f32⟩
  | .hbm, ⟨6, _⟩ => ⟨S_, .f32⟩
  | .hbm, ⟨7, _⟩ => ⟨S1x4096, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096x256, .f32⟩
  | .hbm, ⟨14, _⟩ => ⟨S4096x256, .f32⟩
  | .hbm, ⟨15, _⟩ => ⟨S1x256, .f32⟩
  | .hbm, ⟨16, _⟩ => ⟨S1x256x24576, .f32⟩
  | .hbm, ⟨17, _⟩ => ⟨S256x24576, .f32⟩
  | .hbm, ⟨18, _⟩ => ⟨S1x24576, .f32⟩
  | .hbm, ⟨19, _⟩ => ⟨S1x24576, .f32⟩
  | .hbm, ⟨20, _⟩ => ⟨S24576, .f32⟩
  | .hbm, ⟨21, _⟩ => ⟨S1x24576, .f32⟩
  | .hbm, ⟨22, _⟩ => ⟨S1x24576, .f32⟩
  | .hbm, ⟨23, _⟩ => ⟨S1x4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096x256, .f32⟩
  | .hbm, ⟨33, _⟩ => ⟨S4096x256, .f32⟩
  | .hbm, ⟨34, _⟩ => ⟨S1x256, .f32⟩
  | .hbm, ⟨35, _⟩ => ⟨S1x256x24576, .f32⟩
  | .hbm, ⟨36, _⟩ => ⟨S256x24576, .f32⟩
  | .hbm, ⟨37, _⟩ => ⟨S1x24576, .f32⟩
  | .hbm, ⟨38, _⟩ => ⟨S1x24576, .f32⟩
  | .hbm, ⟨39, _⟩ => ⟨S24576, .f32⟩
  | .hbm, ⟨40, _⟩ => ⟨S1x24576, .f32⟩
  | .hbm, ⟨41, _⟩ => ⟨S1x24576, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S1x4096, .f32⟩
  | .hbm, ⟨51, _⟩ => ⟨S1x4096x256, .f32⟩
  | .hbm, ⟨52, _⟩ => ⟨S4096x256, .f32⟩
  | .hbm, ⟨53, _⟩ => ⟨S1x256, .f32⟩
  | .hbm, ⟨54, _⟩ => ⟨S1x256x24576, .f32⟩
  | .hbm, ⟨55, _⟩ => ⟨S256x24576, .f32⟩
  | .hbm, ⟨56, _⟩ => ⟨S1x24576, .f32⟩
  | .hbm, ⟨57, _⟩ => ⟨S1x24576, .f32⟩
  | .hbm, ⟨58, _⟩ => ⟨S24576, .f32⟩
  | .hbm, ⟨59, _⟩ => ⟨S1x24576, .f32⟩
  | .hbm, ⟨60, _⟩ => ⟨S1x24576, .f32⟩
  | .hbm, ⟨61, _⟩ => ⟨S1x4096, .f32⟩
  | .hbm, ⟨62, _⟩ => ⟨S1x4096, .f32⟩
  | .hbm, ⟨63, _⟩ => ⟨S_, .f32⟩
  | .hbm, ⟨64, _⟩ => ⟨S1x4096, .f32⟩
  | .hbm, ⟨65, _⟩ => ⟨S1x4096, .f32⟩
  | .hbm, ⟨66, _⟩ => ⟨S_, .f32⟩
  | .hbm, ⟨67, _⟩ => ⟨S1x4096, .f32⟩
  | .hbm, ⟨68, _⟩ => ⟨S1x4096, .f32⟩
  | .hbm, ⟨69, _⟩ => ⟨S1x4096, .f32⟩
  | .hbm, ⟨70, _⟩ => ⟨S1x4096x256, .f32⟩
  | .hbm, ⟨71, _⟩ => ⟨S4096x256, .f32⟩
  | .hbm, ⟨72, _⟩ => ⟨S1x256, .f32⟩
  | .hbm, ⟨73, _⟩ => ⟨S1x256x24576, .f32⟩
  | .hbm, ⟨74, _⟩ => ⟨S256x24576, .f32⟩
  | .hbm, ⟨75, _⟩ => ⟨S1x24576, .f32⟩
  | .hbm, ⟨76, _⟩ => ⟨S1x24576, .f32⟩
  | .hbm, ⟨77, _⟩ => ⟨S24576, .f32⟩
  | .hbm, ⟨78, _⟩ => ⟨S1x24576, .f32⟩
  | .hbm, ⟨79, _⟩ => ⟨S1x24576, .f32⟩
  | .hbm, ⟨80, _⟩ => ⟨S1x1x24576, .f32⟩
  | .hbm, ⟨81, _⟩ => ⟨S1x1x24576, .f32⟩
  | .hbm, ⟨82, _⟩ => ⟨S1x1x24576, .f32⟩
  | .hbm, ⟨83, _⟩ => ⟨S1x1x24576, .f32⟩
  | .hbm, ⟨84, _⟩ => ⟨S4x1x24576, .f32⟩
  | .hbm, ⟨85, _⟩ => ⟨S4x8x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call3_v0 : Ref sig .tc := ⟨.hbm, 61, rfl⟩
abbrev main_call3_v1 : Ref sig .tc := ⟨.hbm, 62, rfl⟩
abbrev main_call3_cst : Ref sig .tc := ⟨.hbm, 63, rfl⟩
abbrev main_call3_v2 : Ref sig .tc := ⟨.hbm, 64, rfl⟩
abbrev main_call3_v3 : Ref sig .tc := ⟨.hbm, 65, rfl⟩
abbrev main_call3_cst_0 : Ref sig .tc := ⟨.hbm, 66, rfl⟩
abbrev main_call3_v4 : Ref sig .tc := ⟨.hbm, 67, rfl⟩
abbrev main_call3_v5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩

abbrev nD : Nat := 1
abbrev τ : Topo := Topo.v7x

variable {F : FTy → Type} [FloatOps F]
-- ==== KernelMix.lean ====
abbrev S8192x2048 : Shape := ⟨2, ![8192, 2048]⟩
abbrev S2048x8192 : Shape := ⟨2, ![2048, 8192]⟩
abbrev S512x32768 : Shape := ⟨2, ![512, 32768]⟩
abbrev S8192x128 : Shape := ⟨2, ![8192, 128]⟩
abbrev S2048x512 : Shape := ⟨2, ![2048, 512]⟩
abbrev S512x2048 : Shape := ⟨2, ![512, 2048]⟩
abbrev S256x2048 : Shape := ⟨2, ![256, 2048]⟩
abbrev S64x8192 : Shape := ⟨2, ![64, 8192]⟩
abbrev S16x32768 : Shape := ⟨2, ![16, 32768]⟩
abbrev S256x128 : Shape := ⟨2, ![256, 128]⟩
abbrev S64x512 : Shape := ⟨2, ![64, 512]⟩
abbrev S16x2048 : Shape := ⟨2, ![16, 2048]⟩
abbrev S17x256x128 : Shape := ⟨3, ![17, 256, 128]⟩
abbrev S64x128 : Shape := ⟨2, ![64, 128]⟩
abbrev S1x64x128 : Shape := ⟨3, ![1, 64, 128]⟩
abbrev S1x256x128 : Shape := ⟨3, ![1, 256, 128]⟩
abbrev S16x128 : Shape := ⟨2, ![16, 128]⟩
abbrev S1x16x128 : Shape := ⟨3, ![1, 16, 128]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S512x32768, .f32⟩
  | .hbm, ⟨3, _⟩ => ⟨S8192x128, .f32⟩
  | .hbm, ⟨4, _⟩ => ⟨S2048x512, .f32⟩
  | .hbm, ⟨5, _⟩ => ⟨S512x2048, .f32⟩
  | .hbm, ⟨6, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S64x8192, .f32⟩
  | .local _ .vmem, ⟨3, _⟩ => ⟨S64x8192, .f32⟩
  | .local _ .vmem, ⟨4, _⟩ => ⟨S16x32768, .f32⟩
  | .local _ .vmem, ⟨5, _⟩ => ⟨S16x32768, .f32⟩
  | .local _ .vmem, ⟨6, _⟩ => ⟨S256x128, .f32⟩
  | .local _ .vmem, ⟨7, _⟩ => ⟨S256x128, .f32⟩
  | .local _ .vmem, ⟨8, _⟩ => ⟨S64x512, .f32⟩
  | .local _ .vmem, ⟨9, _⟩ => ⟨S64x512, .f32⟩
  | .local _ .vmem, ⟨10, _⟩ => ⟨S16x2048, .f32⟩
  | .local _ .vmem, ⟨11, _⟩ => ⟨S16x2048, .f32⟩
  | .local _ .vmem, ⟨12, _⟩ => ⟨S256x2048, .bf16⟩
  | .local _ .vmem, ⟨13, _⟩ => ⟨S256x2048, .bf16⟩
  | .local _ .vmem, ⟨14, _⟩ => ⟨S17x256x128, .f32⟩
  | .local _ .vmem, ⟨15, _⟩ => ⟨S17x256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMixIdeal.lean ====
abbrev S8192x2048 : Shape := ⟨2, ![8192, 2048]⟩
abbrev S2048x8192 : Shape := ⟨2, ![2048, 8192]⟩
abbrev S512x32768 : Shape := ⟨2, ![512, 32768]⟩
abbrev S8192x128 : Shape := ⟨2, ![8192, 128]⟩
abbrev S2048x512 : Shape := ⟨2, ![2048, 512]⟩
abbrev S512x2048 : Shape := ⟨2, ![512, 2048]⟩
abbrev S8192x16x128 : Shape := ⟨3, ![8192, 16, 128]⟩
abbrev S1x8192x16x128 : Shape := ⟨4, ![1, 8192, 16, 128]⟩
abbrev S3x8192x16x128 : Shape := ⟨4, ![3, 8192, 16, 128]⟩
abbrev S8192x16 : Shape := ⟨2, ![8192, 16]⟩
abbrev S1x8192x16 : Shape := ⟨3, ![1, 8192, 16]⟩
abbrev S3x8192x16 : Shape := ⟨3, ![3, 8192, 16]⟩
abbrev S_ : Shape := ⟨0, ![]⟩
abbrev S3x8192x16x1 : Shape := ⟨4, ![3, 8192, 16, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S512x32768, .f32⟩
  | .hbm, ⟨3, _⟩ => ⟨S8192x128, .f32⟩
  | .hbm, ⟨4, _⟩ => ⟨S2048x512, .f32⟩
  | .hbm, ⟨5, _⟩ => ⟨S512x2048, .f32⟩
  | .hbm, ⟨6, _⟩ => ⟨S8192x16x128, .f32⟩
  | .hbm, ⟨7, _⟩ => ⟨S8192x16x128, .f32⟩
  | .hbm, ⟨8, _⟩ => ⟨S8192x16x128, .f32⟩
  | .hbm, ⟨9, _⟩ => ⟨S1x8192x16x128, .f32⟩
  | .hbm, ⟨10, _⟩ => ⟨S1x8192x16x128, .f32⟩
  | .hbm, ⟨11, _⟩ => ⟨S1x8192x16x128, .f32⟩
  | .hbm, ⟨12, _⟩ => ⟨S3x8192x16x128, .f32⟩
  | .hbm, ⟨13, _⟩ => ⟨S8192x16, .f32⟩
  | .hbm, ⟨14, _⟩ => ⟨S8192x128, .f32⟩
  | .hbm, ⟨15, _⟩ => ⟨S8192x16, .f32⟩
  | .hbm, ⟨16, _⟩ => ⟨S8192x128, .f32⟩
  | .hbm, ⟨17, _⟩ => ⟨S8192x16, .f32⟩
  | .hbm, ⟨18, _⟩ => ⟨S1x8192x16, .f32⟩
  | .hbm, ⟨19, _⟩ => ⟨S1x8192x16, .f32⟩
  | .hbm, ⟨20, _⟩ => ⟨S1x8192x16, .f32⟩
  | .hbm, ⟨21, _⟩ => ⟨S3x8192x16, .f32⟩
  | .hbm, ⟨22, _⟩ => ⟨S_, .f32⟩
  | .hbm, ⟨23, _⟩ => ⟨S8192x16, .f32⟩
  | .hbm, ⟨24, _⟩ => ⟨S_, .f32⟩
  | .hbm, ⟨25, _⟩ => ⟨S8192x16, .f32⟩
  | .hbm, ⟨26, _⟩ => ⟨S8192x16, .f32⟩
  | .hbm, ⟨27, _⟩ => ⟨S1x8192x16, .f32⟩
  | .hbm, ⟨28, _⟩ => ⟨S3x8192x16, .f32⟩
  | .hbm, ⟨29, _⟩ => ⟨S3x8192x16, .f32⟩
  | .hbm, ⟨30, _⟩ => ⟨S3x8192x16, .f32⟩
  | .hbm, ⟨31, _⟩ => ⟨S_, .f32⟩
  | .hbm, ⟨32, _⟩ => ⟨S8192x16, .f32⟩
  | .hbm, ⟨33, _⟩ => ⟨S1x8192x16, .f32⟩
  | .hbm, ⟨34, _⟩ => ⟨S3x8192x16, .f32⟩
  | .hbm, ⟨35, _⟩ => ⟨S3x8192x16, .f32⟩
  | .hbm, ⟨36, _⟩ => ⟨S3x8192x16x1, .f32⟩
  | .hbm, ⟨37, _⟩ => ⟨S3x8192x16x128, .f32⟩
  | .hbm, ⟨38, _⟩ => ⟨S3x8192x16x128, .f32⟩
  | .hbm, ⟨39, _⟩ => ⟨S_, .f32⟩
  | .hbm, ⟨40, _⟩ => ⟨S8192x16x128, .f32⟩
  | .hbm, ⟨41, _⟩ => ⟨S8192x16x128, .bf16⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Softmax.lean ====
/- The equation between the two spellings of one row of banded attention, over the extended reals. A row has scores that
   are real at the admitted keys and −∞ at the others. The kernel scales the scores by √128, takes base-two
   exponentials of the differences from the row's maximum, and divides the weighted sum by the sum of the weights; the
   reference takes the natural exponential of the difference from the row's log-sum-exp. -/
module

public import Idealize.ShloMosaic.Lib.Pointwise

@[expose] public section

noncomputable section

namespace Softmax

open Idealize.ShloMosaic

variable {ι : Type} [Fintype ι] [DecidableEq ι]

/-- A row's scores: `r j` where key `j` is admitted, −∞ elsewhere. -/
def masked (ok : ι → Prop) [DecidablePred ok] (r : ι → ℝ) (j : ι) : EReal := if ok j then ((r j : ℝ) : EReal) else ⊥

/-- The maximum of a family of extended reals, from −∞. -/
def top (t : ι → EReal) : EReal := Finset.univ.fold max ⊥ t

theorem top_eq_sup (t : ι → EReal) : top t = Finset.univ.sup t := rfl

variable (ok : ι → Prop) [DecidablePred ok] (r : ι → ℝ)

/-- The maximum over the admitted keys is a real number, reached at an admitted key. -/
theorem top_masked (h : ∃ j, ok j) : ∃ j, ok j ∧ top (masked ok r) = ((r j : ℝ) : EReal) := by
  rw [top_eq_sup]
  obtain ⟨j0, h0⟩ := h
  obtain ⟨j, -, hj⟩ := Finset.exists_mem_eq_sup (Finset.univ : Finset ι) ⟨j0, Finset.mem_univ _⟩ (masked ok r)
  have hle : masked ok r j0 ≤ masked ok r j := hj ▸ Finset.le_sup (f := masked ok r) (Finset.mem_univ j0)
  by_cases hk : ok j
  · exact ⟨j, hk, by rw [hj]; simp [masked, hk]⟩
  · simp [masked, hk, h0] at hle

/-- A positive scale passes through the maximum. -/
theorem top_scale (c : ℝ) (hc : 0 < c) :
    top (masked ok fun j => r j * c) = top (masked ok r) * ((c : ℝ) : EReal) := by
  by_cases h : ∃ j, ok j
  · obtain ⟨j, hj, e⟩ := top_masked ok r h
    obtain ⟨k, hk, e'⟩ := top_masked ok (fun j => r j * c) h
    rw [e, e', ← EReal.coe_mul]
    congr 1
    have h1 : masked ok r k ≤ top (masked ok r) := by rw [top_eq_sup]; exact Finset.le_sup (Finset.mem_univ k)
    have h2 : masked ok (fun j => r j * c) j ≤ top (masked ok fun j => r j * c) := by
      rw [top_eq_sup]; exact Finset.le_sup (f := masked ok fun j => r j * c) (Finset.mem_univ j)
    rw [e] at h1; rw [e'] at h2
    simp only [masked, hk, hj, if_true, EReal.coe_le_coe_iff] at h1 h2
    exact le_antisymm (mul_le_mul_of_nonneg_right h1 hc.le) h2
  · have hn : ∀ j, ¬ ok j := fun j hj => h ⟨j, hj⟩
    have hb : ∀ s : ι → ℝ, top (masked ok s) = ⊥ := fun s => by
      rw [top_eq_sup]; exact (Finset.sup_congr rfl fun j _ => by simp [masked, hn j]).trans (Finset.sup_bot _)
    rw [hb, hb, EReal.bot_mul_coe_of_pos hc]

/-- The weight of key `j` against a maximum `R`: the exponential of the difference, nought at a key not admitted. -/
def weight (R : ℝ) (j : ι) : ℝ := if ok j then Real.exp (r j - R) else 0

theorem weight_nonneg (R : ℝ) (j : ι) : 0 ≤ weight ok r R j := by unfold weight; split <;> positivity

theorem sum_weight_pos (h : ∃ j, ok j) (R : ℝ) : 0 < ∑ j, weight ok r R j := by
  obtain ⟨j, hj⟩ := h
  refine Finset.sum_pos' (fun i _ => weight_nonneg ok r R i) ⟨j, Finset.mem_univ _, ?_⟩
  simp [weight, hj, Real.exp_pos]

theorem exp_masked (R : ℝ) (j : ι) :
    Ideal.exp (masked ok r j - ((R : ℝ) : EReal)) = ((weight ok r R j : ℝ) : EReal) := by
  unfold masked weight
  split
  · rw [← EReal.coe_sub, Ideal.exp_coe]
  · simp [Ideal.exp_bot]

/-- The kernel's base-two exponential of the scaled difference is the natural exponential. -/
theorem exp2_masked (c R : ℝ) (hc : 0 < c) (j : ι) :
    Ideal.exp2 ((masked ok r j - ((R : ℝ) : EReal)) * (((Real.log 2)⁻¹ * c : ℝ) : EReal))
      = ((weight ok (fun j => r j * c) (R * c) j : ℝ) : EReal) := by
  have h2 : (0 : ℝ) < Real.log 2 := Real.log_pos (by norm_num)
  unfold masked weight
  split
  · rw [← EReal.coe_sub, ← EReal.coe_mul, Ideal.exp2_coe]
    congr 1
    change (2 : ℝ) ^ ((r j - R) * ((Real.log 2)⁻¹ * c) : ℝ) = Real.exp (r j * c - R * c)
    rw [Real.rpow_def_of_pos (by norm_num)]
    congr 1
    field_simp
  · rw [EReal.bot_sub, EReal.bot_mul_coe_of_pos (by positivity), Ideal.exp2_bot, EReal.coe_zero]

theorem coe_sum {κ : Type} (s : Finset κ) (f : κ → ℝ) : ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

theorem sum_mul_coe (c : ℝ) (hc : 0 ≤ c) (f : ι → EReal) : (∑ j, f j) * ((c : ℝ) : EReal) = ∑ j, f j * ((c : ℝ) : EReal) := by
  have key : ∀ s : Finset ι, (∑ j ∈ s, f j) * ((c : ℝ) : EReal) = ∑ j ∈ s, f j * ((c : ℝ) : EReal) := fun s => by
    induction s using Finset.induction_on with
    | empty => simp
    | insert a s ha ih =>
      rw [Finset.sum_insert ha, Finset.sum_insert ha, ← ih]
      exact EReal.right_distrib_of_nonneg_of_ne_top (EReal.coe_nonneg.mpr hc) (EReal.coe_ne_top c) _ _
  exact key _

/-- The reference's log-sum-exp of a row. -/
def lse (x : ι → EReal) : EReal := top x + Ideal.log (0 + ∑ j, Ideal.exp (x j - top x))

/-- The log-sum-exp of a row with an admitted key is a real number. -/
theorem lse_masked (h : ∃ j, ok j) (R : ℝ) (hR : top (masked ok r) = ((R : ℝ) : EReal)) :
    lse (masked ok r) = ((R + Real.log (∑ j, weight ok r R j) : ℝ) : EReal) := by
  unfold lse
  rw [hR, zero_add]
  simp only [exp_masked]
  rw [← coe_sum, Ideal.log_coe, if_neg (not_le.mpr (sum_weight_pos ok r h R)), EReal.coe_add]

/-- The kernel's weight of key `j`. -/
def kweight (a : ℝ) (t : ι → EReal) (j : ι) : EReal :=
  Ideal.exp2 ((t j - top t) * (((Real.log 2)⁻¹ * a : ℝ) : EReal))

/-- The two log-sum-exps agree: the kernel's scaled maximum plus the logarithm of the sum of its weights. -/
theorem lse_eq (h : ∃ j, ok j) (c : ℝ) (hc : 0 < c) :
    top (masked ok r) * ((c : ℝ) : EReal) + Ideal.log (∑ j, kweight c (masked ok r) j)
      = lse (masked ok fun j => r j * c) := by
  obtain ⟨j, hj, e⟩ := top_masked ok r h
  have e' : top (masked ok fun j => r j * c) = ((r j * c : ℝ) : EReal) := by
    rw [top_scale ok r c hc, e, EReal.coe_mul]
  rw [lse_masked ok _ h _ e']
  unfold kweight
  rw [e]
  simp only [exp2_masked ok r c _ hc]
  rw [← coe_sum, Ideal.log_coe, if_neg (not_le.mpr (sum_weight_pos ok _ h _)), ← EReal.coe_mul, EReal.coe_add]

/-- The two weighted means agree, whatever the values: the kernel's weighted sum times the reciprocal of the sum of its
    weights, and the reference's sum weighted by exponentials of differences from the log-sum-exp. -/
theorem mean_eq (h : ∃ j, ok j) (c : ℝ) (hc : 0 < c) (v : ι → EReal) :
    (∑ j, kweight c (masked ok r) j * v j) * Ideal.div 1 (∑ j, kweight c (masked ok r) j)
      = ∑ j, v j * Ideal.exp (masked ok (fun j => r j * c) j - lse (masked ok fun j => r j * c)) := by
  obtain ⟨j, hj, e⟩ := top_masked ok r h
  have e' : top (masked ok fun j => r j * c) = ((r j * c : ℝ) : EReal) := by
    rw [top_scale ok r c hc, e, EReal.coe_mul]
  rw [lse_masked ok _ h _ e']
  unfold kweight
  rw [e]
  have hL := sum_weight_pos ok (fun j => r j * c) h (r j * c)
  simp only [exp2_masked ok r c _ hc]
  rw [← coe_sum]
  generalize hS : ∑ k, weight ok (fun j => r j * c) (r j * c) k = L at hL
  rw [Ideal.div_coe hL.ne', one_mul, sum_mul_coe _ (by positivity)]
  refine Finset.sum_congr rfl fun k _ => ?_
  rw [exp_masked, mul_comm (v k), mul_right_comm, ← EReal.coe_mul]
  congr 2
  unfold weight
  split
  · rw [← sub_sub, Real.exp_sub (_ - _), Real.exp_log hL]; ring
  · ring

/-- An admitted key's value is all that counts: the weight of a key not admitted is nought. -/
theorem kweight_mul_congr (h : ∃ j, ok j) (c : ℝ) (hc : 0 < c) (v w : ι → EReal) (hv : ∀ j, ok j → v j = w j) (j : ι) :
    kweight c (masked ok r) j * v j = kweight c (masked ok r) j * w j := by
  obtain ⟨k, hk, e⟩ := top_masked ok r h
  unfold kweight
  rw [e, exp2_masked ok r c _ hc]
  by_cases hj : ok j
  · rw [hv j hj]
  · simp [weight, hj]

end Softmax

end
-- ==== Proof.Stages.lean ====
/- The reference's stages, as the run leaves them: the rows of each residue stream, the bands of keys and values, the
   masked scores, their log-sum-exps and the two results. -/
module

public import Idealize.ShloMosaic.Lib.Pointwise
public import proofs.«01_k».proof.Proof.Gen.ReferenceIdeal

@[expose] public section

noncomputable section

namespace Cert.ReferenceIdeal.Stage

open Cert.ReferenceIdeal Cert.ReferenceIdeal.Gen Idealize.ShloMosaic

/-- The columns of the argument apart: queries, keys and values of every head. -/
def cols (x : FVec Ideal S8192x6144 .bf16) : FVec Ideal S1x8192x3x16x128 .f32 :=
  shapeCast _ (transpose S2048x4x6144 [1, 0, 2] (shapeCast _ (extf .f32 x bitsLt_bf16_f32) shapeCasts_S8192x6144_S4x2048x6144) transposes_S4x2048x6144_S2048x4x6144_1_0_2) shapeCasts_S2048x4x6144_S1x8192x3x16x128

/-- The queries of every stream, block by block. -/
def queries (x : FVec Ideal S8192x6144 .bf16) : FVec Ideal S1x4x16x128x16x128 .f32 :=
  shapeCast _ (pad S1x4x2048x16x128 ![0, 0, 0, 0, 0] ![0, 0, 0, 0, 0] ![0, 0, 0, 0, 0] (transpose S1x4x2048x16x128 [0, 2, 1, 3, 4] (shapeCast _ (shapeCast _ (extractStridedSlice S1x8192x1x16x128 ![0, 0, 0, 0, 0] (cols x) slices_S1x8192x3x16x128_S1x8192x1x16x128_0_0_0_0_0) shapeCasts_S1x8192x1x16x128_S1x8192x16x128) shapeCasts_S1x8192x16x128_S1x2048x4x16x128) transposes_S1x2048x4x16x128_S1x4x2048x16x128_0_2_1_3_4) (sitofp .f32 (constantI S_ 32 0#32)) pads_S1x4x2048x16x128_S1x4x2048x16x128_000_000_000_000_000 h_S_) shapeCasts_S1x4x2048x16x128_S1x4x16x128x16x128

/-- The keys of every stream, block by block. -/
def keys (x : FVec Ideal S8192x6144 .bf16) : FVec Ideal S1x4x16x128x16x128 .f32 :=
  shapeCast _ (pad S1x4x2048x16x128 ![0, 0, 0, 0, 0] ![0, 0, 0, 0, 0] ![0, 0, 0, 0, 0] (transpose S1x4x2048x16x128 [0, 2, 1, 3, 4] (shapeCast _ (shapeCast _ (extractStridedSlice S1x8192x1x16x128 ![0, 0, 1, 0, 0] (cols x) slices_S1x8192x3x16x128_S1x8192x1x16x128_0_0_1_0_0) shapeCasts_S1x8192x1x16x128_S1x8192x16x128) shapeCasts_S1x8192x16x128_S1x2048x4x16x128) transposes_S1x2048x4x16x128_S1x4x2048x16x128_0_2_1_3_4) (sitofp .f32 (constantI S_ 32 0#32)) pads_S1x4x2048x16x128_S1x4x2048x16x128_000_000_000_000_000 h_S_) shapeCasts_S1x4x2048x16x128_S1x4x16x128x16x128

/-- The values of every stream, block by block. -/
def values (x : FVec Ideal S8192x6144 .bf16) : FVec Ideal S1x4x16x128x16x128 .f32 :=
  shapeCast _ (pad S1x4x2048x16x128 ![0, 0, 0, 0, 0] ![0, 0, 0, 0, 0] ![0, 0, 0, 0, 0] (transpose S1x4x2048x16x128 [0, 2, 1, 3, 4] (shapeCast _ (shapeCast _ (extractStridedSlice S1x8192x1x16x128 ![0, 0, 2, 0, 0] (cols x) slices_S1x8192x3x16x128_S1x8192x1x16x128_0_0_2_0_0) shapeCasts_S1x8192x1x16x128_S1x8192x16x128) shapeCasts_S1x8192x16x128_S1x2048x4x16x128) transposes_S1x2048x4x16x128_S1x4x2048x16x128_0_2_1_3_4) (sitofp .f32 (constantI S_ 32 0#32)) pads_S1x4x2048x16x128_S1x4x2048x16x128_000_000_000_000_000 h_S_) shapeCasts_S1x4x2048x16x128_S1x4x16x128x16x128

/-- Every block's own rows behind the rows of the block before, which are zeros at a stream's first block. -/
def band (t : FVec Ideal S1x4x16x128x16x128 .f32) : FVec Ideal S1x4x16x256x16x128 .f32 :=
  concatenate S1x4x16x256x16x128 3 [⟨S1x4x16x128x16x128, (extractStridedSlice S1x4x16x128x16x128 ![0, 0, 0, 0, 0, 0] (pad S1x4x17x128x16x128 ![0, 0, 1, 0, 0, 0] ![0, 0, 0, 0, 0, 0] ![0, 0, 0, 0, 0, 0] t (sitofp .f32 (constantI S_ 32 0#32)) pads_S1x4x16x128x16x128_S1x4x17x128x16x128_000_000_100_000_000_000 h_S_) slices_S1x4x17x128x16x128_S1x4x16x128x16x128_0_0_0_0_0_0)⟩, ⟨S1x4x16x128x16x128, t⟩] concatenates_S1x4x16x128x16x128_S1x4x16x128x16x128_S1x4x16x256x16x128_d3

/-- How many steps back along its stream a key lies. -/
def steps : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Whether a key is in the window of a query, and there at all. -/
def admitted : IVec S1x4x16x16x128x256 1 :=
  broadcastInDim S1x4x16x16x128x256 ![2, 3, 4, 5] bcast_S16x1x128x256_S1x4x16x16x128x256_2_3_4_5 (broadcastInDim S16x1x128x256 ![0, 2, 3] bcast_S16x128x256_S16x1x128x256_0_2_3 (andi (broadcastInDim S16x128x256 ![0, 1, 2] bcast_S1x128x256_S16x128x256_0_1_2 (broadcastInDim S1x128x256 ![1, 2] bcast_S128x256_S1x128x256_1_2 (andi (cmpi .sge steps (broadcastInDim S128x256 ![] bcast_S_S128x256 (constantI S_ 32 0#32))) (cmpi .sle steps (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![2] bcast_S256_S1x1x256_2 (iotaInDim S256 32 0)) (broadcastInDim S1x1x256 ![] bcast_S_S1x1x256 (constantI S_ 32 128#32))))))))

/-- The heads' slopes. -/
def slopes : FVec Ideal S16 .f32 :=
  Host.exp (mulf (broadcastInDim S16 ![] bcast_S_S16 (Host.log (constant S_ .f32 0x40000000#32))) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32))))

/-- The linear bias. -/
def bias : FVec Ideal S1x4x16x16x128x256 .f32 :=
  broadcastInDim S1x4x16x16x128x256 ![0, 1, 2, 3, 4, 5] bcast_S1x1x1x16x128x256_S1x4x16x16x128x256_0_1_2_3_4_5 (broadcastInDim S1x1x1x16x128x256 ![3, 4, 5] bcast_S16x128x256_S1x1x1x16x128x256_3_4_5 (mulf (broadcastInDim S16x128x256 ![0, 1, 2] bcast_S16x1x1_S16x128x256_0_1_2 (Host.negf (broadcastInDim S16x1x1 ![0] bcast_S16_S16x1x1_0 slopes))) (broadcastInDim S16x128x256 ![0, 1, 2] bcast_S1x128x256_S16x128x256_0_1_2 (broadcastInDim S1x128x256 ![1, 2] bcast_S128x256_S1x128x256_1_2 (sitofp .f32 (muli steps (broadcastInDim S128x256 ![] bcast_S_S128x256 (constantI S_ 32 4#32))))))))

/-- The scaled products of queries and keys. -/
def dots (x : FVec Ideal S8192x6144 .bf16) : FVec Ideal S1x4x16x16x128x256 .f32 :=
  Host.divf (Host.dotGeneral dot_S1x4x16x128x16x128_S1x4x16x256x16x128_S1x4x16x16x128x256_5_5_3_3_0124_0124 none (queries x) (band (keys x))) (broadcastInDim S1x4x16x16x128x256 ![] bcast_S_S1x4x16x16x128x256 (Host.sqrt (constant S_ .f32 0x43000000#32)))

/-- The masked scores. -/
def scores (x : FVec Ideal S8192x6144 .bf16) : FVec Ideal S1x4x16x16x128x256 .f32 :=
  select admitted (addf (dots x) bias) (broadcastInDim S1x4x16x16x128x256 ![] bcast_S_S1x4x16x16x128x256 (id (constant S_ .f32 0xFF800000#32)))

/-- Their maxima. -/
def tops (s : FVec Ideal S1x4x16x16x128x256 .f32) : FVec Ideal S1x4x16x16x128 .f32 :=
  Host.reduce FloatOps.maximumf s (constant S_ .f32 0xFF800000#32) reducesTo_S1x4x16x16x128x256_S1x4x16x16x128_d5 h_S_

/-- One number per row, along the row. -/
def spread (t : FVec Ideal S1x4x16x16x128 .f32) : FVec Ideal S1x4x16x16x128x256 .f32 :=
  broadcastInDim S1x4x16x16x128x256 ![0, 1, 2, 3, 4, 5] bcast_S1x4x16x16x128x1_S1x4x16x16x128x256_0_1_2_3_4_5 (broadcastInDim S1x4x16x16x128x1 ![0, 1, 2, 3, 4] bcast_S1x4x16x16x128_S1x4x16x16x128x1_0_1_2_3_4 t)

/-- The exponentials of the scores less a number per row. -/
def weights (s : FVec Ideal S1x4x16x16x128x256 .f32) (t : FVec Ideal S1x4x16x16x128 .f32) : FVec Ideal S1x4x16x16x128x256 .f32 :=
  Host.exp (subf s (spread t))

/-- The sums of rows. -/
def sums (w : FVec Ideal S1x4x16x16x128x256 .f32) : FVec Ideal S1x4x16x16x128 .f32 :=
  Host.reduceAdd w (constant S_ .f32 0x00000000#32) reducesTo_S1x4x16x16x128x256_S1x4x16x16x128_d5 h_S_

/-- The log-sum-exps of the scores. -/
def lses (s : FVec Ideal S1x4x16x16x128x256 .f32) : FVec Ideal S1x4x16x16x128 .f32 :=
  addf (tops s) (Host.log (sums (weights s (tops s))))

/-- Every head's weighted values. -/
def means (w : FVec Ideal S1x4x16x16x128x256 .f32) (v : FVec Ideal S1x4x16x256x16x128 .f32) : FVec Ideal S1x4x16x16x128x128 .f32 :=
  Host.dotGeneral dot_S1x4x16x256x16x128_S1x4x16x16x128x256_S1x4x16x16x128x128_3_5_5_4_0124_0123 none v w

/-- The blocks of a stream in a row. -/
def streams (z : FVec Ideal S1x4x16x16x128x128 .f32) : FVec Ideal S1x4x2048x16x128 .f32 :=
  shapeCast _ (transpose S1x4x16x128x16x128 [0, 1, 2, 5, 3, 4] z transposes_S1x4x16x16x128x128_S1x4x16x128x16x128_0_1_2_5_3_4) shapeCasts_S1x4x16x128x16x128_S1x4x2048x16x128

/-- The streams interleaved. -/
def places (z : FVec Ideal S1x4x2048x16x128 .f32) : FVec Ideal S2048x8192 .f32 :=
  shapeCast _ (shapeCast _ (transpose S1x2048x4x16x128 [0, 2, 1, 3, 4] z transposes_S1x4x2048x16x128_S1x2048x4x16x128_0_2_1_3_4) shapeCasts_S1x2048x4x16x128_S1x8192x16x128) shapeCasts_S1x8192x16x128_S2048x8192

/-- The first result of the scores and the bands of values. -/
def mixes (s : FVec Ideal S1x4x16x16x128x256 .f32) (v : FVec Ideal S1x4x16x256x16x128 .f32) : FVec Ideal S2048x8192 .f32 :=
  places (streams (means (weights s (lses s)) v))

/-- The rows of a stream in a row, a head per lane. -/
def heads (l : FVec Ideal S1x4x16x16x128 .f32) : FVec Ideal S1x4x2048x16 .f32 :=
  shapeCast _ (transpose S1x4x16x128x16 [0, 1, 2, 4, 3] l transposes_S1x4x16x16x128_S1x4x16x128x16_0_1_2_4_3) shapeCasts_S1x4x16x128x16_S1x4x2048x16

/-- The streams interleaved, the lanes filled up. -/
def filled (l : FVec Ideal S1x4x2048x16 .f32) : FVec Ideal S2048x512 .f32 :=
  shapeCast _ (pad S1x8192x128 ![0, 0, 0] ![0, 0, 112] ![0, 0, 0] (shapeCast _ (transpose S1x2048x4x16 [0, 2, 1, 3] l transposes_S1x4x2048x16_S1x2048x4x16_0_2_1_3) shapeCasts_S1x2048x4x16_S1x8192x16) (sitofp .f32 (constantI S_ 32 0#32)) pads_S1x8192x16_S1x8192x128_000_000_01120 h_S_) shapeCasts_S1x8192x128_S2048x512

/-- The second result of the log-sum-exps. -/
def lanes (l : FVec Ideal S1x4x16x16x128 .f32) : FVec Ideal S2048x512 .f32 :=
  filled (heads l)

end Cert.ReferenceIdeal.Stage
-- ==== Proof.Rows.lean ====
/- The rows and bands of the reference at an index. -/
module

public import proofs.«01_k».proof.Proof.Stages
public import Idealize.ShloMosaic.Lib.Pipeline.ValueKit

@[expose] public section

noncomputable section

namespace Cert.ReferenceIdeal.Stage

open Cert.ReferenceIdeal Cert.ReferenceIdeal.Gen Idealize.ShloMosaic

variable (a : Fin 4) (b : Fin 16) (h : Fin 16) (r e : Fin 128) (j : Fin 256)

/-- The zero that fills the padding. -/
theorem fill : (FloatOps.sitofp .f32 0#32 : Ideal .f32) = 0 := by
  show (((0#32 : BitVec 32).toInt : ℝ) : EReal) = 0
  simp

theorem queries_apply (x : FVec Ideal S8192x6144 .bf16) :
    queries x (ix6 0 a b r h e) = x (ix2 ⟨2048 * a.val + 128 * b.val + r.val, by omega⟩ ⟨128 * h.val + e.val, by omega⟩) := by
  pointwise [queries, cols]
  rw [dif_pos (by omega)]
  refine congrArg x (funext fun k => Fin.ext ?_)
  match k with
  | ⟨0, _⟩ => show a.val * 2048 + ((b.val * 128 + r.val) * 4 + a.val) / 4 = 2048 * a.val + 128 * b.val + r.val; omega
  | ⟨1, _⟩ => show h.val * 128 + e.val = 128 * h.val + e.val; omega

theorem keys_apply (x : FVec Ideal S8192x6144 .bf16) :
    keys x (ix6 0 a b r h e) = x (ix2 ⟨2048 * a.val + 128 * b.val + r.val, by omega⟩ ⟨2048 + 128 * h.val + e.val, by omega⟩) := by
  pointwise [keys, cols]
  rw [dif_pos (by omega)]
  refine congrArg x (funext fun k => Fin.ext ?_)
  match k with
  | ⟨0, _⟩ => show a.val * 2048 + ((b.val * 128 + r.val) * 4 + a.val) / 4 = 2048 * a.val + 128 * b.val + r.val; omega
  | ⟨1, _⟩ => show 2048 + h.val * 128 + e.val = 2048 + 128 * h.val + e.val; omega

theorem values_apply (x : FVec Ideal S8192x6144 .bf16) :
    values x (ix6 0 a b r h e) = x (ix2 ⟨2048 * a.val + 128 * b.val + r.val, by omega⟩ ⟨4096 + 128 * h.val + e.val, by omega⟩) := by
  pointwise [values, cols]
  rw [dif_pos (by omega)]
  refine congrArg x (funext fun k => Fin.ext ?_)
  match k with
  | ⟨0, _⟩ => show a.val * 2048 + ((b.val * 128 + r.val) * 4 + a.val) / 4 = 2048 * a.val + 128 * b.val + r.val; omega
  | ⟨1, _⟩ => show 4096 + h.val * 128 + e.val = 4096 + 128 * h.val + e.val; omega

theorem band_apply (t : FVec Ideal S1x4x16x128x16x128 .f32) :
    band t (ix6 0 a b j h e) = if hj : j.val < 128 then (if hb : 0 < b.val then t (ix6 0 a ⟨b.val - 1, by omega⟩ ⟨j.val, hj⟩ h e) else 0)
      else t (ix6 0 a b ⟨j.val - 128, by omega⟩ h e) := by
  pointwise [band]
  by_cases hj : j.val < 128
  · rw [dif_pos hj, dif_pos hj]
    by_cases hb : 0 < b.val
    · rw [dif_pos ⟨⟨hb, by omega⟩, hj⟩, dif_pos hb]
    · rw [dif_neg (by omega), dif_neg hb, fill]
  · rw [dif_neg hj, dif_neg hj]

end Cert.ReferenceIdeal.Stage
-- ==== Proof.Scores.lean ====
/- The reference's masked scores and their log-sum-exps at an index. -/
module

public import proofs.«01_k».proof.Proof.Stages
public import Idealize.ShloMosaic.Lib.Pipeline.ValueKit
public import Idealize.ShloMosaic.Lib.WordCmp

@[expose] public section

noncomputable section

namespace Cert.ReferenceIdeal.Stage

open Cert.ReferenceIdeal Cert.ReferenceIdeal.Gen Idealize.ShloMosaic

variable (a : Fin 4) (b : Fin 16) (h : Fin 16) (r e : Fin 128) (j : Fin 256)

theorem steps_apply : steps (ix2 r j) = BitVec.ofNat 32 (r.val + 128) - BitVec.ofNat 32 j.val := by
  pointwise [steps]
  rw [BitVec.ofNat_add]
  rfl

theorem window (p q : Prop) [Decidable p] [Decidable q] : IntOp.andi (BitVec.ofBool (decide p)) (BitVec.ofBool (decide q)) = BitVec.ofBool (decide (p ∧ q)) := by
  by_cases p <;> by_cases q <;> simp [*] <;> rfl

theorem either (p q : Prop) [Decidable p] [Decidable q] : IntOp.ori (BitVec.ofBool (decide p)) (BitVec.ofBool (decide q)) = BitVec.ofBool (decide (p ∨ q)) := by
  by_cases p <;> by_cases q <;> simp [*] <;> rfl

theorem toInt_small (n : ℕ) (hn : n < 2 ^ 31) : (BitVec.ofNat 32 n).toInt = (n : Int) := by
  rw [BitVec.toInt_eq_toNat_of_lt, BitVec.toNat_ofNat, Nat.mod_eq_of_lt (by omega)]
  rw [BitVec.toNat_ofNat]; omega

theorem steps_toInt : (steps (ix2 r j)).toInt = (r.val : Int) + 128 - j.val := by
  rw [steps_apply, BitVec.toInt_sub, toInt_small _ (by omega), toInt_small _ (by omega), Int.bmod_eq_of_le] <;> push_cast <;> omega

theorem sge_steps : IntOp.cmpi .sge (steps (ix2 r j)) 0#32 = BitVec.ofBool (decide (j.val ≤ r.val + 128)) := by
  rw [WordCmp.cmpi_sge_eq, steps_toInt, toInt_small 0 (by norm_num)]
  congr 1
  rw [decide_eq_decide]
  push_cast
  omega

theorem sle_steps : IntOp.cmpi .sle (steps (ix2 r j)) 128#32 = BitVec.ofBool (decide (r.val ≤ j.val)) := by
  rw [WordCmp.cmpi_sle_eq, steps_toInt, toInt_small 128 (by norm_num)]
  congr 1
  rw [decide_eq_decide]
  push_cast
  omega

theorem admitted_apply : admitted (ix6 0 a b h r j) = BitVec.ofBool (decide ((j.val ≤ r.val + 128 ∧ r.val ≤ j.val) ∧ (0 < b.val ∨ 128 ≤ j.val))) := by
  pointwise [admitted]
  rw [sge_steps, sle_steps, WordCmp.cmpi_sgt_ofNat (by omega) (by omega), WordCmp.cmpi_sge_ofNat (by omega) (by omega), window, either, window]

theorem bits_two : Ideal.ofBits .f32 0x40000000#32 = ((2 : ℝ) : EReal) := by simp [Ideal.ofBits, Ideal.ieee, -EReal.coe_mul]; norm_num
theorem bits_neg_eight : Ideal.ofBits .f32 0xC1000000#32 = ((-8 : ℝ) : EReal) := by simp [Ideal.ofBits, Ideal.ieee, -EReal.coe_mul]; norm_num
theorem bits_sixteen : Ideal.ofBits .f32 0x41800000#32 = ((16 : ℝ) : EReal) := by simp [Ideal.ofBits, Ideal.ieee, -EReal.coe_mul]; norm_num
theorem bits_128 : Ideal.ofBits .f32 0x43000000#32 = ((128 : ℝ) : EReal) := by simp [Ideal.ofBits, Ideal.ieee, -EReal.coe_mul]; norm_num
theorem bits_bot : Ideal.ofBits .f32 0xFF800000#32 = (⊥ : EReal) := by simp [Ideal.ofBits, Ideal.ieee]

theorem slopes_apply : slopes (ix1 h) = ((Real.exp (Real.log 2 * (-8 * (1 + (h.val : ℝ)) / 16)) : ℝ) : EReal) := by
  pointwise [slopes]
  have hs : (FloatOps.sitofp .f32 (BitVec.ofNat 32 h.val) : Ideal .f32) = ((h.val : ℝ) : EReal) := by
    show (((BitVec.ofNat 32 h.val).toInt : ℝ) : EReal) = _
    rw [toInt_small _ (by omega)]; simp
  rw [bits_two, bits_neg_eight, bits_sixteen, hs, ← EReal.coe_one, ← EReal.coe_add, ← EReal.coe_mul, Ideal.div_coe (by norm_num),
    ← EReal.coe_mul, Ideal.log_coe, if_neg (by norm_num), ← EReal.coe_mul, Ideal.exp_coe]
  norm_num [div_eq_mul_inv]

theorem bias_apply : bias (ix6 0 a b h r j) = - slopes (ix1 h) * ((((steps (ix2 r j)) * 4#32).toInt : ℝ) : EReal) := by
  pointwise [bias]
  rfl

theorem dots_apply (x : FVec Ideal S8192x6144 .bf16) : dots x (ix6 0 a b h r j) = Ideal.div (∑ e : Fin 128, queries x (ix6 0 a b r h e) * band (keys x) (ix6 0 a b j h e)) ((Real.sqrt 128 : ℝ) : EReal) := by
  pointwise [dots]
  rw [bits_128, Ideal.sqrt_coe, if_neg (by norm_num)]

theorem scores_apply (x : FVec Ideal S8192x6144 .bf16) : scores x (ix6 0 a b h r j) = Scalar.select (admitted (ix6 0 a b h r j)) (dots x (ix6 0 a b h r j) + bias (ix6 0 a b h r j)) (⊥ : EReal) := by
  pointwise [scores]
  show Scalar.select _ _ (Ideal.ofBits .f32 0xFF800000#32) = _
  rw [bits_bot]

theorem tops_apply (s : FVec Ideal S1x4x16x16x128x256 .f32) : tops s (ix5 0 a b h r) = Finset.univ.fold max (⊥ : EReal) (fun j : Fin 256 => s (ix6 0 a b h r j)) := by
  unfold tops
  rw [Host.reduce_eq_fold_single _ _ _ _ (by decide)]
  show Finset.univ.fold max (Ideal.ofBits .f32 0xFF800000#32) _ = _
  rw [bits_bot]
  refine congrArg (fun f => Finset.univ.fold max (⊥ : EReal) f) (funext fun k => ?_)
  exact congrArg s (funext fun i => Fin.ext (by
    match i with
    | ⟨0, _⟩ => rfl
    | ⟨1, _⟩ => rfl
    | ⟨2, _⟩ => rfl
    | ⟨3, _⟩ => rfl
    | ⟨4, _⟩ => rfl
    | ⟨5, _⟩ => rfl))

theorem sums_apply (w : FVec Ideal S1x4x16x16x128x256 .f32) : sums w (ix5 0 a b h r) = 0 + ∑ j : Fin 256, w (ix6 0 a b h r j) := by
  simp only [sums, Host.reduceAdd, Ideal.hostReduceAdd_def]
  rw [Ideal.hostReduceAdd_single reducesTo_S1x4x16x16x128x256_S1x4x16x16x128_d5 (by decide)]
  refine congrArg₂ (· + ·) Ideal.ofBits_zero_f32 (Finset.sum_congr rfl fun k _ => ?_)
  exact congrArg w (funext fun i => Fin.ext (by
    match i with
    | ⟨0, _⟩ => rfl
    | ⟨1, _⟩ => rfl
    | ⟨2, _⟩ => rfl
    | ⟨3, _⟩ => rfl
    | ⟨4, _⟩ => rfl
    | ⟨5, _⟩ => rfl))

theorem weights_apply (s : FVec Ideal S1x4x16x16x128x256 .f32) (t : FVec Ideal S1x4x16x16x128 .f32) :
    weights s t (ix6 0 a b h r j) = Ideal.exp (s (ix6 0 a b h r j) - t (ix5 0 a b h r)) := by
  pointwise [weights, spread]

theorem plus_log (t u : FVec Ideal S1x4x16x16x128 .f32) (i : S1x4x16x16x128.Idx) : addf t (Host.log u) i = t i + Ideal.log (u i) := rfl

theorem lses_apply (s : FVec Ideal S1x4x16x16x128x256 .f32) : lses s (ix5 0 a b h r)
    = tops s (ix5 0 a b h r) + Ideal.log (0 + ∑ j : Fin 256, Ideal.exp (s (ix6 0 a b h r j) - tops s (ix5 0 a b h r))) := by
  unfold lses
  generalize tops s = t
  rw [plus_log, sums_apply]
  simp only [weights_apply]

end Cert.ReferenceIdeal.Stage
-- ==== Proof.Places.lean ====
/- The placing of the reference's results at an index. -/
module

public import proofs.«01_k».proof.Proof.Scores
public import Idealize.ShloMosaic.Lib.Pipeline.ValueKit

@[expose] public section

noncomputable section

namespace Cert.ReferenceIdeal.Stage

open Cert.ReferenceIdeal Cert.ReferenceIdeal.Gen Idealize.ShloMosaic

variable (a : Fin 4) (b : Fin 16) (h : Fin 16) (r e : Fin 128) (j : Fin 256)

theorem means_apply (w : FVec Ideal S1x4x16x16x128x256 .f32) (v : FVec Ideal S1x4x16x256x16x128 .f32) :
    means w v (ix6 0 a b h e r) = ∑ j : Fin 256, v (ix6 0 a b j h e) * w (ix6 0 a b h r j) := by
  pointwise [means]

theorem streams_apply (z : FVec Ideal S1x4x16x16x128x128 .f32) :
    streams z (ix5 0 a ⟨128 * b.val + r.val, by omega⟩ h e) = z (ix6 0 a b h e r) := by
  pointwise [streams]

theorem places_apply (z : FVec Ideal S1x4x2048x16x128 .f32) (p : Fin 2048) :
    places z (ix2 p ⟨2048 * a.val + (128 * h.val + e.val), by omega⟩) = z (ix5 0 a p h e) := by
  pointwise [places]

theorem heads_apply (l : FVec Ideal S1x4x16x16x128 .f32) :
    heads l (ix4 0 a ⟨128 * b.val + r.val, by omega⟩ h) = l (ix5 0 a b h r) := by
  pointwise [heads]

theorem filled_apply (l : FVec Ideal S1x4x2048x16 .f32) (p : Fin 2048) :
    filled l (ix2 p ⟨128 * a.val + e.val, by omega⟩) = if he : e.val < 16 then l (ix4 0 a p ⟨e.val, he⟩) else 0 := by
  pointwise [filled]
  by_cases he : e.val < 16
  · rw [dif_pos ⟨by omega, he⟩, dif_pos he]
  · rw [dif_neg (fun hh => he hh.2), dif_neg he]
    show (((0#32 : BitVec 32).toInt : ℝ) : EReal) = 0
    simp

theorem mixes_apply (s : FVec Ideal S1x4x16x16x128x256 .f32) (v : FVec Ideal S1x4x16x256x16x128 .f32) :
    mixes s v (ix2 ⟨128 * b.val + r.val, by omega⟩ ⟨2048 * a.val + (128 * h.val + e.val), by omega⟩)
      = ∑ j : Fin 256, v (ix6 0 a b j h e) * Ideal.exp (s (ix6 0 a b h r j) - lses s (ix5 0 a b h r)) := by
  unfold mixes
  generalize lses s = l
  rw [places_apply, streams_apply, means_apply]
  simp only [weights_apply]

theorem lanes_apply (l : FVec Ideal S1x4x16x16x128 .f32) :
    lanes l (ix2 ⟨128 * b.val + r.val, by omega⟩ ⟨128 * a.val + e.val, by omega⟩)
      = if he : e.val < 16 then l (ix5 0 a b ⟨e.val, he⟩ r) else 0 := by
  unfold lanes
  rw [filled_apply]
  simp only [heads_apply]

end Cert.ReferenceIdeal.Stage
-- ==== Proof.Head.lean ====
/- One head of one block of the kernel's banded attention as one function of its slices: the 128 queries, the keys and
   values of the block before and of the block itself, the two arrays of distances, and the head's slope. What the body
   stores for a head is this function, and its entries are the row quantities of Softmax.lean over the 256 keys. -/
module

public import proofs.«01_k».proof.Proof.Softmax

@[expose] public section

noncomputable section

namespace Head

open Idealize.ShloMosaic

abbrev B : Shape := ⟨2, ![128, 128]⟩
abbrev B1 : Shape := ⟨2, ![128, 1]⟩
abbrev V1 : Shape := ⟨1, ![128]⟩

theorem hred : B.Reduces [1] V1 := by decide
theorem hcast : V1.ShapeCasts B1 := by decide
theorem hbc : B1.Broadcasts B := by decide

/-- Scaled scores of 128 queries against 128 keys, less the slope times the distance. -/
def score (c : Ideal .f32) (D : FVec Ideal B .f32) (q k : FVec Ideal B .bf16) : FVec Ideal B .f32 :=
  subf (matmul (DotDims.transposedRhs 128 128 128) none q k (constant B .f32 0x00000000#32)) (mulf (broadcast B c) D)

/-- The row maxima of two blocks of scores. -/
def rowMax (tp tc : FVec Ideal B .f32) : FVec Ideal B1 .f32 :=
  shapeCast B1 (multiReduction .maximumf [1] V1 (maximumf tp tc) 0xFF800000#32 hred (.inl rfl) rfl) hcast

/-- The weights of a block of scores against the row maxima. -/
def wts (a : Ideal .f32) (t : FVec Ideal B .f32) (m : FVec Ideal B1 .f32) : FVec Ideal B .bf16 :=
  truncf .bf16 (exp2 (mulf (subf t (broadcastTo B m hbc)) (broadcast B a))) (by decide)

/-- Two blocks of weights against two blocks of values. -/
def mix (pp pc vp vc : FVec Ideal B .bf16) : FVec Ideal B .f32 :=
  addf (matmul (DotDims.plain 128 128 128) none pp vp (constant B .f32 0x00000000#32))
    (matmul (DotDims.plain 128 128 128) none pc vc (constant B .f32 0x00000000#32))

/-- A block of ones. -/
def ones : FVec Ideal B .bf16 := broadcast B (Scalar.ofBits .bf16 0x3F80#16)

/-- The weights of the block before and of the block itself. -/
def wtsP (a c : Ideal .f32) (dp dc : FVec Ideal B .f32) (q kp kc : FVec Ideal B .bf16) : FVec Ideal B .bf16 :=
  wts a (score c dp q kp) (rowMax (score c dp q kp) (score c dc q kc))
def wtsC (a c : Ideal .f32) (dp dc : FVec Ideal B .f32) (q kp kc : FVec Ideal B .bf16) : FVec Ideal B .bf16 :=
  wts a (score c dc q kc) (rowMax (score c dp q kp) (score c dc q kc))

/-- A head's output block. -/
def out (a c : Ideal .f32) (dp dc : FVec Ideal B .f32) (q kp kc vp vc : FVec Ideal B .bf16) : FVec Ideal B .f32 :=
  mulf (mix (wtsP a c dp dc q kp kc) (wtsC a c dp dc q kp kc) vp vc)
    (divf (broadcast B (Scalar.ofBits .f32 0x3F800000#32)) (mix (wtsP a c dp dc q kp kc) (wtsC a c dp dc q kp kc) ones ones))

/-- A head's log-sum-exps, the same in every lane. -/
def lse (a c z : Ideal .f32) (dp dc : FVec Ideal B .f32) (q kp kc : FVec Ideal B .bf16) : FVec Ideal B .f32 :=
  addf (broadcastTo B (mulf (rowMax (score c dp q kp) (score c dc q kc)) (broadcast B1 z)) hbc)
    (log (mix (wtsP a c dp dc q kp kc) (wtsC a c dp dc q kp kc) ones ones))

/-! ## The entries -/

/-- The 256 scores of query `i`: the block before, then the block itself. -/
def row (c : Ideal .f32) (dp dc : FVec Ideal B .f32) (q kp kc : FVec Ideal B .bf16) (i : Fin 128) (j : Fin 256) : EReal :=
  if h : j.val < 128 then (∑ e : Fin 128, q (ix2 i e) * kp (ix2 ⟨j.val, h⟩ e)) - c * dp (ix2 i ⟨j.val, h⟩)
  else (∑ e : Fin 128, q (ix2 i e) * kc (ix2 ⟨j.val - 128, by omega⟩ e)) - c * dc (ix2 i ⟨j.val - 128, by omega⟩)

/-- The 256 values of lane `e`. -/
def vals (vp vc : FVec Ideal B .bf16) (e : Fin 128) (j : Fin 256) : EReal :=
  if h : j.val < 128 then vp (ix2 ⟨j.val, h⟩ e) else vc (ix2 ⟨j.val - 128, by omega⟩ e)

theorem score_apply (c : Ideal .f32) (D : FVec Ideal B .f32) (q k : FVec Ideal B .bf16) (i j : Fin 128) :
    score c D q k (ix2 i j) = (∑ e : Fin 128, q (ix2 i e) * k (ix2 j e)) - c * D (ix2 i j) := by
  pointwise [score]

theorem fold_two (f : Fin 256 → EReal) (g h : Fin 128 → EReal) (hg : ∀ j : Fin 128, f ⟨j.val, by omega⟩ = g j)
    (hh : ∀ j : Fin 128, f ⟨j.val + 128, by omega⟩ = h j) :
    Finset.univ.fold max ⊥ (fun k : Fin 128 => max (g k) (h k)) = Softmax.top f := by
  rw [Softmax.top_eq_sup]
  show Finset.univ.sup (fun k : Fin 128 => g k ⊔ h k) = _
  refine le_antisymm (Finset.sup_le fun k _ => sup_le ?_ ?_) (Finset.sup_le fun j _ => ?_)
  · rw [← hg k]; exact Finset.le_sup (f := f) (Finset.mem_univ _)
  · rw [← hh k]; exact Finset.le_sup (f := f) (Finset.mem_univ _)
  · by_cases hj : j.val < 128
    · refine le_trans ?_ (Finset.le_sup (f := fun k : Fin 128 => g k ⊔ h k) (Finset.mem_univ ⟨j.val, hj⟩))
      refine le_trans (le_of_eq ?_) le_sup_left
      rw [← hg]
    · refine le_trans ?_ (Finset.le_sup (f := fun k : Fin 128 => g k ⊔ h k) (Finset.mem_univ ⟨j.val - 128, by omega⟩))
      refine le_trans (le_of_eq ?_) le_sup_right
      rw [← hh]; congr 1; apply Fin.ext; show j.val = j.val - 128 + 128; omega

theorem rowMax_apply (c : Ideal .f32) (dp dc : FVec Ideal B .f32) (q kp kc : FVec Ideal B .bf16) (i : Fin 128) :
    rowMax (score c dp q kp) (score c dc q kc) (ix2 i 0) = Softmax.top (row c dp dc q kp kc i) := by
  pointwise [rowMax, score_apply]
  exact fold_two _ _ _ (fun j => by simp [row]) (fun j => by simp [row])

theorem wts_apply (a : Ideal .f32) (t : FVec Ideal B .f32) (m : FVec Ideal B1 .f32) (i j : Fin 128) :
    wts a t m (ix2 i j) = Ideal.exp2 ((t (ix2 i j) - m (ix2 i 0)) * a) := by
  pointwise [wts]
  rfl

theorem mix_apply (pp pc vp vc : FVec Ideal B .bf16) (i e : Fin 128) :
    mix pp pc vp vc (ix2 i e) = (∑ j, pp (ix2 i j) * vp (ix2 j e)) + ∑ j, pc (ix2 i j) * vc (ix2 j e) := by
  pointwise [mix]

theorem ones_apply (i : Fin 128) (e : Fin 128) : ones (ix2 i e) = 1 := by
  pointwise [ones]

/-- A sum over the 256 keys is the sum over the block before plus the sum over the block itself. -/
theorem sum_two (f : Fin 256 → EReal) :
    (∑ j : Fin 128, f ⟨j.val, by omega⟩) + (∑ j : Fin 128, f ⟨j.val + 128, by omega⟩) = ∑ j, f j := by
  rw [Fin.sum_univ_two_halves 128 128 rfl f]
  simp only [Nat.add_comm 128]

theorem mix_wts (a : ℝ) (c : Ideal .f32) (dp dc : FVec Ideal B .f32) (q kp kc vp vc : FVec Ideal B .bf16) (i e : Fin 128) :
    mix (wtsP (((Real.log 2)⁻¹ * a : ℝ) : EReal) c dp dc q kp kc) (wtsC (((Real.log 2)⁻¹ * a : ℝ) : EReal) c dp dc q kp kc) vp vc (ix2 i e)
      = ∑ j, Softmax.kweight a (row c dp dc q kp kc i) j * vals vp vc e j := by
  rw [mix_apply, ← sum_two]
  congr 1
  · refine Finset.sum_congr rfl fun j _ => ?_
    rw [wtsP, wts_apply, rowMax_apply, score_apply]
    simp [Softmax.kweight, row, vals]
  · refine Finset.sum_congr rfl fun j _ => ?_
    rw [wtsC, wts_apply, rowMax_apply, score_apply]
    simp [Softmax.kweight, row, vals]

theorem vals_ones (e : Fin 128) (j : Fin 256) : vals ones ones e j = 1 := by
  unfold vals; split <;> exact ones_apply _ _

/-- An entry of a head's output block. -/
theorem out_apply (a : ℝ) (c : Ideal .f32) (dp dc : FVec Ideal B .f32) (q kp kc vp vc : FVec Ideal B .bf16) (i e : Fin 128) :
    out (((Real.log 2)⁻¹ * a : ℝ) : EReal) c dp dc q kp kc vp vc (ix2 i e)
      = (∑ j, Softmax.kweight a (row c dp dc q kp kc i) j * vals vp vc e j)
        * Ideal.div 1 (∑ j, Softmax.kweight a (row c dp dc q kp kc i) j) := by
  pointwise [out, mix_wts, vals_ones]

/-- An entry of a head's log-sum-exps. -/
theorem lse_apply (a : ℝ) (c z : Ideal .f32) (dp dc : FVec Ideal B .f32) (q kp kc : FVec Ideal B .bf16) (i e : Fin 128) :
    lse (((Real.log 2)⁻¹ * a : ℝ) : EReal) c z dp dc q kp kc (ix2 i e)
      = Softmax.top (row c dp dc q kp kc i) * z + Ideal.log (∑ j, Softmax.kweight a (row c dp dc q kp kc i) j) := by
  pointwise [lse, rowMax_apply, mix_wts, vals_ones]

end Head

end
-- ==== Proof.Block.lean ====
/- What one grid point stores, read at an index: head `h` of the output block is Head.lean's function of the lane
   slices of the point's five input blocks, and lane `h` of the log-sum-exp block is that head's. -/
module

public import proofs.«01_k».proof.Proof.Head
public import Idealize.ShloMosaic.Lib.Pipeline.ValueKit
public import proofs.«01_k».proof.Proof.Gen.KernelIdeal.Frame

@[expose] public section

set_option maxRecDepth 16384

noncomputable section

namespace Cert.KernelIdeal.Block

open Cert.KernelIdeal Cert.KernelIdeal.Gen Idealize.ShloMosaic

/-- The factor of the differences in the exponents. -/
def A : Ideal .f32 := Named.named κ "log2e_inv_sqrt_e" 0x3E0293EE#32

/-- The heads' scaled slopes, as printed. -/
def C : Fin 16 → Ideal .f32 :=
  ![Scalar.ofBits .f32 0x41000000#32, Named.named κ "slope2" 0x40B504F3#32, Scalar.ofBits .f32 0x40800000#32, Named.named κ "slope4" 0x403504F3#32, Scalar.ofBits .f32 0x40000000#32, Named.named κ "slope6" 0x3FB504F3#32, Scalar.ofBits .f32 0x3F800000#32, Named.named κ "slope8" 0x3F3504F3#32, Scalar.ofBits .f32 0x3F000000#32, Named.named κ "slope10" 0x3EB504F3#32, Scalar.ofBits .f32 0x3E800000#32, Named.named κ "slope12" 0x3E3504F3#32, Scalar.ofBits .f32 0x3E000000#32, Named.named κ "inv_sqrt_e" 0x3DB504F3#32, Scalar.ofBits .f32 0x3D800000#32, Named.named κ "slope16" 0x3D3504F3#32]

/-- Head `h`'s lanes of a block of 16 heads. -/
def lanes (x : Vec Ideal S128x2048 .bf16) (h : Fin 16) : FVec Ideal Head.B .bf16 :=
  fun y => x (ix2 (y 0) ⟨128 * h.val + (y 1).val, by have : (y 1).val < 128 := (y 1).isLt; omega⟩)

variable (i : grid0.Coords) (x0 x1 x2 x3 x4 : Vec Ideal S128x2048 .bf16)

theorem out0_5_eq : out0_5 i x0 x1 x2 x3 x4 = View.canon [
      ⟨r0_15, Head.out A (C 15) (k0_pay3 i) k0_pay4 (View.ld x0 r0_15) (View.ld x1 r0_15) (View.ld x2 r0_15) (View.ld x3 r0_15) (View.ld x4 r0_15)⟩,
      ⟨r0_14, Head.out A (C 14) (k0_pay3 i) k0_pay4 (View.ld x0 r0_14) (View.ld x1 r0_14) (View.ld x2 r0_14) (View.ld x3 r0_14) (View.ld x4 r0_14)⟩,
      ⟨r0_13, Head.out A (C 13) (k0_pay3 i) k0_pay4 (View.ld x0 r0_13) (View.ld x1 r0_13) (View.ld x2 r0_13) (View.ld x3 r0_13) (View.ld x4 r0_13)⟩,
      ⟨r0_12, Head.out A (C 12) (k0_pay3 i) k0_pay4 (View.ld x0 r0_12) (View.ld x1 r0_12) (View.ld x2 r0_12) (View.ld x3 r0_12) (View.ld x4 r0_12)⟩,
      ⟨r0_11, Head.out A (C 11) (k0_pay3 i) k0_pay4 (View.ld x0 r0_11) (View.ld x1 r0_11) (View.ld x2 r0_11) (View.ld x3 r0_11) (View.ld x4 r0_11)⟩,
      ⟨r0_10, Head.out A (C 10) (k0_pay3 i) k0_pay4 (View.ld x0 r0_10) (View.ld x1 r0_10) (View.ld x2 r0_10) (View.ld x3 r0_10) (View.ld x4 r0_10)⟩,
      ⟨r0_9, Head.out A (C 9) (k0_pay3 i) k0_pay4 (View.ld x0 r0_9) (View.ld x1 r0_9) (View.ld x2 r0_9) (View.ld x3 r0_9) (View.ld x4 r0_9)⟩,
      ⟨r0_8, Head.out A (C 8) (k0_pay3 i) k0_pay4 (View.ld x0 r0_8) (View.ld x1 r0_8) (View.ld x2 r0_8) (View.ld x3 r0_8) (View.ld x4 r0_8)⟩,
      ⟨r0_7, Head.out A (C 7) (k0_pay3 i) k0_pay4 (View.ld x0 r0_7) (View.ld x1 r0_7) (View.ld x2 r0_7) (View.ld x3 r0_7) (View.ld x4 r0_7)⟩,
      ⟨r0_6, Head.out A (C 6) (k0_pay3 i) k0_pay4 (View.ld x0 r0_6) (View.ld x1 r0_6) (View.ld x2 r0_6) (View.ld x3 r0_6) (View.ld x4 r0_6)⟩,
      ⟨r0_5, Head.out A (C 5) (k0_pay3 i) k0_pay4 (View.ld x0 r0_5) (View.ld x1 r0_5) (View.ld x2 r0_5) (View.ld x3 r0_5) (View.ld x4 r0_5)⟩,
      ⟨r0_4, Head.out A (C 4) (k0_pay3 i) k0_pay4 (View.ld x0 r0_4) (View.ld x1 r0_4) (View.ld x2 r0_4) (View.ld x3 r0_4) (View.ld x4 r0_4)⟩,
      ⟨r0_3, Head.out A (C 3) (k0_pay3 i) k0_pay4 (View.ld x0 r0_3) (View.ld x1 r0_3) (View.ld x2 r0_3) (View.ld x3 r0_3) (View.ld x4 r0_3)⟩,
      ⟨r0_2, Head.out A (C 2) (k0_pay3 i) k0_pay4 (View.ld x0 r0_2) (View.ld x1 r0_2) (View.ld x2 r0_2) (View.ld x3 r0_2) (View.ld x4 r0_2)⟩,
      ⟨r0_1, Head.out A (C 1) (k0_pay3 i) k0_pay4 (View.ld x0 r0_1) (View.ld x1 r0_1) (View.ld x2 r0_1) (View.ld x3 r0_1) (View.ld x4 r0_1)⟩,
      ⟨r0_0, Head.out A (C 0) (k0_pay3 i) k0_pay4 (View.ld x0 r0_0) (View.ld x1 r0_0) (View.ld x2 r0_0) (View.ld x3 r0_0) (View.ld x4 r0_0)⟩] := rfl

/-- A head's slice of a window's block. -/
theorem ld_lanes (x : Vec Ideal S128x2048 .bf16) (h : Fin 16) {off : Nat} (inb : ∀ a, (![0, off] : Fin 2 → Nat) a + S128x128.size a ≤ S128x2048.size a)
    (ho : off = 128 * h.val) : View.ld x (Rect.unit (s := S128x2048) ![0, off] S128x128.size inb) = lanes x h := by
  subst ho
  funext y
  pointwise [lanes]

/-- A head's stored tile, read where the block's index falls into it. -/
theorem tile_eq (r : Fin 128) (h : Fin 16) (e : Fin 128) (k : Fin 16) (x : Head.B.Idx) (h0 : (r : Nat) = (x 0 : Nat))
    (h1 : 128 * h.val + e.val = 128 * k.val + (x 1 : Nat)) (hx : (x 1 : Nat) < 128)
    {y0 y1 y2 y3 y4 : FVec Ideal Head.B .bf16} (e0 : y0 = lanes x0 k) (e1 : y1 = lanes x1 k) (e2 : y2 = lanes x2 k)
    (e3 : y3 = lanes x3 k) (e4 : y4 = lanes x4 k) :
    Head.out A (C k) (k0_pay3 i) k0_pay4 y0 y1 y2 y3 y4 x
      = Head.out A (C h) (k0_pay3 i) k0_pay4 (lanes x0 h) (lanes x1 h) (lanes x2 h) (lanes x3 h) (lanes x4 h) (ix2 r e) := by
  obtain rfl : k = h := Fin.ext (by omega)
  have hxe : x = ix2 r e := by
    funext a
    fin_cases a
    · exact Fin.ext h0.symm
    · exact Fin.ext (show (x 1 : Nat) = e.val by omega)
  rw [hxe, e0, e1, e2, e3, e4]

/-- An entry of the stored output block. -/
theorem out_apply (r : Fin 128) (h : Fin 16) (e : Fin 128) :
    out0_5 i x0 x1 x2 x3 x4 (ix2 r ⟨128 * h.val + e.val, by omega⟩)
      = Head.out A (C h) (k0_pay3 i) k0_pay4 (lanes x0 h) (lanes x1 h) (lanes x2 h) (lanes x3 h) (lanes x4 h) (ix2 r e) := by
  rw [out0_5_eq]
  canon_tiles x hx
  all_goals
    refine tile_eq i x0 x1 x2 x3 x4 r h e _ x hx0 ?_ x1_lt ?_ ?_ ?_ ?_ ?_
    · first | exact hx1 | exact hx1.trans (Nat.zero_add _).symm
    all_goals exact ld_lanes _ _ _ rfl

/-- The factor of the row maxima. -/
def Z : Ideal .f32 := Named.named κ "inv_sqrt_e" 0x3DB504F3#32

/-- A head's log-sum-exps written into its lane. -/
def step (h : Fin 16) (q kp kc : FVec Ideal Head.B .bf16) (prev : FVec Ideal Head.B .f32) : FVec Ideal Head.B .f32 :=
  select (cmpi .eq (iota .tc S128x128 32 [1] iota_S128x128_d1_w32) (broadcast S128x128 (BitVec.ofNat 32 h.val)))
    (Head.lse A (C h) Z (k0_pay3 i) k0_pay4 q kp kc) prev

theorem out0_6_eq : out0_6 i x0 x1 x2 x3 x4 = View.canon [⟨r0_16, (step i 15 (View.ld x0 r0_15) (View.ld x1 r0_15) (View.ld x2 r0_15)
      (step i 14 (View.ld x0 r0_14) (View.ld x1 r0_14) (View.ld x2 r0_14)
      (step i 13 (View.ld x0 r0_13) (View.ld x1 r0_13) (View.ld x2 r0_13)
      (step i 12 (View.ld x0 r0_12) (View.ld x1 r0_12) (View.ld x2 r0_12)
      (step i 11 (View.ld x0 r0_11) (View.ld x1 r0_11) (View.ld x2 r0_11)
      (step i 10 (View.ld x0 r0_10) (View.ld x1 r0_10) (View.ld x2 r0_10)
      (step i 9 (View.ld x0 r0_9) (View.ld x1 r0_9) (View.ld x2 r0_9)
      (step i 8 (View.ld x0 r0_8) (View.ld x1 r0_8) (View.ld x2 r0_8)
      (step i 7 (View.ld x0 r0_7) (View.ld x1 r0_7) (View.ld x2 r0_7)
      (step i 6 (View.ld x0 r0_6) (View.ld x1 r0_6) (View.ld x2 r0_6)
      (step i 5 (View.ld x0 r0_5) (View.ld x1 r0_5) (View.ld x2 r0_5)
      (step i 4 (View.ld x0 r0_4) (View.ld x1 r0_4) (View.ld x2 r0_4)
      (step i 3 (View.ld x0 r0_3) (View.ld x1 r0_3) (View.ld x2 r0_3)
      (step i 2 (View.ld x0 r0_2) (View.ld x1 r0_2) (View.ld x2 r0_2)
      (step i 1 (View.ld x0 r0_1) (View.ld x1 r0_1) (View.ld x2 r0_1)
      (step i 0 (View.ld x0 r0_0) (View.ld x1 r0_0) (View.ld x2 r0_0)
      k0_pay18))))))))))))))))⟩] := rfl

theorem step_apply (h : Fin 16) (q kp kc : FVec Ideal Head.B .bf16) (prev : FVec Ideal Head.B .f32) (r l : Fin 128) :
    step i h q kp kc prev (ix2 r l)
      = if l.val = h.val then Head.lse A (C h) Z (k0_pay3 i) k0_pay4 q kp kc (ix2 r l) else prev (ix2 r l) := by
  pointwise [step]
  rw [WordCmp.cmpi_eq_ofNat (by omega) (by omega), WordCmp.select_ofBool]
  simp only [decide_eq_true_eq]

theorem lse_congr (k : Fin 16) {y0 y1 y2 : FVec Ideal Head.B .bf16} (e0 : y0 = lanes x0 k) (e1 : y1 = lanes x1 k)
    (e2 : y2 = lanes x2 k) (y : Head.B.Idx) :
    Head.lse A (C k) Z (k0_pay3 i) k0_pay4 y0 y1 y2 y
      = Head.lse A (C k) Z (k0_pay3 i) k0_pay4 (lanes x0 k) (lanes x1 k) (lanes x2 k) y := by
  rw [e0, e1, e2]

/-- A head's lane of the stored block of log-sum-exps. -/
theorem lse_apply (r : Fin 128) (h : Fin 16) :
    out0_6 i x0 x1 x2 x3 x4 (ix2 r ⟨h.val, by omega⟩)
      = Head.lse A (C h) Z (k0_pay3 i) k0_pay4 (lanes x0 h) (lanes x1 h) (lanes x2 h) (ix2 r ⟨h.val, by omega⟩) := by
  rw [out0_6_eq, View.canon_cons_unit_lit _ _ _ (by decide)]
  simp only [step_apply]
  fin_cases h <;> simp only [] <;>
    exact lse_congr i x0 x1 x2 _ (ld_lanes x0 _ _ rfl) (ld_lanes x1 _ _ rfl) (ld_lanes x2 _ _ rfl) _

/-- The lanes past the heads. -/
theorem lse_rest (r l : Fin 128) (hl : 16 ≤ l.val) : out0_6 i x0 x1 x2 x3 x4 (ix2 r l) = 0 := by
  rw [out0_6_eq, View.canon_cons_unit_lit _ _ _ (by decide)]
  simp only [step_apply]
  simp only [show ∀ k : Fin 16, ¬ l.val = k.val from fun k => by omega, if_false]
  pointwise [k0_pay18]

end Cert.KernelIdeal.Block
-- ==== Proof.Consts.lean ====
/- The kernel's scale constants: the heads' scaled slopes are √128 times the powers 2^(−(1+h)/2) that the reference
   takes, and the two scales are (√128)⁻¹ and that over ln 2. -/
module

public import proofs.«01_k».proof.Proof.Block

@[expose] public section

noncomputable section

namespace Cert.KernelIdeal.Consts

open Idealize.ShloMosaic Cert.KernelIdeal

/-- The slope of a head. -/
def slope (h : Fin 16) : ℝ := Real.exp (Real.log 2 * (-8 * (1 + (h.val : ℝ)) / 16))

theorem slope_pos (h : Fin 16) : 0 < slope h := Real.exp_pos _

theorem root_pos : (0 : ℝ) < Real.sqrt 128 := Real.sqrt_pos.mpr (by norm_num)

theorem scaled (h : Fin 16) : Real.sqrt 128 * slope h = Real.sqrt (128 * (1 / 2) ^ (h.val + 1)) := by
  have hs : slope h = Real.sqrt ((1 / 2) ^ (h.val + 1)) := by
    rw [eq_comm, Real.sqrt_eq_iff_mul_self_eq (by positivity) (slope_pos h).le]
    unfold slope
    rw [← Real.exp_add, one_div, inv_pow, ← Real.rpow_natCast, ← Real.rpow_neg (by norm_num), Real.rpow_def_of_pos (by norm_num)]
    congr 1
    push_cast
    ring
  rw [hs, ← Real.sqrt_mul (by norm_num)]

theorem A_eq : Block.A = (((Real.log 2)⁻¹ * (Real.sqrt 128)⁻¹ : ℝ) : EReal) :=
  IdealRules.named_const.ideal_named_scalar _ _ _ _ rfl

theorem Z_eq : Block.Z = (((Real.sqrt 128)⁻¹ : ℝ) : EReal) :=
  IdealRules.named_const.ideal_named_scalar _ _ _ _ rfl

theorem root_of_sq {x y : ℝ} (hy : 0 ≤ y) (h : y * y = x) : y = Real.sqrt x := by
  rw [← h, Real.sqrt_mul_self hy]

theorem C_eq (h : Fin 16) : Block.C h = ((Real.sqrt 128 * slope h : ℝ) : EReal) := by
  rw [scaled]
  have lit : ∀ (w : BitVec 32) (y x : ℝ), Ideal.ofBits .f32 w = ((y : ℝ) : EReal) → 0 ≤ y → y * y = x →
      (Scalar.ofBits .f32 w : Ideal .f32) = ((Real.sqrt x : ℝ) : EReal) := fun w y x e h0 h1 => by
    rw [← root_of_sq h0 h1]; exact e
  fin_cases h
  · exact lit _ 8 _ (by simp [Ideal.ofBits, Ideal.ieee, -EReal.coe_mul]; norm_num) (by norm_num) (by norm_num)
  · exact (IdealRules.named_const.ideal_named_scalar _ _ _ _ rfl : Block.C 1 = ((Real.sqrt 32 : ℝ) : EReal)).trans (by norm_num)
  · exact lit _ 4 _ (by simp [Ideal.ofBits, Ideal.ieee, -EReal.coe_mul]; norm_num) (by norm_num) (by norm_num)
  · exact (IdealRules.named_const.ideal_named_scalar _ _ _ _ rfl : Block.C 3 = ((Real.sqrt 8 : ℝ) : EReal)).trans (by norm_num)
  · exact lit _ 2 _ (by simp [Ideal.ofBits, Ideal.ieee, -EReal.coe_mul]; norm_num) (by norm_num) (by norm_num)
  · exact (IdealRules.named_const.ideal_named_scalar _ _ _ _ rfl : Block.C 5 = ((Real.sqrt 2 : ℝ) : EReal)).trans (by norm_num)
  · exact lit _ 1 _ (by simp [Ideal.ofBits, Ideal.ieee, -EReal.coe_mul]; norm_num) (by norm_num) (by norm_num)
  · exact (IdealRules.named_const.ideal_named_scalar _ _ _ _ rfl : Block.C 7 = ((Real.sqrt (1 / 2) : ℝ) : EReal)).trans (by norm_num)
  · exact lit _ (1 / 2) _ (by simp [Ideal.ofBits, Ideal.ieee, -EReal.coe_mul]; norm_num) (by norm_num) (by norm_num)
  · exact (IdealRules.named_const.ideal_named_scalar _ _ _ _ rfl : Block.C 9 = ((Real.sqrt (1 / 8) : ℝ) : EReal)).trans (by norm_num)
  · exact lit _ (1 / 4) _ (by simp [Ideal.ofBits, Ideal.ieee, -EReal.coe_mul]; norm_num) (by norm_num) (by norm_num)
  · exact (IdealRules.named_const.ideal_named_scalar _ _ _ _ rfl : Block.C 11 = ((Real.sqrt (1 / 32) : ℝ) : EReal)).trans (by norm_num)
  · exact lit _ (1 / 8) _ (by simp [Ideal.ofBits, Ideal.ieee, -EReal.coe_mul]; norm_num) (by norm_num) (by norm_num)
  · exact (IdealRules.named_const.ideal_named_scalar _ _ _ _ rfl : Block.C 13 = (((Real.sqrt 128)⁻¹ : ℝ) : EReal)).trans (by
      rw [← Real.sqrt_inv]; norm_num)
  · exact lit _ (1 / 16) _ (by simp [Ideal.ofBits, Ideal.ieee, -EReal.coe_mul]; norm_num) (by norm_num) (by norm_num)
  · exact (IdealRules.named_const.ideal_named_scalar _ _ _ _ rfl : Block.C 15 = ((Real.sqrt (1 / 512) : ℝ) : EReal)).trans (by norm_num)

end Cert.KernelIdeal.Consts

end
-- ==== Proof.RefRow.lean ====
/- A row of the reference: its masked scores over real queries and keys, its log-sum-exp and its weighted values. -/
module

public import proofs.«01_k».proof.Proof.Softmax
public import proofs.«01_k».proof.Proof.Rows
public import proofs.«01_k».proof.Proof.Scores
public import proofs.«01_k».proof.Proof.Places
public import proofs.«01_k».proof.Proof.Consts

@[expose] public section

noncomputable section

namespace RefRow

open Idealize.ShloMosaic Cert.ReferenceIdeal
open Cert.KernelIdeal.Consts (slope slope_pos root_pos)

/-- The keys a query attends to: at most 128 steps back, none ahead, and none before the stream's start. -/
def ok (b : Fin 16) (r : Fin 128) (j : Fin 256) : Prop := (j.val ≤ r.val + 128 ∧ r.val ≤ j.val) ∧ (0 < b.val ∨ 128 ≤ j.val)

instance (b : Fin 16) (r : Fin 128) : DecidablePred (ok b r) := fun j => by unfold ok; infer_instance

theorem ok_self (b : Fin 16) (r : Fin 128) : ∃ j, ok b r j :=
  ⟨⟨r.val + 128, by omega⟩, ⟨by show r.val + 128 ≤ r.val + 128; omega, by show r.val ≤ r.val + 128; omega⟩, Or.inr (by show 128 ≤ r.val + 128; omega)⟩

variable (x : FVec Ideal S8192x6144 .bf16) (a : Fin 4) (b h : Fin 16) (r e : Fin 128) (j : Fin 256)

/-- A query's lane. -/
def q : EReal := x (ix2 ⟨2048 * a.val + 128 * b.val + r.val, by omega⟩ ⟨128 * h.val + e.val, by omega⟩)

/-- A key's lane. -/
def key : EReal :=
  if hj : j.val < 128 then (if hb : 0 < b.val then x (ix2 ⟨2048 * a.val + 128 * (b.val - 1) + j.val, by omega⟩ ⟨2048 + 128 * h.val + e.val, by omega⟩) else 0)
  else x (ix2 ⟨2048 * a.val + 128 * b.val + (j.val - 128), by omega⟩ ⟨2048 + 128 * h.val + e.val, by omega⟩)

/-- A value's lane. -/
def val : EReal :=
  if hj : j.val < 128 then (if hb : 0 < b.val then x (ix2 ⟨2048 * a.val + 128 * (b.val - 1) + j.val, by omega⟩ ⟨4096 + 128 * h.val + e.val, by omega⟩) else 0)
  else x (ix2 ⟨2048 * a.val + 128 * b.val + (j.val - 128), by omega⟩ ⟨4096 + 128 * h.val + e.val, by omega⟩)

/-- The product of a query and a key, a real number. -/
def dot : ℝ := ∑ e : Fin 128, (q x a b h r e).toReal * (key x a b h e j).toReal

/-- A scaled score before the scale. -/
def score : ℝ := dot x a b h r j - Real.sqrt 128 * slope h * (((r.val + 128 - j.val) * 4 : ℕ) : ℝ)

/-- The query and key columns are real. -/
def Real01 : Prop := ∀ (i : Fin 8192) (k : Fin 4096), ∃ y : ℝ, x (ix2 i ⟨k.val, by omega⟩) = (y : EReal)

variable {x} in
theorem q_real (hx : Real01 x) : q x a b h r e = (((q x a b h r e).toReal : ℝ) : EReal) := by
  obtain ⟨y, hy⟩ := hx ⟨2048 * a.val + 128 * b.val + r.val, by omega⟩ ⟨128 * h.val + e.val, by omega⟩
  rw [q, hy, EReal.toReal_coe]

variable {x} in
theorem key_real (hx : Real01 x) : key x a b h e j = (((key x a b h e j).toReal : ℝ) : EReal) := by
  unfold key
  by_cases hj : j.val < 128
  · rw [dif_pos hj]
    by_cases hb : 0 < b.val
    · rw [dif_pos hb]
      obtain ⟨y, hy⟩ := hx ⟨2048 * a.val + 128 * (b.val - 1) + j.val, by omega⟩ ⟨2048 + 128 * h.val + e.val, by omega⟩
      rw [hy, EReal.toReal_coe]
    · rw [dif_neg hb]; simp
  · rw [dif_neg hj]
    obtain ⟨y, hy⟩ := hx ⟨2048 * a.val + 128 * b.val + (j.val - 128), by omega⟩ ⟨2048 + 128 * h.val + e.val, by omega⟩
    rw [hy, EReal.toReal_coe]

variable {x} in
theorem dot_eq (hx : Real01 x) : ∑ e : Fin 128, q x a b h r e * key x a b h e j = ((dot x a b h r j : ℝ) : EReal) := by
  rw [dot, Softmax.coe_sum]
  refine Finset.sum_congr rfl fun e _ => ?_
  rw [EReal.coe_mul, ← q_real a b h r e hx, ← key_real a b h e j hx]

theorem band_keys : Stage.band (Stage.keys x) (ix6 0 a b j h e) = key x a b h e j := by
  rw [Stage.band_apply]
  unfold key
  simp only [Stage.keys_apply]

theorem band_values : Stage.band (Stage.values x) (ix6 0 a b j h e) = val x a b h e j := by
  rw [Stage.band_apply]
  unfold val
  simp only [Stage.values_apply]

theorem dist_word (h1 : j.val ≤ r.val + 128) :
    ((Stage.steps (ix2 r j)) * 4#32).toInt = (((r.val + 128 - j.val) * 4 : ℕ) : ℤ) := by
  rw [Stage.steps_apply, BitVec.toInt_eq_toNat_of_lt] <;>
    simp only [BitVec.toNat_mul, BitVec.toNat_sub, BitVec.toNat_ofNat] <;> omega

/-- The reference's scores of a row. -/
theorem scores_eq (hx : Real01 x) : Stage.scores x (ix6 0 a b h r j)
    = Softmax.masked (ok b r) (fun j => score x a b h r j * (Real.sqrt 128)⁻¹) j := by
  rw [Stage.scores_apply, Stage.admitted_apply, WordCmp.select_ofBool]
  unfold Softmax.masked
  by_cases hk : ok b r j
  · rw [if_pos hk, if_pos (by rw [decide_eq_true_eq]; exact hk), Stage.dots_apply, Stage.bias_apply, Stage.slopes_apply, dist_word r j hk.1.1]
    simp only [Stage.queries_apply, band_keys]
    rw [show (∑ e : Fin 128, x (ix2 ⟨2048 * a.val + 128 * b.val + r.val, by omega⟩ ⟨128 * h.val + e.val, by omega⟩) * key x a b h e j)
        = ((dot x a b h r j : ℝ) : EReal) from dot_eq a b h r j hx]
    rw [Ideal.div_coe root_pos.ne', ← EReal.coe_mul, ← EReal.coe_neg, ← EReal.coe_mul, ← EReal.coe_add]
    congr 1
    unfold score
    change _ + -slope h * _ = _
    have := root_pos.ne'
    field_simp
    push_cast
    ring
  · rw [if_neg hk, if_neg (by rw [decide_eq_true_eq]; exact hk)]

/-- The reference's log-sum-exp of a row. -/
theorem lses_eq (hx : Real01 x) : Stage.lses (Stage.scores x) (ix5 0 a b h r)
    = Softmax.lse (Softmax.masked (ok b r) fun j => score x a b h r j * (Real.sqrt 128)⁻¹) := by
  rw [Stage.lses_apply, Stage.tops_apply]
  simp only [scores_eq x a b h r _ hx]
  rfl

/-- An entry of the reference's first result. -/
theorem out_eq (hx : Real01 x) :
    Stage.mixes (Stage.scores x) (Stage.band (Stage.values x)) (ix2 ⟨128 * b.val + r.val, by omega⟩ ⟨2048 * a.val + (128 * h.val + e.val), by omega⟩)
      = ∑ j : Fin 256, val x a b h e j * Ideal.exp (Softmax.masked (ok b r) (fun j => score x a b h r j * (Real.sqrt 128)⁻¹) j
          - Softmax.lse (Softmax.masked (ok b r) fun j => score x a b h r j * (Real.sqrt 128)⁻¹)) := by
  rw [Stage.mixes_apply, lses_eq x a b h r hx]
  simp only [scores_eq x a b h r _ hx, band_values]

end RefRow

end
-- ==== Proof.Array.lean ====
/- What the kernel's two result arrays hold: block by block, Head.lean's function of the block's rows of the argument. -/
module

public import proofs.«01_k».proof.Proof.Block
public import proofs.«01_k».proof.Proof.Gen.KernelIdeal.Value

@[expose] public section

noncomputable section

namespace Cert.KernelIdeal.Array

open Cert.KernelIdeal Cert.KernelIdeal.Gen Idealize.ShloMosaic Idealize.ShloMosaic.TcCoe

theorem coord : ∀ t : Fin cfg0.N, (grid0.coords t 0).val = t.val := (by decide +kernel : ∀ t : Fin grid0.N, (grid0.coords t 0).val = t.val)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val - 1 ∧ win0_1.index t 1 = 1 :=
  (by decide +kernel : ∀ t : Fin grid0.N, win0_1.index t 0 = t.val - 1 ∧ win0_1.index t 1 = 1)
theorem idx2 : ∀ t : Fin cfg0.N, win0_2.index t 0 = t.val ∧ win0_2.index t 1 = 1 :=
  (by decide +kernel : ∀ t : Fin grid0.N, win0_2.index t 0 = t.val ∧ win0_2.index t 1 = 1)
theorem idx3 : ∀ t : Fin cfg0.N, win0_3.index t 0 = t.val - 1 ∧ win0_3.index t 1 = 2 :=
  (by decide +kernel : ∀ t : Fin grid0.N, win0_3.index t 0 = t.val - 1 ∧ win0_3.index t 1 = 2)
theorem idx4 : ∀ t : Fin cfg0.N, win0_4.index t 0 = t.val ∧ win0_4.index t 1 = 2 :=
  (by decide +kernel : ∀ t : Fin grid0.N, win0_4.index t 0 = t.val ∧ win0_4.index t 1 = 2)
theorem idx5 : ∀ t : Fin cfg0.N, win0_5.index t 0 = t.val % 16 ∧ win0_5.index t 1 = t.val / 16 :=
  (by decide +kernel : ∀ t : Fin grid0.N, win0_5.index t 0 = t.val % 16 ∧ win0_5.index t 1 = t.val / 16)
theorem idx6 : ∀ t : Fin cfg0.N, win0_6.index t 0 = t.val % 16 ∧ win0_6.index t 1 = t.val / 16 :=
  (by decide +kernel : ∀ t : Fin grid0.N, win0_6.index t 0 = t.val % 16 ∧ win0_6.index t 1 = t.val / 16)
theorem flush5 : ∀ t : Fin cfg0.N, (cfg0.win 5).flush t = true := (by decide +kernel : ∀ t : Fin grid0.N, (cfg0.win 5).flush t = true)
theorem flush6 : ∀ t : Fin cfg0.N, (cfg0.win 6).flush t = true := (by decide +kernel : ∀ t : Fin grid0.N, (cfg0.win 6).flush t = true)

variable (m : (ℓ : Loc nD τ sig) → Buf (Elt Ideal) ℓ) (c : Dev nD) (t : Fin cfg0.N) (r e : Fin 128) (h : Fin 16)

/-- The argument. -/
def X : Vec Ideal S8192x6144 .bf16 := m ((c : Thread nD τ).loc main_arg0)

theorem q_apply : Block.lanes (iblk m c 0 t) h (ix2 r e) = X m c (ix2 ⟨128 * t.val + r.val, by have : t.val < 64 := t.isLt; omega⟩ ⟨128 * h.val + e.val, by omega⟩) := by
  blk_ext [Block.lanes, X, iblk, V, (idx0 t).1, (idx0 t).2]

theorem kp_apply : Block.lanes (iblk m c 1 t) h (ix2 r e) = X m c (ix2 ⟨128 * (t.val - 1) + r.val, by have : t.val < 64 := t.isLt; omega⟩ ⟨2048 + 128 * h.val + e.val, by omega⟩) := by
  blk_ext [Block.lanes, X, iblk, V, (idx1 t).1, (idx1 t).2]

theorem kc_apply : Block.lanes (iblk m c 2 t) h (ix2 r e) = X m c (ix2 ⟨128 * t.val + r.val, by have : t.val < 64 := t.isLt; omega⟩ ⟨2048 + 128 * h.val + e.val, by omega⟩) := by
  blk_ext [Block.lanes, X, iblk, V, (idx2 t).1, (idx2 t).2]

theorem vp_apply : Block.lanes (iblk m c 3 t) h (ix2 r e) = X m c (ix2 ⟨128 * (t.val - 1) + r.val, by have : t.val < 64 := t.isLt; omega⟩ ⟨4096 + 128 * h.val + e.val, by omega⟩) := by
  blk_ext [Block.lanes, X, iblk, V, (idx3 t).1, (idx3 t).2]

theorem vc_apply : Block.lanes (iblk m c 4 t) h (ix2 r e) = X m c (ix2 ⟨128 * t.val + r.val, by have : t.val < 64 := t.isLt; omega⟩ ⟨4096 + 128 * h.val + e.val, by omega⟩) := by
  blk_ext [Block.lanes, X, iblk, V, (idx4 t).1, (idx4 t).2]

/-- An entry of the first result. -/
theorem out_apply : (dats m 0 c).arrAt 5 cfg0.N (ix2 ⟨128 * (t.val % 16) + r.val, by omega⟩ ⟨2048 * (t.val / 16) + (128 * h.val + e.val), by have : t.val < 64 := t.isLt; omega⟩ : S2048x8192.Idx)
    = Head.out Block.A (Block.C h) (k0_pay3 (grid0.coords t)) k0_pay4 (Block.lanes (iblk m c 0 t) h) (Block.lanes (iblk m c 1 t) h)
        (Block.lanes (iblk m c 2 t) h) (Block.lanes (iblk m c 3 t) h) (Block.lanes (iblk m c 4 t) h) (ix2 r e) := by
  have hb := congrFun ((Value.blocks5 m c t (flush5 t)).trans (Value.flushed5 m c t)) (ix2 r ⟨128 * h.val + e.val, by omega⟩)
  refine Eq.trans ?_ (hb.trans ?_)
  · blk_ext [(idx5 t).1, (idx5 t).2]
  · exact Block.out_apply _ _ _ _ _ _ r h e

/-- A head's lane of the second. -/
theorem lse_apply : (dats m 0 c).arrAt 6 cfg0.N (ix2 ⟨128 * (t.val % 16) + r.val, by omega⟩ ⟨128 * (t.val / 16) + h.val, by have : t.val < 64 := t.isLt; omega⟩ : S2048x512.Idx)
    = Head.lse Block.A (Block.C h) Block.Z (k0_pay3 (grid0.coords t)) k0_pay4 (Block.lanes (iblk m c 0 t) h) (Block.lanes (iblk m c 1 t) h)
        (Block.lanes (iblk m c 2 t) h) (ix2 r ⟨h.val, by omega⟩) := by
  have hb := congrFun ((Value.blocks6 m c t (flush6 t)).trans (Value.flushed6 m c t)) (ix2 r ⟨h.val, by omega⟩)
  refine Eq.trans ?_ (hb.trans ?_)
  · blk_ext [(idx6 t).1, (idx6 t).2]
  · exact Block.lse_apply _ _ _ _ _ _ r h

/-- The lanes past the heads. -/
theorem lse_rest (l : Fin 128) (hl : 16 ≤ l.val) : (dats m 0 c).arrAt 6 cfg0.N (ix2 ⟨128 * (t.val % 16) + r.val, by omega⟩ ⟨128 * (t.val / 16) + l.val, by have : t.val < 64 := t.isLt; omega⟩ : S2048x512.Idx) = (0 : EReal) := by
  have hb := congrFun ((Value.blocks6 m c t (flush6 t)).trans (Value.flushed6 m c t)) (ix2 r l)
  refine Eq.trans ?_ (hb.trans ?_)
  · blk_ext [(idx6 t).1, (idx6 t).2]
  · exact Block.lse_rest _ _ _ _ _ _ r l hl

end Cert.KernelIdeal.Array
-- ==== Proof.Dist.lean ====
/- The masked distances of a block's queries to the keys of the block before and of the block itself. -/
module

public import proofs.«01_k».proof.Proof.Head
public import Idealize.ShloMosaic.Lib.Tactic.WordOmega
public import proofs.«01_k».proof.Proof.Gen.KernelIdeal.Frame

@[expose] public section

noncomputable section

namespace Cert.KernelIdeal.Dist

open Cert.KernelIdeal Cert.KernelIdeal.Gen Idealize.ShloMosaic

theorem mask_eq : (Named.named κ "mask" 0x7149F2CA#32 : Ideal .f32) = (⊤ : EReal) :=
  IdealRules.named_const.ideal_named_scalar _ _ _ _ rfl

/-- Whether a grid point's block is not its stream's first, as the printed words say it. -/
def later (n : Nat) : BitVec 1 :=
  let v1 : BitVec 32 := Scalar.select (Scalar.cmpi .eq 16#32 0#32) 1#32 16#32
  let v2 : BitVec 32 := Scalar.remsi (BitVec.ofNat 32 n) v1
  Scalar.cmpi .sgt (Scalar.select (Scalar.andi (Scalar.xori (Scalar.cmpi .slt v2 0#32) (Scalar.cmpi .slt v1 0#32))
    (Scalar.cmpi .ne v2 0#32)) (Scalar.addi v2 v1) v2) 0#32

theorem later_eq : ∀ n : Fin 64, later n.val = BitVec.ofBool (decide (0 < n.val % 16)) := by decide +kernel

/-- A distance's word is its number. -/
theorem word_prev (a b : Fin 128) (h : a.val ≤ b.val) :
    (IntOp.muli (IntOp.subi (IntOp.addi (BitVec.ofNat 32 a.val) 128#32) (BitVec.ofNat 32 b.val)) 4#32).toInt
      = (((a.val + 128 - b.val) * 4 : ℕ) : ℤ) := by
  have := a.isLt; have := b.isLt
  show (((BitVec.ofNat 32 a.val + 128#32) - BitVec.ofNat 32 b.val) * 4#32).toInt = _
  rw [BitVec.toInt_eq_toNat_of_lt] <;> simp only [BitVec.toNat_mul, BitVec.toNat_sub, BitVec.toNat_add, BitVec.toNat_ofNat] <;> omega

theorem word_cur (a b : Fin 128) (h : b.val ≤ a.val) :
    (IntOp.muli (IntOp.subi (BitVec.ofNat 32 a.val) (BitVec.ofNat 32 b.val)) 4#32).toInt = (((a.val - b.val) * 4 : ℕ) : ℤ) := by
  have := a.isLt; have := b.isLt
  show ((BitVec.ofNat 32 a.val - BitVec.ofNat 32 b.val) * 4#32).toInt = _
  rw [BitVec.toInt_eq_toNat_of_lt] <;> simp only [BitVec.toNat_mul, BitVec.toNat_sub, BitVec.toNat_add, BitVec.toNat_ofNat] <;> omega

/-- To the keys of the block before, which the first block of a stream does not have. -/
theorem prev_apply (i : grid0.Coords) (a b : Fin 128) :
    k0_pay3 (F := Ideal) i (ix2 a b)
      = if a.val ≤ b.val ∧ 0 < (i 0).val % 16 then ((((a.val + 128 - b.val) * 4 : ℕ) : ℝ) : EReal) else ⊤ := by
  have hl : k0_pay3 (F := Ideal) i (ix2 a b) = Scalar.select
      (IntOp.andi (IntOp.cmpi .sge (BitVec.ofNat 32 b.val) (BitVec.ofNat 32 a.val)) (later (i 0).val))
      (FloatOps.sitofp (F := Ideal) .f32 (IntOp.muli (IntOp.subi (IntOp.addi (BitVec.ofNat 32 a.val) 128#32) (BitVec.ofNat 32 b.val)) 4#32))
      (Named.named κ "mask" 0x7149F2CA#32) := by
    pointwise [k0_pay3, later]
  rw [hl, later_eq ⟨(i 0).val, (i 0).isLt⟩, mask_eq, WordCmp.cmpi_sge_ofNat (by omega) (by omega)]
  by_cases h : a.val ≤ b.val
  · by_cases h2 : 0 < (i 0).val % 16
    · simp only [h, h2, and_self, if_true, decide_true]
      change (((_ : ℤ) : ℝ) : EReal) = _
      rw [word_prev a b h]
      norm_cast
    · simp [h, h2, Scalar.select, IntOp.andi]
  · simp [h, Scalar.select, IntOp.andi]

/-- To the keys of the block itself. -/
theorem cur_apply (a b : Fin 128) :
    k0_pay4 (F := Ideal) (ix2 a b) = if b.val ≤ a.val then ((((a.val - b.val) * 4 : ℕ) : ℝ) : EReal) else ⊤ := by
  have hl : k0_pay4 (F := Ideal) (ix2 a b) = Scalar.select (IntOp.cmpi .sle (BitVec.ofNat 32 b.val) (BitVec.ofNat 32 a.val))
      (FloatOps.sitofp (F := Ideal) .f32 (IntOp.muli (IntOp.subi (BitVec.ofNat 32 a.val) (BitVec.ofNat 32 b.val)) 4#32))
      (Named.named κ "mask" 0x7149F2CA#32) := by
    pointwise [k0_pay4]
  rw [hl, mask_eq, WordCmp.cmpi_sle_ofNat (by omega) (by omega), WordCmp.select_ofBool]
  by_cases h : b.val ≤ a.val
  · simp only [h, if_true, decide_true]
    change (((_ : ℤ) : ℝ) : EReal) = _
    rw [word_cur a b h]
    norm_cast
  · simp [h]

end Cert.KernelIdeal.Dist
-- ==== Proof.KerRow.lean ====
/- A row of the kernel: the same scores before the scale, and the values that count. -/
module

public import proofs.«01_k».proof.Proof.RefRow
public import proofs.«01_k».proof.Proof.Array
public import proofs.«01_k».proof.Proof.Dist

@[expose] public section

noncomputable section

namespace KerRow

open Idealize.ShloMosaic Cert.KernelIdeal Cert.KernelIdeal.Gen
open RefRow (ok score dot Real01)
open Consts (slope slope_pos root_pos)

variable (m : (ℓ : Loc nD τ sig) → Buf (Elt Ideal) ℓ) (c : Dev nD) (a : Fin 4) (b h : Fin 16) (r e : Fin 128) (j : Fin 256)

/-- The grid point of a stream's block. -/
def pt : Fin cfg0.N := ⟨16 * a.val + b.val, by show _ < 64; omega⟩

theorem pt_mod : (pt a b).val % 16 = b.val := by show (16 * a.val + b.val) % 16 = b.val; omega
theorem pt_div : (pt a b).val / 16 = a.val := by show (16 * a.val + b.val) / 16 = a.val; omega

/-- The scores of the kernel's row. -/
abbrev row : Fin 256 → EReal :=
  Head.row (Block.C h) (k0_pay3 (grid0.coords (pt a b))) k0_pay4 (Block.lanes (iblk m c 0 (pt a b)) h) (Block.lanes (iblk m c 1 (pt a b)) h)
    (Block.lanes (iblk m c 2 (pt a b)) h) r

/-- The values of the kernel's row. -/
abbrev vals : Fin 256 → EReal :=
  Head.vals (Block.lanes (iblk m c 3 (pt a b)) h) (Block.lanes (iblk m c 4 (pt a b)) h) e

theorem minus_top (s : EReal) (y : ℝ) (hy : 0 < y) : s - ((y : ℝ) : EReal) * ⊤ = ⊥ := by
  rw [EReal.coe_mul_top_of_pos hy, EReal.sub_top]

theorem row_eq (hx : Real01 (Array.X m c)) :
    row m c a b h r = Softmax.masked (ok b r) (score (Array.X m c) a b h r) := by
  funext j
  have hc : 0 < Real.sqrt 128 * slope h := mul_pos root_pos (slope_pos h)
  have hd := RefRow.dot_eq (x := Array.X m c) a b h r j hx
  unfold row Head.row Softmax.masked
  simp only [Consts.C_eq]
  by_cases hj : j.val < 128
  · rw [dif_pos hj, Dist.prev_apply, Array.coord, pt_mod]
    by_cases hk : ok b r j
    · have hb : 0 < b.val := hk.2.resolve_right (by omega)
      rw [if_pos hk, if_pos ⟨hk.1.2, hb⟩]
      unfold score
      rw [EReal.coe_sub, ← hd, EReal.coe_mul]
      refine congrArg (· - _) (Finset.sum_congr rfl fun e _ => ?_)
      rw [Array.q_apply, Array.kp_apply, RefRow.q, RefRow.key, dif_pos hj, dif_pos hb]
      refine congrArg₂ (· * ·) (congrArg _ (congrArg₂ ix2 (Fin.ext ?_) rfl)) (congrArg _ (congrArg₂ ix2 (Fin.ext ?_) rfl))
      · show 128 * (16 * a.val + b.val) + r.val = 2048 * a.val + 128 * b.val + r.val; omega
      · show 128 * (16 * a.val + b.val - 1) + j.val = 2048 * a.val + 128 * (b.val - 1) + j.val; omega
    · rw [if_neg hk, if_neg (fun hh => hk ⟨⟨by omega, hh.1⟩, Or.inl hh.2⟩), minus_top _ _ hc]
  · rw [dif_neg hj, Dist.cur_apply]
    by_cases hk : ok b r j
    · have h1 := hk.1.1
      rw [if_pos hk, if_pos (by show j.val - 128 ≤ r.val; omega)]
      unfold score
      rw [EReal.coe_sub, ← hd, EReal.coe_mul, show (r.val - (j.val - 128)) * 4 = (r.val + 128 - j.val) * 4 by omega]
      refine congrArg (· - _) (Finset.sum_congr rfl fun e _ => ?_)
      rw [Array.q_apply, Array.kc_apply, RefRow.q, RefRow.key, dif_neg hj]
      refine congrArg₂ (· * ·) (congrArg _ (congrArg₂ ix2 (Fin.ext ?_) rfl)) (congrArg _ (congrArg₂ ix2 (Fin.ext ?_) rfl))
      · show 128 * (16 * a.val + b.val) + r.val = 2048 * a.val + 128 * b.val + r.val; omega
      · show 128 * (16 * a.val + b.val) + (j.val - 128) = 2048 * a.val + 128 * b.val + (j.val - 128); omega
    · rw [if_neg hk, if_neg (fun hh => hk ⟨⟨by have : j.val - 128 ≤ r.val := hh; omega, by omega⟩, Or.inr (by omega)⟩), minus_top _ _ hc]

theorem vals_eq (hk : ok b r j) : vals m c a b h e j = RefRow.val (Array.X m c) a b h e j := by
  unfold vals Head.vals RefRow.val
  by_cases hj : j.val < 128
  · have hb : 0 < b.val := hk.2.resolve_right (by omega)
    rw [dif_pos hj, dif_pos hj, dif_pos hb, Array.vp_apply]
    refine congrArg _ (congrArg₂ ix2 (Fin.ext ?_) rfl)
    show 128 * (16 * a.val + b.val - 1) + j.val = 2048 * a.val + 128 * (b.val - 1) + j.val; omega
  · rw [dif_neg hj, dif_neg hj, Array.vc_apply]
    refine congrArg _ (congrArg₂ ix2 (Fin.ext ?_) rfl)
    show 128 * (16 * a.val + b.val) + (j.val - 128) = 2048 * a.val + 128 * b.val + (j.val - 128); omega

theorem inv_root_pos : 0 < (Real.sqrt 128)⁻¹ := inv_pos.mpr root_pos

/-- An entry of the kernel's first result is the reference's. -/
theorem out_eq (hx : Real01 (Array.X m c)) :
    (dats m 0 c).arrAt 5 cfg0.N (ix2 ⟨128 * b.val + r.val, by omega⟩ ⟨2048 * a.val + (128 * h.val + e.val), by omega⟩ : S2048x8192.Idx)
      = Cert.ReferenceIdeal.Stage.mixes (Cert.ReferenceIdeal.Stage.scores (Array.X m c)) (Cert.ReferenceIdeal.Stage.band (Cert.ReferenceIdeal.Stage.values (Array.X m c)))
          (ix2 ⟨128 * b.val + r.val, by omega⟩ ⟨2048 * a.val + (128 * h.val + e.val), by omega⟩) := by
  rw [RefRow.out_eq _ a b h r e hx, ← Softmax.mean_eq (ok b r) _ (RefRow.ok_self b r) _ inv_root_pos]
  have hk := Array.out_apply m c (pt a b) r e h
  simp only [pt_mod, pt_div] at hk
  refine hk.trans ?_
  rw [Consts.A_eq, Head.out_apply]
  change (∑ j, Softmax.kweight _ (row m c a b h r) j * vals m c a b h e j) * Ideal.div 1 (∑ j, Softmax.kweight _ (row m c a b h r) j) = _
  rw [row_eq m c a b h r hx]
  refine congrArg (· * _) (Finset.sum_congr rfl fun j _ => ?_)
  exact Softmax.kweight_mul_congr (ok b r) _ (RefRow.ok_self b r) _ inv_root_pos _ _ (fun j hj => vals_eq m c a b h r e j hj) j

/-- An entry of the kernel's second result is the reference's. -/
theorem lse_eq (hx : Real01 (Array.X m c)) :
    (dats m 0 c).arrAt 6 cfg0.N (ix2 ⟨128 * b.val + r.val, by omega⟩ ⟨128 * a.val + e.val, by omega⟩ : S2048x512.Idx)
      = Cert.ReferenceIdeal.Stage.lanes (Cert.ReferenceIdeal.Stage.lses (Cert.ReferenceIdeal.Stage.scores (Array.X m c)))
          (ix2 ⟨128 * b.val + r.val, by omega⟩ ⟨128 * a.val + e.val, by omega⟩) := by
  rw [Cert.ReferenceIdeal.Stage.lanes_apply]
  by_cases he : e.val < 16
  · rw [dif_pos he, RefRow.lses_eq _ a b ⟨e.val, he⟩ r hx, ← Softmax.lse_eq (ok b r) _ (RefRow.ok_self b r) _ inv_root_pos]
    have hk := Array.lse_apply m c (pt a b) r ⟨e.val, he⟩
    simp only [pt_mod, pt_div] at hk
    refine hk.trans ?_
    rw [Consts.A_eq, Head.lse_apply, Consts.Z_eq]
    change Softmax.top (row m c a b ⟨e.val, he⟩ r) * _ + Ideal.log (∑ j, Softmax.kweight _ (row m c a b ⟨e.val, he⟩ r) j) = _
    rw [row_eq m c a b ⟨e.val, he⟩ r hx]
  · rw [dif_neg he]
    have hk := Array.lse_rest m c (pt a b) r e (by omega)
    simp only [pt_mod, pt_div] at hk
    exact hk

end KerRow

end
-- ==== Proof.StagesRun.lean ====
/- The reference's results are its stages. -/
module

public import proofs.«01_k».proof.Proof.Stages
public import proofs.«01_k».proof.Proof.Gen.ReferenceIdeal.Run

@[expose] public section

set_option maxRecDepth 8192

noncomputable section

namespace Cert.ReferenceIdeal.Stage

open Cert.ReferenceIdeal Cert.ReferenceIdeal.Gen Idealize.ShloMosaic Idealize.ShloMosaic.TcCoe

variable (m : (ℓ : Loc nD τ sig) → Buf (Elt Ideal) ℓ) (c : Dev nD)

theorem out0 : Value.res_out0 m c = mixes (scores (m ((c.tc : Thread nD τ).loc main_arg0))) (band (values (m ((c.tc : Thread nD τ).loc main_arg0)))) := rfl

theorem out1 : Value.res_out1 m c = lanes (lses (scores (m ((c.tc : Thread nD τ).loc main_arg0)))) := rfl

end Cert.ReferenceIdeal.Stage
-- ==== Proof.Whole.lean ====
/- The two results as arrays: every index of a result is a block's row and a head's lane. -/
module

public import proofs.«01_k».proof.Proof.KerRow
public import proofs.«01_k».proof.Proof.StagesRun

@[expose] public section

noncomputable section

namespace Whole

open Idealize.ShloMosaic Cert.KernelIdeal Cert.KernelIdeal.Gen
open RefRow (Real01)

variable (m : (ℓ : Loc nD τ sig) → Buf (Elt Ideal) ℓ) (c : Dev nD)

theorem out (hx : Real01 (Array.X m c)) : (dats m 0 c).arrAt 5 cfg0.N
    = Cert.ReferenceIdeal.Stage.mixes (Cert.ReferenceIdeal.Stage.scores (Array.X m c)) (Cert.ReferenceIdeal.Stage.band (Cert.ReferenceIdeal.Stage.values (Array.X m c))) := by
  funext i
  have h0 : (i 0).val < 2048 := (i 0).isLt
  have h1 : (i 1).val < 8192 := (i 1).isLt
  have e := KerRow.out_eq m c ⟨(i 1).val / 2048, by omega⟩ ⟨(i 0).val / 128, by omega⟩ ⟨(i 1).val % 2048 / 128, by omega⟩
    ⟨(i 0).val % 128, by omega⟩ ⟨(i 1).val % 128, by omega⟩ hx
  have hi : i = (ix2 ⟨128 * ((i 0).val / 128) + (i 0).val % 128, by omega⟩
      ⟨2048 * ((i 1).val / 2048) + (128 * ((i 1).val % 2048 / 128) + (i 1).val % 128), by omega⟩ : S2048x8192.Idx) := by
    funext k
    match k with
    | ⟨0, _⟩ => exact Fin.ext (by show (i 0).val = 128 * ((i 0).val / 128) + (i 0).val % 128; omega)
    | ⟨1, _⟩ => exact Fin.ext (by show (i 1).val = 2048 * ((i 1).val / 2048) + (128 * ((i 1).val % 2048 / 128) + (i 1).val % 128); omega)
  rw [hi]
  exact e

theorem lse (hx : Real01 (Array.X m c)) : (dats m 0 c).arrAt 6 cfg0.N
    = Cert.ReferenceIdeal.Stage.lanes (Cert.ReferenceIdeal.Stage.lses (Cert.ReferenceIdeal.Stage.scores (Array.X m c))) := by
  funext i
  have h0 : (i 0).val < 2048 := (i 0).isLt
  have h1 : (i 1).val < 512 := (i 1).isLt
  have e := KerRow.lse_eq m c ⟨(i 1).val / 128, by omega⟩ ⟨(i 0).val / 128, by omega⟩ ⟨(i 0).val % 128, by omega⟩ ⟨(i 1).val % 128, by omega⟩ hx
  have hi : i = (ix2 ⟨128 * ((i 0).val / 128) + (i 0).val % 128, by omega⟩ ⟨128 * ((i 1).val / 128) + (i 1).val % 128, by omega⟩ : S2048x512.Idx) := by
    funext k
    match k with
    | ⟨0, _⟩ => exact Fin.ext (by show (i 0).val = 128 * ((i 0).val / 128) + (i 0).val % 128; omega)
    | ⟨1, _⟩ => exact Fin.ext (by show (i 1).val = 128 * ((i 1).val / 128) + (i 1).val % 128; omega)
  rw [hi]
  exact e

end Whole

end
-- ==== Proof.Finite.lean ====
/- The precondition element by element: the query and key columns of the argument are real numbers. -/
module

public import proofs.«01_k».proof.Pre_finite
public import Idealize.ShloMosaic.Lib.Pipeline.ValueKit
public import Idealize.ShloMosaic.Lib.Pointwise

@[expose] public section

noncomputable section

namespace Cert.Pre_finite

open Idealize.ShloMosaic

instance facts : Facts where
  slices_S8192x6144_S8192x4096_0_0 := by decide
  bitsLt_bf16_f32 := by decide
  bcast_S_S8192x4096 := by decide

theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

theorem real (x : FVec Ideal S8192x6144 .bf16) (hx : fn x = fun _ => 1#1) (i : Fin 8192) (k : Fin 4096) :
    ∃ r : ℝ, x (ix2 i ⟨k.val, by omega⟩) = (r : EReal) := by
  have h := congrFun hx (ix2 i k)
  refine real_of_olt _ (Eq.trans ?_ h)
  refine congrArg (fun z : EReal => Ideal.cmp .olt (max z (-z)) (Ideal.ofBits .f32 0x7F800000#32)) ?_
  refine congrArg x (funext fun a => Fin.ext ?_)
  match a with
  | ⟨0, _⟩ => exact (Nat.zero_add _).symm
  | ⟨1, _⟩ => exact (Nat.zero_add _).symm

end Cert.Pre_finite

end
-- ==== Proof.RefQkv4.lean ====
/- The projection to the queries, keys and values of the group with dilation 4, as the reference computes it, at an index. -/
module

public import proofs.«01_k».proof.Proof.Gen.ReferenceQkv4Ideal.Run
public import Idealize.ShloMosaic.Lib.Pipeline.ValueKit

@[expose] public section

noncomputable section

namespace Cert.ReferenceQkv4Ideal.Stage

open Cert.ReferenceQkv4Ideal Cert.ReferenceQkv4Ideal.Gen Idealize.ShloMosaic

/-- The product of the tokens' rows and the first layer's weights. -/
def product (x : FVec Ideal S8192x4096 .bf16) (w : FVec Ideal S2x4096x18432 .f32) : FVec Ideal S8192x18432 .f32 :=
  Host.dotGeneral dot_S8192x4096_S4096x18432_S8192x18432_1_0_0_1_n_n none (extf .f32 x bitsLt_bf16_f32)
    (shapeCast _ (extractStridedSlice S1x4096x18432 ![0, 0, 0] w slices_S2x4096x18432_S1x4096x18432_0_0_0) shapeCasts_S1x4096x18432_S4096x18432)

/-- The columns of the group, its rows stream by stream. -/
def streams (y : FVec Ideal S8192x18432 .f32) : FVec Ideal S8192x6144 .bf16 :=
  truncf .bf16 (shapeCast _ (transpose S4x2048x6144 [1, 0, 2] (shapeCast _ (shapeCast _ (extractStridedSlice S8192x1x6144 ![0, 1, 0]
    (shapeCast _ y shapeCasts_S8192x18432_S8192x3x6144) slices_S8192x3x6144_S8192x1x6144_0_1_0) shapeCasts_S8192x1x6144_S8192x6144)
    shapeCasts_S8192x6144_S2048x4x6144) transposes_S2048x4x6144_S4x2048x6144_1_0_2) shapeCasts_S4x2048x6144_S8192x6144) bitsLt_bf16_f32

theorem product_apply (x : FVec Ideal S8192x4096 .bf16) (w : FVec Ideal S2x4096x18432 .f32) (r : Fin 8192) (c : Fin 18432) :
    product x w (ix2 r c) = ∑ k : Fin 4096, x (ix2 r k) * w (ix3 0 k c) := by
  pointwise [product]

theorem streams_apply (y : FVec Ideal S8192x18432 .f32) (R : Fin 8192) (C : Fin 6144) :
    streams y (ix2 R C) = y (ix2 ⟨4 * (R.val % 2048) + R.val / 2048, by omega⟩ ⟨6144 + C.val, by omega⟩) := by
  pointwise [streams]
  exact congrArg (fun a => y (ix2 a ⟨6144 + C.val, by omega⟩)) (Fin.ext (congrArg (· + R.val / 2048) (Nat.mul_comm _ _)))

end Cert.ReferenceQkv4Ideal.Stage
-- ==== Proof.RefProducts.lean ====
/- The products that the references of the projections compute, at a row and a column. -/
module

public import proofs.«01_k».proof.Proof.RefQkv4
public import proofs.«01_k».proof.Proof.Gen.ReferenceQkv1Ideal.Run
public import proofs.«01_k».proof.Proof.Gen.ReferenceQkv16Ideal.Run
public import proofs.«01_k».proof.Proof.Gen.ReferenceAoIdeal.Run
public import proofs.«01_k».proof.Proof.Gen.ReferenceBqIdeal.Run
public import proofs.«01_k».proof.Proof.Gen.ReferenceBoIdeal.Run
public import proofs.«01_k».proof.Proof.Gen.ReferenceKvIdeal.Run

@[expose] public section

noncomputable section

open Idealize.ShloMosaic

/-! ## The group with dilation 1 -/

namespace Cert.ReferenceQkv1Ideal.Stage

open Cert.ReferenceQkv1Ideal Cert.ReferenceQkv1Ideal.Gen

/-- The product of the tokens' rows and the first layer's weights. -/
def product (x : FVec Ideal S8192x4096 .bf16) (w : FVec Ideal S2x4096x18432 .f32) : FVec Ideal S8192x18432 .f32 :=
  Host.dotGeneral dot_S8192x4096_S4096x18432_S8192x18432_1_0_0_1_n_n none (extf .f32 x bitsLt_bf16_f32)
    (shapeCast _ (extractStridedSlice S1x4096x18432 ![0, 0, 0] w slices_S2x4096x18432_S1x4096x18432_0_0_0) shapeCasts_S1x4096x18432_S4096x18432)

/-- The columns of the group, its rows stream by stream. -/
def streams (y : FVec Ideal S8192x18432 .f32) : FVec Ideal S8192x6144 .bf16 :=
  truncf .bf16 (shapeCast _ (transpose S1x8192x6144 [1, 0, 2] (shapeCast _ (shapeCast _ (extractStridedSlice S8192x1x6144 ![0, 0, 0]
    (shapeCast _ y shapeCasts_S8192x18432_S8192x3x6144) slices_S8192x3x6144_S8192x1x6144_0_0_0) shapeCasts_S8192x1x6144_S8192x6144)
    shapeCasts_S8192x6144_S8192x1x6144) transposes_S8192x1x6144_S1x8192x6144_1_0_2) shapeCasts_S1x8192x6144_S8192x6144) bitsLt_bf16_f32

theorem product_apply (x : FVec Ideal S8192x4096 .bf16) (w : FVec Ideal S2x4096x18432 .f32) (r : Fin 8192) (c : Fin 18432) :
    product x w (ix2 r c) = ∑ k : Fin 4096, x (ix2 r k) * w (ix3 0 k c) := by
  pointwise [product]

theorem streams_apply (y : FVec Ideal S8192x18432 .f32) (R : Fin 8192) (C : Fin 6144) :
    streams y (ix2 R C) = y (ix2 R ⟨C.val, by omega⟩) := by
  pointwise [streams]

end Cert.ReferenceQkv1Ideal.Stage

/-! ## The group with dilation 16 -/

namespace Cert.ReferenceQkv16Ideal.Stage

open Cert.ReferenceQkv16Ideal Cert.ReferenceQkv16Ideal.Gen

/-- The product of the tokens' rows and the first layer's weights. -/
def product (x : FVec Ideal S8192x4096 .bf16) (w : FVec Ideal S2x4096x18432 .f32) : FVec Ideal S8192x18432 .f32 :=
  Host.dotGeneral dot_S8192x4096_S4096x18432_S8192x18432_1_0_0_1_n_n none (extf .f32 x bitsLt_bf16_f32)
    (shapeCast _ (extractStridedSlice S1x4096x18432 ![0, 0, 0] w slices_S2x4096x18432_S1x4096x18432_0_0_0) shapeCasts_S1x4096x18432_S4096x18432)

/-- The columns of the group, its rows stream by stream. -/
def streams (y : FVec Ideal S8192x18432 .f32) : FVec Ideal S8192x6144 .bf16 :=
  truncf .bf16 (shapeCast _ (transpose S16x512x6144 [1, 0, 2] (shapeCast _ (shapeCast _ (extractStridedSlice S8192x1x6144 ![0, 2, 0]
    (shapeCast _ y shapeCasts_S8192x18432_S8192x3x6144) slices_S8192x3x6144_S8192x1x6144_0_2_0) shapeCasts_S8192x1x6144_S8192x6144)
    shapeCasts_S8192x6144_S512x16x6144) transposes_S512x16x6144_S16x512x6144_1_0_2) shapeCasts_S16x512x6144_S8192x6144) bitsLt_bf16_f32

theorem product_apply (x : FVec Ideal S8192x4096 .bf16) (w : FVec Ideal S2x4096x18432 .f32) (r : Fin 8192) (c : Fin 18432) :
    product x w (ix2 r c) = ∑ k : Fin 4096, x (ix2 r k) * w (ix3 0 k c) := by
  pointwise [product]

theorem streams_apply (y : FVec Ideal S8192x18432 .f32) (R : Fin 8192) (C : Fin 6144) :
    streams y (ix2 R C) = y (ix2 ⟨16 * (R.val % 512) + R.val / 512, by omega⟩ ⟨12288 + C.val, by omega⟩) := by
  pointwise [streams]
  exact congrArg (fun a => y (ix2 a ⟨12288 + C.val, by omega⟩)) (Fin.ext (congrArg (· + R.val / 512) (Nat.mul_comm _ _)))

end Cert.ReferenceQkv16Ideal.Stage

/-! ## The first kind of layer's projection of the heads back -/

namespace Cert.ReferenceAoIdeal.Stage

open Cert.ReferenceAoIdeal Cert.ReferenceAoIdeal.Gen

/-- The product of the rows and the first layer's weights. -/
def product (x : FVec Ideal S8192x2048 .bf16) (w : FVec Ideal S2x2048x4096 .f32) : FVec Ideal S8192x4096 .bf16 :=
  truncf .bf16 (Host.dotGeneral dot_S8192x2048_S2048x4096_S8192x4096_1_0_0_1_n_n none (extf .f32 x bitsLt_bf16_f32)
    (shapeCast _ (extractStridedSlice S1x2048x4096 ![0, 0, 0] w slices_S2x2048x4096_S1x2048x4096_0_0_0) shapeCasts_S1x2048x4096_S2048x4096)) bitsLt_bf16_f32

theorem product_apply (x : FVec Ideal S8192x2048 .bf16) (w : FVec Ideal S2x2048x4096 .f32) (r : Fin 8192) (c : Fin 4096) :
    product x w (ix2 r c) = ∑ k : Fin 2048, x (ix2 r k) * w (ix3 0 k c) := by
  pointwise [product]

end Cert.ReferenceAoIdeal.Stage

/-! ## The second kind of layer's projection to the queries -/

namespace Cert.ReferenceBqIdeal.Stage

open Cert.ReferenceBqIdeal Cert.ReferenceBqIdeal.Gen

/-- The product of the rows and the first layer's weights. -/
def product (x : FVec Ideal S8192x4096 .bf16) (w : FVec Ideal S2x4096x4096 .f32) : FVec Ideal S8192x4096 .f32 :=
  Host.dotGeneral dot_S8192x4096_S4096x4096_S8192x4096_1_0_0_1_n_n none (extf .f32 x bitsLt_bf16_f32)
    (shapeCast _ (extractStridedSlice S1x4096x4096 ![0, 0, 0] w slices_S2x4096x4096_S1x4096x4096_0_0_0) shapeCasts_S1x4096x4096_S4096x4096)

theorem product_apply (x : FVec Ideal S8192x4096 .bf16) (w : FVec Ideal S2x4096x4096 .f32) (r : Fin 8192) (c : Fin 4096) :
    product x w (ix2 r c) = ∑ k : Fin 4096, x (ix2 r k) * w (ix3 0 k c) := by
  pointwise [product]

end Cert.ReferenceBqIdeal.Stage

/-! ## The second kind of layer's projection of the heads back -/

namespace Cert.ReferenceBoIdeal.Stage

open Cert.ReferenceBoIdeal Cert.ReferenceBoIdeal.Gen

/-- The product of the rows and the first layer's weights. -/
def product (x : FVec Ideal S8192x4096 .bf16) (w : FVec Ideal S2x4096x4096 .f32) : FVec Ideal S8192x4096 .bf16 :=
  truncf .bf16 (Host.dotGeneral dot_S8192x4096_S4096x4096_S8192x4096_1_0_0_1_n_n none (extf .f32 x bitsLt_bf16_f32)
    (shapeCast _ (extractStridedSlice S1x4096x4096 ![0, 0, 0] w slices_S2x4096x4096_S1x4096x4096_0_0_0) shapeCasts_S1x4096x4096_S4096x4096)) bitsLt_bf16_f32

theorem product_apply (x : FVec Ideal S8192x4096 .bf16) (w : FVec Ideal S2x4096x4096 .f32) (r : Fin 8192) (c : Fin 4096) :
    product x w (ix2 r c) = ∑ k : Fin 4096, x (ix2 r k) * w (ix3 0 k c) := by
  pointwise [product]

end Cert.ReferenceBoIdeal.Stage

/-! ## The second kind of layer's projection to the keys and values -/

namespace Cert.ReferenceKvIdeal.Stage

open Cert.ReferenceKvIdeal Cert.ReferenceKvIdeal.Gen

/-- The product of the rows and the layer's weights. -/
def product (x : FVec Ideal S8192x4096 .bf16) (w : FVec Ideal S4096x2048 .f32) : FVec Ideal S8192x2048 .f32 :=
  Host.dotGeneral dot_S8192x4096_S4096x2048_S8192x2048_1_0_0_1_n_n none (extf .f32 x bitsLt_bf16_f32)
    w

theorem product_apply (x : FVec Ideal S8192x4096 .bf16) (w : FVec Ideal S4096x2048 .f32) (r : Fin 8192) (c : Fin 2048) :
    product x w (ix2 r c) = ∑ k : Fin 4096, x (ix2 r k) * w (ix2 k c) := by
  pointwise [product]

end Cert.ReferenceKvIdeal.Stage
-- ==== Proof.Product.lean ====
/- What the programs that multiply an array by a weight matrix share: the entry of one block of the product, and what a
   scratch buffer that keeps the weights' block over the points of a column holds. -/
module

public import Idealize.ShloMosaic.Lib.MatmulPlain
public import Idealize.ShloMosaic.Lib.Pipeline.ValueKit

@[expose] public section

noncomputable section

namespace Product

open Idealize.ShloMosaic

/-! ## Loads and stores of whole buffers -/

section whole
variable {sig : RefSig} {κ : Kind} {sp : Space} {S : Shape} {e : EltTy} {Val : EltTy → Type} {off : Fin S.rank → ℕ}

/-- A load of a whole buffer reads its contents. -/
theorem loaded {a : Memref sig κ sp S e} (h : a.IsWhole) (hz : off = fun _ => 0) (inb : ∀ d, off d + S.size d ≤ S.size d) (x : S.Idx → Val e) :
    View.readAt Val a.view (Rect.unit off S.size inb).toLoadRect (h.unread x) = x := by
  rw [View.readAt_eq_ld, h.read_unread, View.ld_unit_zero hz]

/-- A store of a whole buffer leaves what it stores. -/
theorem stored [∀ e, Nonempty (Val e)] (v : View sig κ sp S e) (f : v.ty.Contents Val) (hz : off = fun _ => 0) (inb : ∀ d, off d + S.size d ≤ S.size d)
    (w : S.Idx → Val e) : v.read Val (v.writes Val f [⟨Rect.unit off S.size inb, w⟩]) = w :=
  (View.read_writes_eq_canon v f _ fun y => ⟨_, List.mem_singleton_self _, View.mem_set_unit_zero hz inb y⟩).trans (View.canon_unit_zero hz inb w)

end whole

theorem zero2 : (![0, 0] : Fin 2 → ℕ) = fun _ => 0 := funext fun a => by fin_cases a <;> rfl
theorem zero3 : (![0, 0, 0] : Fin 3 → ℕ) = fun _ => 0 := funext fun a => by fin_cases a <;> rfl

/-- Two matrices with the same entries. -/
theorem ext2 {A B : ℕ} {α : Type} {v w : (⟨2, ![A, B]⟩ : Shape).Idx → α} (h : ∀ R C, v (ix2 R C) = w (ix2 R C)) : v = w := by
  funext y
  have hy : y = ix2 (y 0) (y 1) := by
    funext a
    fin_cases a <;> rfl
  rw [hy]
  exact h _ _

/-! ## The entry of a block -/

variable {M K N : ℕ}

/-- The product of `x` and the matrix `w`, the weights of one layer, at a row and a column. -/
theorem entry (x : FVec Ideal ⟨2, ![M, K]⟩ .bf16) (w : FVec Ideal ⟨2, ![K, N]⟩ .bf16) (p : Fin M) (q : Fin N) :
    matmul (DotDims.plain M K N) none x w (constant ⟨2, ![M, N]⟩ .f32 0x00000000#32) (ix2 p q) = ∑ k : Fin K, x (ix2 p k) * w (ix2 k q) := by
  refine (Ideal.matmul_plain_apply none x w _ p q).trans ?_
  show Ideal.ofBits .f32 0x00000000#32 + _ = _
  rw [Ideal.ofBits_zero_f32, zero_add]
  rfl

/-- What a point computes from its rows `x` and its block `w` of the weights, which it rounds and keeps, at a row and a column. -/
theorem block (x : FVec Ideal ⟨2, ![M, K]⟩ .bf16) (w : FVec Ideal ⟨3, ![1, K, N]⟩ .f32)
    (h2 : (⟨3, ![1, K, N]⟩ : Shape).ShapeCasts ⟨2, ![K, N]⟩)
    (h3 : (⟨2, ![K, N]⟩ : Shape).ShapeCasts ⟨2, ![K, N]⟩) (h4 : FTy.bf16.bits < FTy.f32.bits) (p : Fin M) (q : Fin N) :
    matmul (DotDims.plain M K N) none x (shapeCast ⟨2, ![K, N]⟩ (truncf .bf16 (shapeCast ⟨2, ![K, N]⟩ w h2) h4) h3)
      (constant ⟨2, ![M, N]⟩ .f32 0x00000000#32) (ix2 p q) = ∑ k : Fin K, x (ix2 p k) * w (ix3 0 k q) := by
  refine (entry _ _ p q).trans (Finset.sum_congr rfl fun k _ => ?_)
  rw [shapeCast_self]
  refine congrArg (x (ix2 p k) * ·) ?_
  refine (shapeCast_dropUnit_apply ![K, N] w h2 (ix2 k q)).trans (congrArg w (funext fun a => ?_))
  fin_cases a <;> rfl

/-- The same where the rows go through a cast to their own shape. -/
theorem block_cast (x : FVec Ideal ⟨2, ![M, K]⟩ .bf16) (w : FVec Ideal ⟨3, ![1, K, N]⟩ .f32)
    (h1 : (⟨2, ![M, K]⟩ : Shape).ShapeCasts ⟨2, ![M, K]⟩) (h2 : (⟨3, ![1, K, N]⟩ : Shape).ShapeCasts ⟨2, ![K, N]⟩)
    (h3 : (⟨2, ![K, N]⟩ : Shape).ShapeCasts ⟨2, ![K, N]⟩) (h4 : FTy.bf16.bits < FTy.f32.bits) (p : Fin M) (q : Fin N) :
    matmul (DotDims.plain M K N) none (shapeCast ⟨2, ![M, K]⟩ x h1) (shapeCast ⟨2, ![K, N]⟩ (truncf .bf16 (shapeCast ⟨2, ![K, N]⟩ w h2) h4) h3)
      (constant ⟨2, ![M, N]⟩ .f32 0x00000000#32) (ix2 p q) = ∑ k : Fin K, x (ix2 p k) * w (ix3 0 k q) := by
  rw [shapeCast_self]
  exact block x w h2 h3 h4 p q

/-- Two blocks of weights with the same entries. -/
theorem ext {v w : FVec Ideal ⟨3, ![1, K, N]⟩ .f32} (h : ∀ (k : Fin K) (q : Fin N), v (ix3 0 k q) = w (ix3 0 k q)) : v = w := by
  funext y
  have hy : y = ix3 0 (y 1) (y 2) := by
    funext a
    fin_cases a
    · exact Subsingleton.elim (α := Fin 1) _ _
    · rfl
    · rfl
  rw [hy]
  exact h _ _

/-! ## The points of a column -/

/-- A state of a result and a kept buffer over points in runs of `p`: the first point of a run fills the buffer with
    `s` and the others keep it, and `s` is the same over a run. So every point has `s` in the buffer. -/
theorem kept {α β : Type} {T p : ℕ} (f : (n : ℕ) → n < T → α × β) (g : (n : ℕ) → n < T → β → α) (s : (n : ℕ) → n < T → β)
    (h0 : ∀ n h, n % p = 0 → f n h = (g n h (s n h), s n h))
    (h1 : ∀ n h, ¬n % p = 0 → f n h = (g n h (f (n - 1) (by omega)).2, (f (n - 1) (by omega)).2))
    (hs : ∀ n h, ¬n % p = 0 → s n h = s (n - 1) (by omega)) (n : ℕ) (h : n < T) : f n h = (g n h (s n h), s n h) := by
  induction n with
  | zero => exact h0 0 h (Nat.zero_mod _)
  | succ n ih =>
    by_cases hn : (n + 1) % p = 0
    · exact h0 _ h hn
    · rw [h1 _ h hn, hs _ h hn]
      simp only [Nat.add_sub_cancel]
      rw [ih]

/-- So a program that multiplies its point's rows by the kept weights, rounded by `r`, leaves the block of the product. -/
theorem point {φ : FTy} {T p : ℕ} (f : (n : ℕ) → n < T → FVec Ideal ⟨2, ![M, N]⟩ φ × FVec Ideal ⟨2, ![K, N]⟩ .bf16)
    (x : (n : ℕ) → n < T → FVec Ideal ⟨2, ![M, K]⟩ .bf16) (w : (n : ℕ) → n < T → FVec Ideal ⟨3, ![1, K, N]⟩ .f32)
    (r : FVec Ideal ⟨3, ![1, K, N]⟩ .f32 → FVec Ideal ⟨2, ![K, N]⟩ .bf16)
    (o : FVec Ideal ⟨2, ![M, K]⟩ .bf16 → FVec Ideal ⟨2, ![K, N]⟩ .bf16 → FVec Ideal ⟨2, ![M, N]⟩ φ)
    (ho : ∀ x w a q, o x (r w) (ix2 a q) = ∑ k : Fin K, x (ix2 a k) * w (ix3 0 k q))
    (h0 : ∀ n h, n % p = 0 → f n h = (o (x n h) (r (w n h)), r (w n h)))
    (h1 : ∀ n h, ¬n % p = 0 → f n h = (o (x n h) (f (n - 1) (by omega)).2, (f (n - 1) (by omega)).2))
    (hs : ∀ n h, ¬n % p = 0 → ∀ k q, w n h (ix3 0 k q) = w (n - 1) (by omega) (ix3 0 k q)) (n : ℕ) (h : n < T) (a : Fin M) (q : Fin N) :
    (f n h).1 (ix2 a q) = ∑ k : Fin K, x n h (ix2 a k) * w n h (ix3 0 k q) := by
  rw [kept f (fun n h => o (x n h)) (fun n h => r (w n h)) h0 h1 (fun n h hn => congrArg r (ext (hs n h hn))) n h]
  exact ho _ _ a q

end Product
-- ==== Proof.Qkv1.lean ====
/- The projection to the queries, keys and values of the group with dilation 1, as the kernel computes it: an entry of its result is the
   row times the weights' column. -/
module

public import proofs.«01_k».proof.Proof.Product
public import proofs.«01_k».proof.Proof.Gen.KernelQkv1Ideal.Value

@[expose] public section

set_option maxRecDepth 16384

noncomputable section

namespace Cert.KernelQkv1Ideal.Array

open Cert.KernelQkv1Ideal Cert.KernelQkv1Ideal.Gen Idealize.ShloMosaic Idealize.ShloMosaic.TcCoe

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = 0 ∧ win0_1.index t 2 = t.val / 16 :=
  (by decide +kernel : ∀ t : Fin grid0.N, win0_1.index t 0 = 0 ∧ win0_1.index t 1 = 0 ∧ win0_1.index t 2 = t.val / 16)

section cases
variable (c : Dev nD) (i : grid0.Coords) (a2 : Memref sig .tc .vmem S512x4096 .bf16) (h2 : a2.IsWhole)
  (a3 : Memref sig .tc .vmem S1x4096x1024 .f32) (h3 : a3.IsWhole) (a4 : Memref sig .tc .vmem S512x1024 .bf16) (h4 : a4.IsWhole)
  (a5 : Memref sig .tc .vmem S4096x1024 .bf16) (h5 : a5.IsWhole)
  (x : Vec Ideal S512x4096 .bf16) (w : Vec Ideal S1x4096x1024 .f32) (s : Vec Ideal S4096x1024 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S512x4096 .bf16) (w : Vec Ideal S1x4096x1024 .f32) (p : Fin 512) (q : Fin 1024) :
    k0_pay2 x (k0_pay1 w) (ix2 p q) = ∑ k : Fin 4096, x (ix2 p k) * w (ix3 0 k q) := by
  exact Product.block (M := 512) (K := 4096) (N := 1024) x w _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S2x4096x18432 .f32 := m ((c : Thread nD τ).loc main_arg1)

theorem x_apply (t : Fin cfg0.N) (p : Fin 512) (k : Fin 4096) :
    iblk m c 0 t (ix2 p k) = X m c (ix2 ⟨512 * (t.val % 16) + p.val, by omega⟩ k) := by
  blk_ext [X, iblk, V, (idx0 t).1, (idx0 t).2]

theorem w_apply (t : Fin cfg0.N) (k : Fin 4096) (q : Fin 1024) :
    iblk m c 1 t (ix3 0 k q) = W m c (ix3 0 k ⟨1024 * (t.val / 16) + q.val, by have : t.val < 96 := t.isLt; omega⟩) := by
  blk_ext [W, iblk, V, (idx1 t).1, (idx1 t).2.1, (idx1 t).2.2]

/-- The rows and the weights that a point multiplies. -/
abbrev xs (n : ℕ) (h : n < cfg0.N) : Vec Ideal S512x4096 .bf16 := iblk m c 0 ⟨n, h⟩
abbrev ws (n : ℕ) (h : n < cfg0.N) : Vec Ideal S1x4096x1024 .f32 := iblk m c 1 ⟨n, h⟩

/-- After a point: the point's block of the product. -/
theorem outs_apply (n : ℕ) (h : n < cfg0.N) (p : Fin 512) (q : Fin 1024) :
    (outsAt0 m c n h).1 (ix2 p q) = ∑ k : Fin 4096, xs m c n h (ix2 p k) * ws m c n h (ix3 0 k q) := by
  refine Product.point (p := 16) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 16 = (n - 1) / 16 := by omega
    exact (w_apply m c ⟨n, h⟩ k q).trans (Eq.trans (by simp only [e]) (w_apply m c ⟨n - 1, by omega⟩ k q).symm)

/-- An entry of the result: its row times the weights' column. -/
theorem result_apply (R : Fin 8192) (C : Fin 6144) :
    Value.G2 m c (ix2 R C) = ∑ k : Fin 4096, X m c (ix2 R k) * W m c (ix3 0 k ⟨C.val, by omega⟩) := by
  have hp : R.val / 512 + 16 * (C.val / 1024) < cfg0.N := lt_of_lt_of_eq (show _ < 96 by omega) N_0.symm
  have hr : Value.pt2Of (ix2 R C) = R.val / 512 + 16 * (C.val / 1024) := by
    show 1 * (R.val / 512 - 0) + 16 * (C.val / 1024 - 0) = _
    omega
  unfold Value.G2
  rw [dif_pos (hr ▸ hp), Value.fold0_congr m c _ _ _ (by omega) hr, ← Value.outsAt0_sweep m c _ hp]
  have hl : Value.loc2Of (ix2 R C) = ix2 (⟨R.val % 512, by omega⟩ : Fin 512) (⟨C.val % 1024, by omega⟩ : Fin 1024) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 512 * ((R.val / 512 + 16 * (C.val / 1024)) % 16) + R.val % 512 = R.val
    omega
  · show 1024 * ((R.val / 512 + 16 * (C.val / 1024)) / 16) + C.val % 1024 = C.val
    omega

end Cert.KernelQkv1Ideal.Array
-- ==== Proof.Qkv4.lean ====
/- The projection to the queries, keys and values of the group with dilation 4, as the kernel computes it: an entry of its
   result is the token's row times the weights' column. -/
module

public import proofs.«01_k».proof.Proof.Product
public import proofs.«01_k».proof.Proof.Gen.KernelQkv4Ideal.Value

@[expose] public section

set_option maxRecDepth 16384

noncomputable section

namespace Cert.KernelQkv4Ideal.Array

open Cert.KernelQkv4Ideal Cert.KernelQkv4Ideal.Gen Idealize.ShloMosaic Idealize.ShloMosaic.TcCoe

theorem idx0 : ∀ t : Fin cfg0.N, win0_0.index t 0 = t.val % 4 ∧ win0_0.index t 1 = t.val % 16 / 4 :=
  (by decide +kernel : ∀ t : Fin grid0.N, win0_0.index t 0 = t.val % 4 ∧ win0_0.index t 1 = t.val % 16 / 4)
theorem idx1 : ∀ t : Fin cfg0.N, win0_1.index t 0 = 0 ∧ win0_1.index t 1 = 0 ∧ win0_1.index t 2 = t.val / 16 + 6 :=
  (by decide +kernel : ∀ t : Fin grid0.N, win0_1.index t 0 = 0 ∧ win0_1.index t 1 = 0 ∧ win0_1.index t 2 = t.val / 16 + 6)

section cases
variable (c : Dev nD) (i : grid0.Coords) (a2 : Memref sig .tc .vmem S512x4096 .bf16) (h2 : a2.IsWhole)
  (a3 : Memref sig .tc .vmem S1x4096x1024 .f32) (h3 : a3.IsWhole) (a4 : Memref sig .tc .vmem S512x1024 .bf16) (h4 : a4.IsWhole)
  (a5 : Memref sig .tc .vmem S4096x1024 .bf16) (h5 : a5.IsWhole)
  (x : Vec Ideal S512x4096 .bf16) (w : Vec Ideal S1x4096x1024 .f32) (s : Vec Ideal S4096x1024 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S512x4096 .bf16) (w : Vec Ideal S1x4096x1024 .f32) (p : Fin 512) (q : Fin 1024) :
    k0_pay2 x (k0_pay1 w) (ix2 p q) = ∑ k : Fin 4096, x (ix2 p k) * w (ix3 0 k q) := by
  exact Product.block_cast (M := 512) (K := 4096) (N := 1024) x w _ _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S2x4096x18432 .f32 := m ((c : Thread nD τ).loc main_arg1)

theorem V_v0 : V m c main_v0 = shapeCast S2048x16384 (X m c) shapeCasts_S8192x4096_S2048x16384 := by
  show StableHlo.after hostOps0 _ _ = _
  after_results
  rfl

/-- The tokens' rows four to a row. -/
theorem rows_apply (x : Vec Ideal S8192x4096 .bf16) (r : Fin 2048) (b : Fin 4) (k : Fin 4096) :
    shapeCast S2048x16384 x shapeCasts_S8192x4096_S2048x16384 (ix2 r ⟨4096 * b.val + k.val, by omega⟩) = x (ix2 ⟨4 * r.val + b.val, by omega⟩ k) := by
  pointwise []
  refine congrArg x (funext fun a => Fin.ext ?_)
  match a with
  | ⟨0, _⟩ => show r.val * 4 + (4096 * b.val + k.val) / 4096 = 4 * r.val + b.val; omega
  | ⟨1, _⟩ => rfl

theorem x_apply (t : Fin cfg0.N) (p : Fin 512) (k : Fin 4096) :
    iblk m c 0 t (ix2 p k) = X m c (ix2 ⟨4 * (512 * (t.val % 4) + p.val) + t.val % 16 / 4, by omega⟩ k) := by
  have e : iblk m c 0 t = ((cfg0.win 0).blk t).view.read (Elt Ideal) (V m c main_v0) := rfl
  rw [e, V_v0]
  rw [← rows_apply (X m c) ⟨512 * (t.val % 4) + p.val, by omega⟩ ⟨t.val % 16 / 4, by omega⟩ k]
  generalize shapeCast S2048x16384 (X m c) shapeCasts_S8192x4096_S2048x16384 = z
  blk_ext [(idx0 t).1, (idx0 t).2]

theorem w_apply (t : Fin cfg0.N) (k : Fin 4096) (q : Fin 1024) :
    iblk m c 1 t (ix3 0 k q) = W m c (ix3 0 k ⟨6144 + (1024 * (t.val / 16) + q.val), by have : t.val < 96 := t.isLt; omega⟩) := by
  blk_ext [W, iblk, V, (idx1 t).1, (idx1 t).2.1, (idx1 t).2.2]

/-- The rows and the weights that a point multiplies. -/
abbrev xs (n : ℕ) (h : n < cfg0.N) : Vec Ideal S512x4096 .bf16 := iblk m c 0 ⟨n, h⟩
abbrev ws (n : ℕ) (h : n < cfg0.N) : Vec Ideal S1x4096x1024 .f32 := iblk m c 1 ⟨n, h⟩

/-- After a point: the point's block of the product. -/
theorem outs_apply (n : ℕ) (h : n < cfg0.N) (p : Fin 512) (q : Fin 1024) :
    (outsAt0 m c n h).1 (ix2 p q) = ∑ k : Fin 4096, xs m c n h (ix2 p k) * ws m c n h (ix3 0 k q) := by
  refine Product.point (p := 16) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 16 = (n - 1) / 16 := by omega
    exact (w_apply m c ⟨n, h⟩ k q).trans (Eq.trans (by simp only [e]) (w_apply m c ⟨n - 1, by omega⟩ k q).symm)

/-- An entry of the result: the row of the token `4 i + r`, for row `2048 r + i`, times the weights' column. -/
theorem result_apply (R : Fin 8192) (C : Fin 6144) :
    Value.G2 m c (ix2 R C) = ∑ k : Fin 4096, X m c (ix2 ⟨4 * (R.val % 2048) + R.val / 2048, by omega⟩ k) * W m c (ix3 0 k ⟨6144 + C.val, by omega⟩) := by
  have hp : R.val / 512 + 16 * (C.val / 1024) < cfg0.N := lt_of_lt_of_eq (show _ < 96 by omega) N_0.symm
  have hr : Value.pt2Of (ix2 R C) = R.val / 512 + 16 * (C.val / 1024) := by
    show 1 * (R.val / 512 - 0) + 16 * (C.val / 1024 - 0) = _
    omega
  unfold Value.G2
  rw [dif_pos (hr ▸ hp), Value.fold0_congr m c _ _ _ (by omega) hr, ← Value.outsAt0_sweep m c _ hp]
  have hl : Value.loc2Of (ix2 R C) = ix2 (⟨R.val % 512, by omega⟩ : Fin 512) (⟨C.val % 1024, by omega⟩ : Fin 1024) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 4 * (512 * ((R.val / 512 + 16 * (C.val / 1024)) % 4) + R.val % 512) + (R.val / 512 + 16 * (C.val / 1024)) % 16 / 4 = 4 * (R.val % 2048) + R.val / 2048
    omega
  · show 6144 + (1024 * ((R.val / 512 + 16 * (C.val / 1024)) / 16) + C.val % 1024) = 6144 + C.val
    omega

end Cert.KernelQkv4Ideal.Array
-- ==== Proof.Qkv16.lean ====
/- The projection to the queries, keys and values of the group with dilation 16, as the kernel computes it: an entry of its
   result is the token's row times the weights' column. -/
module

public import proofs.«01_k».proof.Proof.Product
public import proofs.«01_k».proof.Proof.Gen.KernelQkv16Ideal.Value

@[expose] public section

set_option maxRecDepth 16384

noncomputable section

namespace Cert.KernelQkv16Ideal.Array

open Cert.KernelQkv16Ideal Cert.KernelQkv16Ideal.Gen Idealize.ShloMosaic Idealize.ShloMosaic.TcCoe

theorem idx0 : ∀ t : Fin cfg0.N, win0_0.index t 0 = 0 ∧ win0_0.index t 1 = t.val % 16 :=
  (by decide +kernel : ∀ t : Fin grid0.N, win0_0.index t 0 = 0 ∧ win0_0.index t 1 = t.val % 16)
theorem idx1 : ∀ t : Fin cfg0.N, win0_1.index t 0 = 0 ∧ win0_1.index t 1 = 0 ∧ win0_1.index t 2 = t.val / 16 + 12 :=
  (by decide +kernel : ∀ t : Fin grid0.N, win0_1.index t 0 = 0 ∧ win0_1.index t 1 = 0 ∧ win0_1.index t 2 = t.val / 16 + 12)

section cases
variable (c : Dev nD) (i : grid0.Coords) (a2 : Memref sig .tc .vmem S512x4096 .bf16) (h2 : a2.IsWhole)
  (a3 : Memref sig .tc .vmem S1x4096x1024 .f32) (h3 : a3.IsWhole) (a4 : Memref sig .tc .vmem S512x1024 .bf16) (h4 : a4.IsWhole)
  (a5 : Memref sig .tc .vmem S4096x1024 .bf16) (h5 : a5.IsWhole)
  (x : Vec Ideal S512x4096 .bf16) (w : Vec Ideal S1x4096x1024 .f32) (s : Vec Ideal S4096x1024 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S512x4096 .bf16) (w : Vec Ideal S1x4096x1024 .f32) (p : Fin 512) (q : Fin 1024) :
    k0_pay2 x (k0_pay1 w) (ix2 p q) = ∑ k : Fin 4096, x (ix2 p k) * w (ix3 0 k q) := by
  exact Product.block_cast (M := 512) (K := 4096) (N := 1024) x w _ _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S2x4096x18432 .f32 := m ((c : Thread nD τ).loc main_arg1)

theorem V_v0 : V m c main_v0 = shapeCast S512x65536 (X m c) shapeCasts_S8192x4096_S512x65536 := by
  show StableHlo.after hostOps0 _ _ = _
  after_results
  rfl

/-- The tokens' rows sixteen to a row. -/
theorem rows_apply (x : Vec Ideal S8192x4096 .bf16) (r : Fin 512) (b : Fin 16) (k : Fin 4096) :
    shapeCast S512x65536 x shapeCasts_S8192x4096_S512x65536 (ix2 r ⟨4096 * b.val + k.val, by omega⟩) = x (ix2 ⟨16 * r.val + b.val, by omega⟩ k) := by
  pointwise []
  refine congrArg x (funext fun a => Fin.ext ?_)
  match a with
  | ⟨0, _⟩ => show r.val * 16 + (4096 * b.val + k.val) / 4096 = 16 * r.val + b.val; omega
  | ⟨1, _⟩ => rfl

theorem x_apply (t : Fin cfg0.N) (p : Fin 512) (k : Fin 4096) :
    iblk m c 0 t (ix2 p k) = X m c (ix2 ⟨16 * p.val + t.val % 16, by omega⟩ k) := by
  have e : iblk m c 0 t = ((cfg0.win 0).blk t).view.read (Elt Ideal) (V m c main_v0) := rfl
  rw [e, V_v0]
  rw [← rows_apply (X m c) p ⟨t.val % 16, by omega⟩ k]
  generalize shapeCast S512x65536 (X m c) shapeCasts_S8192x4096_S512x65536 = z
  blk_ext [(idx0 t).1, (idx0 t).2]

theorem w_apply (t : Fin cfg0.N) (k : Fin 4096) (q : Fin 1024) :
    iblk m c 1 t (ix3 0 k q) = W m c (ix3 0 k ⟨12288 + (1024 * (t.val / 16) + q.val), by have : t.val < 96 := t.isLt; omega⟩) := by
  blk_ext [W, iblk, V, (idx1 t).1, (idx1 t).2.1, (idx1 t).2.2]

/-- The rows and the weights that a point multiplies. -/
abbrev xs (n : ℕ) (h : n < cfg0.N) : Vec Ideal S512x4096 .bf16 := iblk m c 0 ⟨n, h⟩
abbrev ws (n : ℕ) (h : n < cfg0.N) : Vec Ideal S1x4096x1024 .f32 := iblk m c 1 ⟨n, h⟩

/-- After a point: the point's block of the product. -/
theorem outs_apply (n : ℕ) (h : n < cfg0.N) (p : Fin 512) (q : Fin 1024) :
    (outsAt0 m c n h).1 (ix2 p q) = ∑ k : Fin 4096, xs m c n h (ix2 p k) * ws m c n h (ix3 0 k q) := by
  refine Product.point (p := 16) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 16 = (n - 1) / 16 := by omega
    exact (w_apply m c ⟨n, h⟩ k q).trans (Eq.trans (by simp only [e]) (w_apply m c ⟨n - 1, by omega⟩ k q).symm)

/-- An entry of the result: the row of the token `16 i + r`, for row `512 r + i`, times the weights' column. -/
theorem result_apply (R : Fin 8192) (C : Fin 6144) :
    Value.G2 m c (ix2 R C) = ∑ k : Fin 4096, X m c (ix2 ⟨16 * (R.val % 512) + R.val / 512, by omega⟩ k) * W m c (ix3 0 k ⟨12288 + C.val, by omega⟩) := by
  have hp : R.val / 512 + 16 * (C.val / 1024) < cfg0.N := lt_of_lt_of_eq (show _ < 96 by omega) N_0.symm
  have hr : Value.pt2Of (ix2 R C) = R.val / 512 + 16 * (C.val / 1024) := by
    show 1 * (R.val / 512 - 0) + 16 * (C.val / 1024 - 0) = _
    omega
  unfold Value.G2
  rw [dif_pos (hr ▸ hp), Value.fold0_congr m c _ _ _ (by omega) hr, ← Value.outsAt0_sweep m c _ hp]
  have hl : Value.loc2Of (ix2 R C) = ix2 (⟨R.val % 512, by omega⟩ : Fin 512) (⟨C.val % 1024, by omega⟩ : Fin 1024) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 16 * (R.val % 512) + (R.val / 512 + 16 * (C.val / 1024)) % 16 = 16 * (R.val % 512) + R.val / 512
    omega
  · show 12288 + (1024 * ((R.val / 512 + 16 * (C.val / 1024)) / 16) + C.val % 1024) = 12288 + C.val
    omega

end Cert.KernelQkv16Ideal.Array
-- ==== Proof.Ao.lean ====
/- The first kind of layer's projection of the heads back to the model's width, as the kernel computes it: an entry of its result is the
   row times the weights' column. -/
module

public import proofs.«01_k».proof.Proof.Product
public import proofs.«01_k».proof.Proof.Gen.KernelAoIdeal.Value

@[expose] public section

set_option maxRecDepth 16384

noncomputable section

namespace Cert.KernelAoIdeal.Array

open Cert.KernelAoIdeal Cert.KernelAoIdeal.Gen Idealize.ShloMosaic Idealize.ShloMosaic.TcCoe

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = 0 ∧ win0_1.index t 2 = t.val / 16 :=
  (by decide +kernel : ∀ t : Fin grid0.N, win0_1.index t 0 = 0 ∧ win0_1.index t 1 = 0 ∧ win0_1.index t 2 = t.val / 16)

section cases
variable (c : Dev nD) (i : grid0.Coords) (a2 : Memref sig .tc .vmem S512x2048 .bf16) (h2 : a2.IsWhole)
  (a3 : Memref sig .tc .vmem S1x2048x1024 .f32) (h3 : a3.IsWhole) (a4 : Memref sig .tc .vmem S512x1024 .bf16) (h4 : a4.IsWhole)
  (a5 : Memref sig .tc .vmem S2048x1024 .bf16) (h5 : a5.IsWhole)
  (x : Vec Ideal S512x2048 .bf16) (w : Vec Ideal S1x2048x1024 .f32) (s : Vec Ideal S2048x1024 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S512x2048 .bf16) (w : Vec Ideal S1x2048x1024 .f32) (p : Fin 512) (q : Fin 1024) :
    k0_pay2 x (k0_pay1 w) (ix2 p q) = ∑ k : Fin 2048, x (ix2 p k) * w (ix3 0 k q) := by
  exact Product.block (M := 512) (K := 2048) (N := 1024) x w _ _ _ p q

variable (m : (ℓ : Loc nD τ sig) → Buf (Elt Ideal) ℓ) (c : Dev nD)

/-- The tokens' rows and the weights. -/
def X : Vec Ideal S8192x2048 .bf16 := m ((c : Thread nD τ).loc main_arg0)
def W : Vec Ideal S2x2048x4096 .f32 := m ((c : Thread nD τ).loc main_arg1)

theorem x_apply (t : Fin cfg0.N) (p : Fin 512) (k : Fin 2048) :
    iblk m c 0 t (ix2 p k) = X m c (ix2 ⟨512 * (t.val % 16) + p.val, by omega⟩ k) := by
  blk_ext [X, iblk, V, (idx0 t).1, (idx0 t).2]

theorem w_apply (t : Fin cfg0.N) (k : Fin 2048) (q : Fin 1024) :
    iblk m c 1 t (ix3 0 k q) = W m c (ix3 0 k ⟨1024 * (t.val / 16) + q.val, by have : t.val < 64 := t.isLt; omega⟩) := by
  blk_ext [W, iblk, V, (idx1 t).1, (idx1 t).2.1, (idx1 t).2.2]

/-- The rows and the weights that a point multiplies. -/
abbrev xs (n : ℕ) (h : n < cfg0.N) : Vec Ideal S512x2048 .bf16 := iblk m c 0 ⟨n, h⟩
abbrev ws (n : ℕ) (h : n < cfg0.N) : Vec Ideal S1x2048x1024 .f32 := iblk m c 1 ⟨n, h⟩

/-- After a point: the point's block of the product. -/
theorem outs_apply (n : ℕ) (h : n < cfg0.N) (p : Fin 512) (q : Fin 1024) :
    (outsAt0 m c n h).1 (ix2 p q) = ∑ k : Fin 2048, xs m c n h (ix2 p k) * ws m c n h (ix3 0 k q) := by
  refine Product.point (p := 16) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 16 = (n - 1) / 16 := by omega
    exact (w_apply m c ⟨n, h⟩ k q).trans (Eq.trans (by simp only [e]) (w_apply m c ⟨n - 1, by omega⟩ k q).symm)

/-- An entry of the result: its row times the weights' column. -/
theorem result_apply (R : Fin 8192) (C : Fin 4096) :
    Value.G2 m c (ix2 R C) = ∑ k : Fin 2048, X m c (ix2 R k) * W m c (ix3 0 k C) := by
  have hp : R.val / 512 + 16 * (C.val / 1024) < cfg0.N := lt_of_lt_of_eq (show _ < 64 by omega) N_0.symm
  have hr : Value.pt2Of (ix2 R C) = R.val / 512 + 16 * (C.val / 1024) := by
    show 1 * (R.val / 512 - 0) + 16 * (C.val / 1024 - 0) = _
    omega
  unfold Value.G2
  rw [dif_pos (hr ▸ hp), Value.fold0_congr m c _ _ _ (by omega) hr, ← Value.outsAt0_sweep m c _ hp]
  have hl : Value.loc2Of (ix2 R C) = ix2 (⟨R.val % 512, by omega⟩ : Fin 512) (⟨C.val % 1024, by omega⟩ : Fin 1024) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 512 * ((R.val / 512 + 16 * (C.val / 1024)) % 16) + R.val % 512 = R.val
    omega
  · show 1024 * ((R.val / 512 + 16 * (C.val / 1024)) / 16) + C.val % 1024 = C.val
    omega

end Cert.KernelAoIdeal.Array
-- ==== Proof.Bq.lean ====
/- The second kind of layer's projection to the queries, as the kernel computes it: an entry of its result is the
   row times the weights' column. -/
module

public import proofs.«01_k».proof.Proof.Product
public import proofs.«01_k».proof.Proof.Gen.KernelBqIdeal.Value

@[expose] public section

set_option maxRecDepth 16384

noncomputable section

namespace Cert.KernelBqIdeal.Array

open Cert.KernelBqIdeal Cert.KernelBqIdeal.Gen Idealize.ShloMosaic Idealize.ShloMosaic.TcCoe

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)

section cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S1024x512 .f32) (h4 : a4.IsWhole)
  (a5 : Memref sig .tc .vmem S4096x512 .bf16) (h5 : a5.IsWhole)
  (x : Vec Ideal S1024x4096 .bf16) (w : Vec Ideal S1x4096x512 .f32) (s : Vec Ideal S4096x512 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S1024x4096 .bf16) (w : Vec Ideal S1x4096x512 .f32) (p : Fin 1024) (q : Fin 512) :
    k0_pay2 x (k0_pay1 w) (ix2 p q) = ∑ k : Fin 4096, x (ix2 p k) * w (ix3 0 k q) := by
  exact Product.block (M := 1024) (K := 4096) (N := 512) x w _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S2x4096x4096 .f32 := m ((c : Thread nD τ).loc main_arg1)

theorem x_apply (t : Fin cfg0.N) (p : Fin 1024) (k : Fin 4096) :
    iblk m c 0 t (ix2 p k) = X m c (ix2 ⟨1024 * (t.val % 8) + p.val, by omega⟩ k) := by
  blk_ext [X, iblk, V, (idx0 t).1, (idx0 t).2]

theorem w_apply (t : Fin cfg0.N) (k : Fin 4096) (q : Fin 512) :
    iblk m c 1 t (ix3 0 k q) = W m c (ix3 0 k ⟨512 * (t.val / 8) + q.val, by have : t.val < 64 := t.isLt; omega⟩) := by
  blk_ext [W, iblk, V, (idx1 t).1, (idx1 t).2.1, (idx1 t).2.2]

/-- The rows and the weights that a point multiplies. -/
abbrev xs (n : ℕ) (h : n < cfg0.N) : Vec Ideal S1024x4096 .bf16 := iblk m c 0 ⟨n, h⟩
abbrev ws (n : ℕ) (h : n < cfg0.N) : Vec Ideal S1x4096x512 .f32 := iblk m c 1 ⟨n, h⟩

/-- After a point: the point's block of the product. -/
theorem outs_apply (n : ℕ) (h : n < cfg0.N) (p : Fin 1024) (q : Fin 512) :
    (outsAt0 m c n h).1 (ix2 p q) = ∑ k : Fin 4096, xs m c n h (ix2 p k) * ws m c n h (ix3 0 k q) := by
  refine Product.point (p := 8) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 8 = (n - 1) / 8 := by omega
    exact (w_apply m c ⟨n, h⟩ k q).trans (Eq.trans (by simp only [e]) (w_apply m c ⟨n - 1, by omega⟩ k q).symm)

/-- An entry of the result: its row times the weights' column. -/
theorem result_apply (R : Fin 8192) (C : Fin 4096) :
    Value.G2 m c (ix2 R C) = ∑ k : Fin 4096, X m c (ix2 R k) * W m c (ix3 0 k C) := by
  have hp : R.val / 1024 + 8 * (C.val / 512) < cfg0.N := lt_of_lt_of_eq (show _ < 64 by omega) N_0.symm
  have hr : Value.pt2Of (ix2 R C) = R.val / 1024 + 8 * (C.val / 512) := by
    show 1 * (R.val / 1024 - 0) + 8 * (C.val / 512 - 0) = _
    omega
  unfold Value.G2
  rw [dif_pos (hr ▸ hp), Value.fold0_congr m c _ _ _ (by omega) hr, ← Value.outsAt0_sweep m c _ hp]
  have hl : Value.loc2Of (ix2 R C) = ix2 (⟨R.val % 1024, by omega⟩ : Fin 1024) (⟨C.val % 512, by omega⟩ : Fin 512) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 1024 * ((R.val / 1024 + 8 * (C.val / 512)) % 8) + R.val % 1024 = R.val
    omega
  · show 512 * ((R.val / 1024 + 8 * (C.val / 512)) / 8) + C.val % 512 = C.val
    omega

end Cert.KernelBqIdeal.Array
-- ==== Proof.Bo.lean ====
/- The second kind of layer's projection of the heads back to the model's width, as the kernel computes it: an entry of its result is the
   row times the weights' column. -/
module

public import proofs.«01_k».proof.Proof.Product
public import proofs.«01_k».proof.Proof.Gen.KernelBoIdeal.Value

@[expose] public section

set_option maxRecDepth 16384

noncomputable section

namespace Cert.KernelBoIdeal.Array

open Cert.KernelBoIdeal Cert.KernelBoIdeal.Gen Idealize.ShloMosaic Idealize.ShloMosaic.TcCoe

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = 0 ∧ win0_1.index t 2 = t.val / 16 :=
  (by decide +kernel : ∀ t : Fin grid0.N, win0_1.index t 0 = 0 ∧ win0_1.index t 1 = 0 ∧ win0_1.index t 2 = t.val / 16)

section cases
variable (c : Dev nD) (i : grid0.Coords) (a2 : Memref sig .tc .vmem S512x4096 .bf16) (h2 : a2.IsWhole)
  (a3 : Memref sig .tc .vmem S1x4096x1024 .f32) (h3 : a3.IsWhole) (a4 : Memref sig .tc .vmem S512x1024 .bf16) (h4 : a4.IsWhole)
  (a5 : Memref sig .tc .vmem S4096x1024 .bf16) (h5 : a5.IsWhole)
  (x : Vec Ideal S512x4096 .bf16) (w : Vec Ideal S1x4096x1024 .f32) (s : Vec Ideal S4096x1024 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S512x4096 .bf16) (w : Vec Ideal S1x4096x1024 .f32) (p : Fin 512) (q : Fin 1024) :
    k0_pay2 x (k0_pay1 w) (ix2 p q) = ∑ k : Fin 4096, x (ix2 p k) * w (ix3 0 k q) := by
  exact Product.block (M := 512) (K := 4096) (N := 1024) x w _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S2x4096x4096 .f32 := m ((c : Thread nD τ).loc main_arg1)

theorem x_apply (t : Fin cfg0.N) (p : Fin 512) (k : Fin 4096) :
    iblk m c 0 t (ix2 p k) = X m c (ix2 ⟨512 * (t.val % 16) + p.val, by omega⟩ k) := by
  blk_ext [X, iblk, V, (idx0 t).1, (idx0 t).2]

theorem w_apply (t : Fin cfg0.N) (k : Fin 4096) (q : Fin 1024) :
    iblk m c 1 t (ix3 0 k q) = W m c (ix3 0 k ⟨1024 * (t.val / 16) + q.val, by have : t.val < 64 := t.isLt; omega⟩) := by
  blk_ext [W, iblk, V, (idx1 t).1, (idx1 t).2.1, (idx1 t).2.2]

/-- The rows and the weights that a point multiplies. -/
abbrev xs (n : ℕ) (h : n < cfg0.N) : Vec Ideal S512x4096 .bf16 := iblk m c 0 ⟨n, h⟩
abbrev ws (n : ℕ) (h : n < cfg0.N) : Vec Ideal S1x4096x1024 .f32 := iblk m c 1 ⟨n, h⟩

/-- After a point: the point's block of the product. -/
theorem outs_apply (n : ℕ) (h : n < cfg0.N) (p : Fin 512) (q : Fin 1024) :
    (outsAt0 m c n h).1 (ix2 p q) = ∑ k : Fin 4096, xs m c n h (ix2 p k) * ws m c n h (ix3 0 k q) := by
  refine Product.point (p := 16) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 16 = (n - 1) / 16 := by omega
    exact (w_apply m c ⟨n, h⟩ k q).trans (Eq.trans (by simp only [e]) (w_apply m c ⟨n - 1, by omega⟩ k q).symm)

/-- An entry of the result: its row times the weights' column. -/
theorem result_apply (R : Fin 8192) (C : Fin 4096) :
    Value.G2 m c (ix2 R C) = ∑ k : Fin 4096, X m c (ix2 R k) * W m c (ix3 0 k C) := by
  have hp : R.val / 512 + 16 * (C.val / 1024) < cfg0.N := lt_of_lt_of_eq (show _ < 64 by omega) N_0.symm
  have hr : Value.pt2Of (ix2 R C) = R.val / 512 + 16 * (C.val / 1024) := by
    show 1 * (R.val / 512 - 0) + 16 * (C.val / 1024 - 0) = _
    omega
  unfold Value.G2
  rw [dif_pos (hr ▸ hp), Value.fold0_congr m c _ _ _ (by omega) hr, ← Value.outsAt0_sweep m c _ hp]
  have hl : Value.loc2Of (ix2 R C) = ix2 (⟨R.val % 512, by omega⟩ : Fin 512) (⟨C.val % 1024, by omega⟩ : Fin 1024) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix3 0 k a)) (Fin.ext ?_))
  · show 512 * ((R.val / 512 + 16 * (C.val / 1024)) % 16) + R.val % 512 = R.val
    omega
  · show 1024 * ((R.val / 512 + 16 * (C.val / 1024)) / 16) + C.val % 1024 = C.val
    omega

end Cert.KernelBoIdeal.Array
-- ==== Proof.Kv.lean ====
/- The second kind of layer's projection to the keys and values, as the kernel computes it: an entry of its result is the
   row times the weights' column. -/
module

public import proofs.«01_k».proof.Proof.Product
public import proofs.«01_k».proof.Proof.Gen.KernelKvIdeal.Value

@[expose] public section

set_option maxRecDepth 16384

noncomputable section

namespace Cert.KernelKvIdeal.Array

open Cert.KernelKvIdeal Cert.KernelKvIdeal.Gen Idealize.ShloMosaic Idealize.ShloMosaic.TcCoe

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)

section cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S1024x512 .f32) (h4 : a4.IsWhole)
  (a5 : Memref sig .tc .vmem S4096x512 .bf16) (h5 : a5.IsWhole)
  (x : Vec Ideal S1024x4096 .bf16) (w : Vec Ideal S1x4096x512 .f32) (s : Vec Ideal S4096x512 .bf16)

theorem sout_A (hc : cond0_0 i) : sout0_A_0 c i a2 h2 a3 h3 a4 h4 a5 h5 hc x w = k0_pay1 w := by
  unfold sout0_A_0 kernelRun0_A
  dsimp only
  sl_unfold_words
  exact (Product.stored _ _ Product.zero2 _ _).trans (congrArg k0_pay1 (Product.loaded h3 Product.zero3 _ w))

theorem out_A (hc : cond0_0 i) : out0_A_2 c i a2 h2 a3 h3 a4 h4 a5 h5 hc x w = k0_pay2 x (k0_pay1 w) := by
  unfold out0_A_2 kernelRun0_A
  dsimp only
  sl_unfold_words
  exact (Product.stored _ _ Product.zero2 _ _).trans (congrArg₂ k0_pay2 (Product.loaded h2 Product.zero2 _ x)
    ((View.readCov_unit_zero _ Product.zero2 _ _).trans (congrArg k0_pay1 (Product.loaded h3 Product.zero3 _ w))))

theorem out_B (hc : ¬cond0_0 i) : out0_B_2 c i a2 h2 a3 h3 a4 h4 a5 h5 hc x w s = k0_pay2 x s := by
  unfold out0_B_2 kernelRun0_B
  exact (Product.stored _ _ Product.zero2 _ _).trans (congrArg₂ k0_pay2 (Product.loaded h2 Product.zero2 _ x) (Product.loaded h5 Product.zero2 _ s))

end cases

theorem pay_apply (x : Vec Ideal S1024x4096 .bf16) (w : Vec Ideal S1x4096x512 .f32) (p : Fin 1024) (q : Fin 512) :
    k0_pay2 x (k0_pay1 w) (ix2 p q) = ∑ k : Fin 4096, x (ix2 p k) * w (ix3 0 k q) := by
  exact Product.block (M := 1024) (K := 4096) (N := 512) x w _ _ _ p q

variable (m : (ℓ : Loc nD τ sig) → Buf (Elt Ideal) ℓ) (c : Dev nD)

/-- The tokens' rows and the weights. -/
def X : Vec Ideal S8192x4096 .bf16 := m ((c : Thread nD τ).loc main_arg0)
def W : Vec Ideal S4096x2048 .f32 := m ((c : Thread nD τ).loc main_arg1)

theorem V_v0 : V m c main_v0 = broadcastInDim S1x4096x2048 ![1, 2] bcast_S4096x2048_S1x4096x2048_1_2 (W m c) := by
  show StableHlo.after hostOps0 _ _ = _
  after_results
  rfl

/-- The weights under a leading axis of size one. -/
theorem lead_apply (w : Vec Ideal S4096x2048 .f32) (k : Fin 4096) (q : Fin 2048) :
    broadcastInDim S1x4096x2048 ![1, 2] bcast_S4096x2048_S1x4096x2048_1_2 w (ix3 0 k q) = w (ix2 k q) := by
  pointwise []

theorem x_apply (t : Fin cfg0.N) (p : Fin 1024) (k : Fin 4096) :
    iblk m c 0 t (ix2 p k) = X m c (ix2 ⟨1024 * (t.val % 8) + p.val, by omega⟩ k) := by
  blk_ext [X, iblk, V, (idx0 t).1, (idx0 t).2]

theorem w_apply (t : Fin cfg0.N) (k : Fin 4096) (q : Fin 512) :
    iblk m c 1 t (ix3 0 k q) = W m c (ix2 k ⟨512 * (t.val / 8) + q.val, by have : t.val < 32 := t.isLt; omega⟩) := by
  have ht : t.val < 32 := t.isLt
  have e : iblk m c 1 t = ((cfg0.win 1).blk t).view.read (Elt Ideal) (V m c main_v0) := rfl
  rw [e, V_v0, ← lead_apply (W m c) k ⟨512 * (t.val / 8) + q.val, by omega⟩]
  generalize broadcastInDim S1x4096x2048 ![1, 2] bcast_S4096x2048_S1x4096x2048_1_2 (W m c) = z
  blk_ext [(idx1 t).1, (idx1 t).2.1, (idx1 t).2.2]

/-- The rows and the weights that a point multiplies. -/
abbrev xs (n : ℕ) (h : n < cfg0.N) : Vec Ideal S1024x4096 .bf16 := iblk m c 0 ⟨n, h⟩
abbrev ws (n : ℕ) (h : n < cfg0.N) : Vec Ideal S1x4096x512 .f32 := iblk m c 1 ⟨n, h⟩

/-- After a point: the point's block of the product. -/
theorem outs_apply (n : ℕ) (h : n < cfg0.N) (p : Fin 1024) (q : Fin 512) :
    (outsAt0 m c n h).1 (ix2 p q) = ∑ k : Fin 4096, xs m c n h (ix2 p k) * ws m c n h (ix3 0 k q) := by
  refine Product.point (p := 8) (outsAt0 m c) (xs m c) (ws m c) (k0_pay1 (F := Ideal)) (k0_pay2 (F := Ideal)) pay_apply
    (fun n h hn => ?_) (fun n h hn => ?_) (fun n h hn k q => ?_) n h p q
  · rw [outsAt0_A m c ⟨n, h⟩ hn, out_A, sout_A]
  · rw [outsAt0_B m c ⟨n, h⟩ hn, out_B]
    rfl
  · have e : n / 8 = (n - 1) / 8 := by omega
    exact (w_apply m c ⟨n, h⟩ k q).trans (Eq.trans (by simp only [e]) (w_apply m c ⟨n - 1, by omega⟩ k q).symm)

/-- An entry of the result: its row times the weights' column. -/
theorem result_apply (R : Fin 8192) (C : Fin 2048) :
    Value.G2 m c (ix2 R C) = ∑ k : Fin 4096, X m c (ix2 R k) * W m c (ix2 k C) := by
  have hp : R.val / 1024 + 8 * (C.val / 512) < cfg0.N := lt_of_lt_of_eq (show _ < 32 by omega) N_0.symm
  have hr : Value.pt2Of (ix2 R C) = R.val / 1024 + 8 * (C.val / 512) := by
    show 1 * (R.val / 1024 - 0) + 8 * (C.val / 512 - 0) = _
    omega
  unfold Value.G2
  rw [dif_pos (hr ▸ hp), Value.fold0_congr m c _ _ _ (by omega) hr, ← Value.outsAt0_sweep m c _ hp]
  have hl : Value.loc2Of (ix2 R C) = ix2 (⟨R.val % 1024, by omega⟩ : Fin 1024) (⟨C.val % 512, by omega⟩ : Fin 512) :=
    funext fun a => by match a with | ⟨0, _⟩ => rfl | ⟨1, _⟩ => rfl
  rw [hl]
  refine (outs_apply m c _ hp _ _).trans (Finset.sum_congr rfl fun k _ => ?_)
  rw [xs, ws, x_apply, w_apply]
  refine congrArg₂ (· * ·) (congrArg (fun a => X m c (ix2 a k)) (Fin.ext ?_)) (congrArg (fun a => W m c (ix2 k a)) (Fin.ext ?_))
  · show 1024 * ((R.val / 1024 + 8 * (C.val / 512)) % 8) + R.val % 1024 = R.val
    omega
  · show 512 * ((R.val / 1024 + 8 * (C.val / 512)) / 8) + C.val % 512 = C.val
    omega

end Cert.KernelKvIdeal.Array
-- ==== Proof.Products.lean ====
/- The projections: each kernel's result is its reference's, and each reference ends quietly. -/
module

public import proofs.«01_k».proof.Defs
public import proofs.«01_k».proof.Proof.RefProducts
public import proofs.«01_k».proof.Proof.Qkv1
public import proofs.«01_k».proof.Proof.Qkv4
public import proofs.«01_k».proof.Proof.Qkv16
public import proofs.«01_k».proof.Proof.Ao
public import proofs.«01_k».proof.Proof.Bq
public import proofs.«01_k».proof.Proof.Bo
public import proofs.«01_k».proof.Proof.Kv
public import proofs.«01_k».proof.Proof.Gen.ReferenceQkv1Ideal
public import proofs.«01_k».proof.Proof.Gen.ReferenceQkv4Ideal
public import proofs.«01_k».proof.Proof.Gen.ReferenceQkv16Ideal
public import proofs.«01_k».proof.Proof.Gen.ReferenceAoIdeal
public import proofs.«01_k».proof.Proof.Gen.ReferenceBqIdeal
public import proofs.«01_k».proof.Proof.Gen.ReferenceBoIdeal
public import proofs.«01_k».proof.Proof.Gen.ReferenceKvIdeal
public import Idealize.ShloMosaic.Adequacy
public import Idealize.ShloMosaic.Init

@[expose] public section

noncomputable section

namespace Cert.Proof

open Idealize.ShloMosaic Idealize.SL.Sem

/-! ## The queries, keys and values of the group with dilation 1 -/

theorem frame_Qkv1 : Cert.quiescent_ReferenceQkv1Ideal (hReferenceQkv1Ideal := Cert.ReferenceQkv1Ideal.Gen.facts) := fun m ρ _ =>
  (θ_run Cert.ReferenceQkv1Ideal.defs _ _).mono (fun r h => ⟨fun c => (h c).2, sem_eq_zero_of_no_sems (by decide) r.2⟩)
    (Cert.ReferenceQkv1Ideal.Value.run (F := Ideal) m ρ)

theorem algebraic_Qkv1 : Cert.algebraic_KernelQkv1Ideal_ReferenceQkv1Ideal (hKernelQkv1Ideal := Cert.KernelQkv1Ideal.Gen.facts)
    (hReferenceQkv1Ideal := Cert.ReferenceQkv1Ideal.Gen.facts) := by
  intro m ρ m' ρ' _ hargs
  refine ⟨_, Cert.KernelQkv1Ideal.Value.run (F := Ideal) m ρ, ?_⟩
  refine (θ_run (Cert.ReferenceQkv1Ideal.defs (F := Ideal)) _ _).mono (fun r h c => ⟨(h c).1.trans ?_, (h c).2⟩) (Cert.ReferenceQkv1Ideal.Value.run (F := Ideal) m' ρ')
  rw [(hargs c).1, (hargs c).2]
  exact Product.ext2 fun R C => ((Cert.ReferenceQkv1Ideal.Stage.streams_apply _ R C).trans (Cert.ReferenceQkv1Ideal.Stage.product_apply (Cert.KernelQkv1Ideal.Array.X m c) (Cert.KernelQkv1Ideal.Array.W m c) _ _)).trans (Cert.KernelQkv1Ideal.Array.result_apply m c R C).symm

/-! ## The queries, keys and values of the group with dilation 4 -/

theorem frame_Qkv4 : Cert.quiescent_ReferenceQkv4Ideal (hReferenceQkv4Ideal := Cert.ReferenceQkv4Ideal.Gen.facts) := fun m ρ _ =>
  (θ_run Cert.ReferenceQkv4Ideal.defs _ _).mono (fun r h => ⟨fun c => (h c).2, sem_eq_zero_of_no_sems (by decide) r.2⟩)
    (Cert.ReferenceQkv4Ideal.Value.run (F := Ideal) m ρ)

theorem algebraic_Qkv4 : Cert.algebraic_KernelQkv4Ideal_ReferenceQkv4Ideal (hKernelQkv4Ideal := Cert.KernelQkv4Ideal.Gen.facts)
    (hReferenceQkv4Ideal := Cert.ReferenceQkv4Ideal.Gen.facts) := by
  intro m ρ m' ρ' _ hargs
  refine ⟨_, Cert.KernelQkv4Ideal.Value.run (F := Ideal) m ρ, ?_⟩
  refine (θ_run (Cert.ReferenceQkv4Ideal.defs (F := Ideal)) _ _).mono (fun r h c => ⟨(h c).1.trans ?_, (h c).2⟩) (Cert.ReferenceQkv4Ideal.Value.run (F := Ideal) m' ρ')
  rw [(hargs c).1, (hargs c).2]
  exact Product.ext2 fun R C => ((Cert.ReferenceQkv4Ideal.Stage.streams_apply _ R C).trans (Cert.ReferenceQkv4Ideal.Stage.product_apply (Cert.KernelQkv4Ideal.Array.X m c) (Cert.KernelQkv4Ideal.Array.W m c) _ _)).trans (Cert.KernelQkv4Ideal.Array.result_apply m c R C).symm

/-! ## The queries, keys and values of the group with dilation 16 -/

theorem frame_Qkv16 : Cert.quiescent_ReferenceQkv16Ideal (hReferenceQkv16Ideal := Cert.ReferenceQkv16Ideal.Gen.facts) := fun m ρ _ =>
  (θ_run Cert.ReferenceQkv16Ideal.defs _ _).mono (fun r h => ⟨fun c => (h c).2, sem_eq_zero_of_no_sems (by decide) r.2⟩)
    (Cert.ReferenceQkv16Ideal.Value.run (F := Ideal) m ρ)

theorem algebraic_Qkv16 : Cert.algebraic_KernelQkv16Ideal_ReferenceQkv16Ideal (hKernelQkv16Ideal := Cert.KernelQkv16Ideal.Gen.facts)
    (hReferenceQkv16Ideal := Cert.ReferenceQkv16Ideal.Gen.facts) := by
  intro m ρ m' ρ' _ hargs
  refine ⟨_, Cert.KernelQkv16Ideal.Value.run (F := Ideal) m ρ, ?_⟩
  refine (θ_run (Cert.ReferenceQkv16Ideal.defs (F := Ideal)) _ _).mono (fun r h c => ⟨(h c).1.trans ?_, (h c).2⟩) (Cert.ReferenceQkv16Ideal.Value.run (F := Ideal) m' ρ')
  rw [(hargs c).1, (hargs c).2]
  exact Product.ext2 fun R C => ((Cert.ReferenceQkv16Ideal.Stage.streams_apply _ R C).trans (Cert.ReferenceQkv16Ideal.Stage.product_apply (Cert.KernelQkv16Ideal.Array.X m c) (Cert.KernelQkv16Ideal.Array.W m c) _ _)).trans (Cert.KernelQkv16Ideal.Array.result_apply m c R C).symm

/-! ## The first kind of layer's way back from the heads -/

theorem frame_Ao : Cert.quiescent_ReferenceAoIdeal (hReferenceAoIdeal := Cert.ReferenceAoIdeal.Gen.facts) := fun m ρ _ =>
  (θ_run Cert.ReferenceAoIdeal.defs _ _).mono (fun r h => ⟨fun c => (h c).2, sem_eq_zero_of_no_sems (by decide) r.2⟩)
    (Cert.ReferenceAoIdeal.Value.run (F := Ideal) m ρ)

theorem algebraic_Ao : Cert.algebraic_KernelAoIdeal_ReferenceAoIdeal (hKernelAoIdeal := Cert.KernelAoIdeal.Gen.facts)
    (hReferenceAoIdeal := Cert.ReferenceAoIdeal.Gen.facts) := by
  intro m ρ m' ρ' _ hargs
  refine ⟨_, Cert.KernelAoIdeal.Value.run (F := Ideal) m ρ, ?_⟩
  refine (θ_run (Cert.ReferenceAoIdeal.defs (F := Ideal)) _ _).mono (fun r h c => ⟨(h c).1.trans ?_, (h c).2⟩) (Cert.ReferenceAoIdeal.Value.run (F := Ideal) m' ρ')
  rw [(hargs c).1, (hargs c).2]
  exact Product.ext2 fun R C => (Cert.ReferenceAoIdeal.Stage.product_apply (Cert.KernelAoIdeal.Array.X m c) (Cert.KernelAoIdeal.Array.W m c) R C).trans (Cert.KernelAoIdeal.Array.result_apply m c R C).symm

/-! ## The second kind of layer's queries -/

theorem frame_Bq : Cert.quiescent_ReferenceBqIdeal (hReferenceBqIdeal := Cert.ReferenceBqIdeal.Gen.facts) := fun m ρ _ =>
  (θ_run Cert.ReferenceBqIdeal.defs _ _).mono (fun r h => ⟨fun c => (h c).2, sem_eq_zero_of_no_sems (by decide) r.2⟩)
    (Cert.ReferenceBqIdeal.Value.run (F := Ideal) m ρ)

theorem algebraic_Bq : Cert.algebraic_KernelBqIdeal_ReferenceBqIdeal (hKernelBqIdeal := Cert.KernelBqIdeal.Gen.facts)
    (hReferenceBqIdeal := Cert.ReferenceBqIdeal.Gen.facts) := by
  intro m ρ m' ρ' _ hargs
  refine ⟨_, Cert.KernelBqIdeal.Value.run (F := Ideal) m ρ, ?_⟩
  refine (θ_run (Cert.ReferenceBqIdeal.defs (F := Ideal)) _ _).mono (fun r h c => ⟨(h c).1.trans ?_, (h c).2⟩) (Cert.ReferenceBqIdeal.Value.run (F := Ideal) m' ρ')
  rw [(hargs c).1, (hargs c).2]
  exact Product.ext2 fun R C => (Cert.ReferenceBqIdeal.Stage.product_apply (Cert.KernelBqIdeal.Array.X m c) (Cert.KernelBqIdeal.Array.W m c) R C).trans (Cert.KernelBqIdeal.Array.result_apply m c R C).symm

/-! ## The second kind of layer's way back from the heads -/

theorem frame_Bo : Cert.quiescent_ReferenceBoIdeal (hReferenceBoIdeal := Cert.ReferenceBoIdeal.Gen.facts) := fun m ρ _ =>
  (θ_run Cert.ReferenceBoIdeal.defs _ _).mono (fun r h => ⟨fun c => (h c).2, sem_eq_zero_of_no_sems (by decide) r.2⟩)
    (Cert.ReferenceBoIdeal.Value.run (F := Ideal) m ρ)

theorem algebraic_Bo : Cert.algebraic_KernelBoIdeal_ReferenceBoIdeal (hKernelBoIdeal := Cert.KernelBoIdeal.Gen.facts)
    (hReferenceBoIdeal := Cert.ReferenceBoIdeal.Gen.facts) := by
  intro m ρ m' ρ' _ hargs
  refine ⟨_, Cert.KernelBoIdeal.Value.run (F := Ideal) m ρ, ?_⟩
  refine (θ_run (Cert.ReferenceBoIdeal.defs (F := Ideal)) _ _).mono (fun r h c => ⟨(h c).1.trans ?_, (h c).2⟩) (Cert.ReferenceBoIdeal.Value.run (F := Ideal) m' ρ')
  rw [(hargs c).1, (hargs c).2]
  exact Product.ext2 fun R C => (Cert.ReferenceBoIdeal.Stage.product_apply (Cert.KernelBoIdeal.Array.X m c) (Cert.KernelBoIdeal.Array.W m c) R C).trans (Cert.KernelBoIdeal.Array.result_apply m c R C).symm

/-! ## The second kind of layer's keys and values -/

theorem frame_Kv : Cert.quiescent_ReferenceKvIdeal (hReferenceKvIdeal := Cert.ReferenceKvIdeal.Gen.facts) := fun m ρ _ =>
  (θ_run Cert.ReferenceKvIdeal.defs _ _).mono (fun r h => ⟨fun c => (h c).2, sem_eq_zero_of_no_sems (by decide) r.2⟩)
    (Cert.ReferenceKvIdeal.Value.run (F := Ideal) m ρ)

theorem algebraic_Kv : Cert.algebraic_KernelKvIdeal_ReferenceKvIdeal (hKernelKvIdeal := Cert.KernelKvIdeal.Gen.facts)
    (hReferenceKvIdeal := Cert.ReferenceKvIdeal.Gen.facts) := by
  intro m ρ m' ρ' _ hargs
  refine ⟨_, Cert.KernelKvIdeal.Value.run (F := Ideal) m ρ, ?_⟩
  refine (θ_run (Cert.ReferenceKvIdeal.defs (F := Ideal)) _ _).mono (fun r h c => ⟨(h c).1.trans ?_, (h c).2⟩) (Cert.ReferenceKvIdeal.Value.run (F := Ideal) m' ρ')
  rw [(hargs c).1, (hargs c).2]
  exact Product.ext2 fun R C => (Cert.ReferenceKvIdeal.Stage.product_apply (Cert.KernelKvIdeal.Array.X m c) (Cert.KernelKvIdeal.Array.W m c) R C).trans (Cert.KernelKvIdeal.Array.result_apply m c R C).symm

end Cert.Proof
-- ==== Proof.Pro.lean ====
/- The modulation of the first layer's rows, as the kernel and as the reference compute it: an entry of either is the row's
   entry times one more than the column's scale, plus the column's shift. -/
module

public import proofs.«01_k».proof.Proof.Product
public import proofs.«01_k».proof.Proof.Gen.KernelProIdeal.Value
public import proofs.«01_k».proof.Proof.Gen.ReferenceProIdeal.Run

@[expose] public section

noncomputable section

open Idealize.ShloMosaic

namespace Cert.KernelProIdeal.Array

open Cert.KernelProIdeal Cert.KernelProIdeal.Gen Idealize.ShloMosaic.TcCoe

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true := (by decide +kernel : ∀ t : Fin grid0.N, (cfg0.win 2).flush t = true)

/-- An entry of what a point leaves, from its rows `x` and the vectors `v`. -/
theorem block_apply (x : Vec Ideal S256x4096 .f32) (v : Vec Ideal S8x4096 .f32) (p : Fin 256) (q : Fin 4096) :
    out0_2 x v (ix2 p q) = x (ix2 p q) * (Ideal.ofBits .f32 0x3F800000#32 + v (ix2 3 q)) + v (ix2 4 q) := by
  refine (Value.canon2_eq _ _ _ _).trans ?_
  pointwise [Value.E2]

variable (m : (ℓ : Loc nD τ sig) → Buf (Elt Ideal) ℓ) (c : Dev nD)

/-- The rows and the vectors. -/
def X : Vec Ideal S8192x4096 .f32 := m ((c : Thread nD τ).loc main_arg0)
def W : Vec Ideal S8x4096 .f32 := m ((c : Thread nD τ).loc main_arg1)

theorem x_apply (t : Fin cfg0.N) (p : Fin 256) (q : Fin 4096) :
    iblk m c 0 t (ix2 p q) = X m c (ix2 ⟨256 * t.val + p.val, by have : t.val < 32 := t.isLt; omega⟩ q) := by
  blk_ext [X, iblk, V, (idx0 t).1, (idx0 t).2]

theorem w_apply (t : Fin cfg0.N) (a : Fin 8) (q : Fin 4096) : iblk m c 1 t (ix2 a q) = W m c (ix2 a q) := by
  blk_ext [W, iblk, V, (idx1 t).1, (idx1 t).2]

theorem point_apply (t : Fin cfg0.N) (p : Fin 256) (q : Fin 4096) :
    (dats m 0 c).arrAt 2 cfg0.N (ix2 ⟨256 * t.val + p.val, by have : t.val < 32 := t.isLt; omega⟩ q : S8192x4096.Idx)
      = X m c (ix2 ⟨256 * t.val + p.val, by have : t.val < 32 := t.isLt; omega⟩ q) * (Ideal.ofBits .f32 0x3F800000#32 + W m c (ix2 3 q)) + W m c (ix2 4 q) := by
  have hb := congrFun ((Value.blocks2 m c t (flush2 t)).trans (Value.flushed2 m c t)) (ix2 p q)
  refine Eq.trans ?_ (hb.trans ?_)
  · blk_ext [(idx2 t).1, (idx2 t).2]
  · refine (block_apply _ _ p q).trans ?_
    rw [x_apply, w_apply, w_apply]

/-- An entry of the result. -/
theorem result_apply (R : Fin 8192) (C : Fin 4096) :
    (dats m 0 c).arrAt 2 cfg0.N (ix2 R C : S8192x4096.Idx) = X m c (ix2 R C) * (Ideal.ofBits .f32 0x3F800000#32 + W m c (ix2 3 C)) + W m c (ix2 4 C) := by
  have hR : R = ⟨256 * (R.val / 256) + R.val % 256, by omega⟩ := Fin.ext (by show R.val = 256 * (R.val / 256) + R.val % 256; omega)
  rw [hR]
  exact point_apply m c ⟨R.val / 256, by show R.val / 256 < 32; omega⟩ ⟨R.val % 256, by omega⟩ C

end Cert.KernelProIdeal.Array

namespace Cert.ReferenceProIdeal.Stage

open Cert.ReferenceProIdeal Cert.ReferenceProIdeal.Gen

/-- The modulated rows. -/
def rows (x : FVec Ideal S8192x4096 .f32) (v : FVec Ideal S8x4096 .f32) : FVec Ideal S8192x4096 .bf16 :=
  truncf .bf16 (addf (mulf x (broadcastInDim S8192x4096 ![0, 1] bcast_S1x4096_S8192x4096_0_1 (broadcastInDim S1x4096 ![1] bcast_S4096_S1x4096_1
    (addf (broadcastInDim S4096 ![] bcast_S_S4096 (constant S_ .f32 0x3F800000#32))
      (shapeCast _ (extractStridedSlice S1x4096 ![3, 0] v slices_S8x4096_S1x4096_3_0) shapeCasts_S1x4096_S4096)))))
    (broadcastInDim S8192x4096 ![0, 1] bcast_S1x4096_S8192x4096_0_1 (broadcastInDim S1x4096 ![1] bcast_S4096_S1x4096_1
      (shapeCast _ (extractStridedSlice S1x4096 ![4, 0] v slices_S8x4096_S1x4096_4_0) shapeCasts_S1x4096_S4096)))) bitsLt_bf16_f32

theorem rows_apply (x : FVec Ideal S8192x4096 .f32) (v : FVec Ideal S8x4096 .f32) (R : Fin 8192) (C : Fin 4096) :
    rows x v (ix2 R C) = x (ix2 R C) * (Ideal.ofBits .f32 0x3F800000#32 + v (ix2 3 C)) + v (ix2 4 C) := by
  pointwise [rows]

end Cert.ReferenceProIdeal.Stage
-- ==== Proof.Mean.lean ====
/- The means of the shared keys' blocks, as the kernel and as the reference compute them: an entry of either is a column's sum
   over a block's rows, over their number. -/
module

public import proofs.«01_k».proof.Proof.Product
public import proofs.«01_k».proof.Proof.Gen.KernelMeanIdeal.Value
public import proofs.«01_k».proof.Proof.Gen.ReferenceMeanIdeal.Run

@[expose] public section

noncomputable section

open Idealize.ShloMosaic

namespace Cert.Mean

/-- Row `p` of block `t`. -/
def at_ (t : Fin 32) (p : Fin 256) : Fin 8192 := ⟨t.val * 256 + p.val, by omega⟩

/-- The mean of column `q` over block `t`. -/
def mean (k : (⟨2, ![8192, 1024]⟩ : Shape).Idx → EReal) (t : Fin 32) (q : Fin 1024) : EReal :=
  Ideal.div (∑ p : Fin 256, k (ix2 (at_ t p) q)) (Ideal.ofBits .f32 0x43800000#32)

/-- Two arrays of one row per block, alike at every entry. -/
theorem ext3 {α : Type} {f g : (⟨3, ![32, 1, 1024]⟩ : Shape).Idx → α} (h : ∀ (t : Fin 32) (q : Fin 1024), f (ix3 t 0 q) = g (ix3 t 0 q)) : f = g := by
  funext j
  have hj : j = ix3 (j 0) 0 (j 2) := by
    funext a
    match a with
    | ⟨0, _⟩ => rfl
    | ⟨1, _⟩ => exact Fin.ext (by have : (j 1).val < 1 := (j 1).isLt; show (j 1).val = 0; omega)
    | ⟨2, _⟩ => rfl
  rw [hj]
  exact h _ _

end Cert.Mean

namespace Cert.KernelMeanIdeal.Array

open Cert.KernelMeanIdeal Cert.KernelMeanIdeal.Gen Idealize.ShloMosaic.TcCoe

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem flush1 : ∀ t : Fin cfg0.N, (cfg0.win 1).flush t = true := (by decide +kernel : ∀ t : Fin grid0.N, (cfg0.win 1).flush t = true)

/-- An entry of what a point leaves, from its block of keys. -/
theorem block_apply (k : Vec Ideal S256x1024 .f32) (q : Fin 1024) :
    out0_1 k (ix3 0 0 q) = Ideal.div (∑ p : Fin 256, k (ix2 p q)) (Ideal.ofBits .f32 0x43800000#32) := by
  refine (Value.canon1_eq _ _).trans ?_
  pointwise [Value.E1]

variable (m : (ℓ : Loc nD τ sig) → Buf (Elt Ideal) ℓ) (c : Dev nD)

/-- The keys. -/
def X : Vec Ideal S8192x1024 .f32 := m ((c : Thread nD τ).loc main_arg0)

theorem x_apply (t : Fin cfg0.N) (p : Fin 256) (q : Fin 1024) : iblk m c 0 t (ix2 p q) = X m c (ix2 (Mean.at_ t p) q) := by
  blk_ext [X, Mean.at_, iblk, V, (idx0 t).1, (idx0 t).2]

/-- An entry of the result. -/
theorem result_apply (t : Fin 32) (q : Fin 1024) :
    (dats m 0 c).arrAt 1 cfg0.N (ix3 t 0 q : S32x1x1024.Idx) = Mean.mean (X m c) t q := by
  have hb := congrFun ((Value.blocks1 m c t (flush1 t)).trans (Value.flushed1 m c t)) (ix3 0 0 q)
  refine Eq.trans ?_ (hb.trans ?_)
  · blk_ext [(idx1 t).1, (idx1 t).2.1, (idx1 t).2.2]
  · refine (block_apply _ q).trans ?_
    exact congrArg (Ideal.div · _) (Finset.sum_congr rfl fun p _ => x_apply m c t p q)

end Cert.KernelMeanIdeal.Array

namespace Cert.ReferenceMeanIdeal.Stage

open Cert.ReferenceMeanIdeal Cert.ReferenceMeanIdeal.Gen

/-- The means. -/
def means (k : FVec Ideal S8192x1024 .f32) : FVec Ideal S32x1x1024 .f32 :=
  shapeCast _ (Host.divf (Host.reduceAdd (shapeCast _ k shapeCasts_S8192x1024_S32x256x1024) (constant S_ .f32 0x00000000#32)
    reducesTo_S32x256x1024_S32x1024_d1 h_S_) (broadcastInDim S32x1024 ![] bcast_S_S32x1024 (constant S_ .f32 0x43800000#32))) shapeCasts_S32x1024_S32x1x1024

theorem means_apply (k : FVec Ideal S8192x1024 .f32) (t : Fin 32) (q : Fin 1024) : means k (ix3 t 0 q) = Mean.mean k t q := by
  pointwise [means, Mean.mean, Mean.at_]

end Cert.ReferenceMeanIdeal.Stage
-- ==== Proof.Elementwise.lean ====
/- The modulation and the means of blocks: each kernel's result is its reference's, and each reference ends quietly. -/
module

public import proofs.«01_k».proof.Defs
public import proofs.«01_k».proof.Proof.Pro
public import proofs.«01_k».proof.Proof.Mean
public import proofs.«01_k».proof.Proof.Gen.ReferenceProIdeal
public import proofs.«01_k».proof.Proof.Gen.ReferenceMeanIdeal
public import Idealize.ShloMosaic.Adequacy
public import Idealize.ShloMosaic.Init

@[expose] public section

noncomputable section

namespace Cert.Proof

open Idealize.ShloMosaic Idealize.SL.Sem

/-! ## The first layer's modulation -/

theorem frame_Pro : Cert.quiescent_ReferenceProIdeal (hReferenceProIdeal := Cert.ReferenceProIdeal.Gen.facts) := fun m ρ _ =>
  (θ_run Cert.ReferenceProIdeal.defs _ _).mono (fun r h => ⟨fun c => (h c).2, sem_eq_zero_of_no_sems (by decide) r.2⟩)
    (Cert.ReferenceProIdeal.Value.run (F := Ideal) m ρ)

theorem algebraic_Pro : Cert.algebraic_KernelProIdeal_ReferenceProIdeal (hKernelProIdeal := Cert.KernelProIdeal.Gen.facts)
    (hReferenceProIdeal := Cert.ReferenceProIdeal.Gen.facts) := by
  intro m ρ m' ρ' _ hargs
  refine ⟨_, Cert.KernelProIdeal.Value.run_blocks (F := Ideal) m ρ, ?_⟩
  refine (θ_run (Cert.ReferenceProIdeal.defs (F := Ideal)) _ _).mono (fun r h c => ⟨(h c).1.trans ?_, (h c).2⟩) (Cert.ReferenceProIdeal.Value.run (F := Ideal) m' ρ')
  rw [(hargs c).1, (hargs c).2]
  exact Product.ext2 fun R C => (Cert.ReferenceProIdeal.Stage.rows_apply (Cert.KernelProIdeal.Array.X m c) (Cert.KernelProIdeal.Array.W m c) R C).trans (Cert.KernelProIdeal.Array.result_apply m c R C).symm

/-! ## The means of the shared keys' blocks -/

theorem frame_Mean : Cert.quiescent_ReferenceMeanIdeal (hReferenceMeanIdeal := Cert.ReferenceMeanIdeal.Gen.facts) := fun m ρ _ =>
  (θ_run Cert.ReferenceMeanIdeal.defs _ _).mono (fun r h => ⟨fun c => (h c).2, sem_eq_zero_of_no_sems (by decide) r.2⟩)
    (Cert.ReferenceMeanIdeal.Value.run (F := Ideal) m ρ)

theorem algebraic_Mean : Cert.algebraic_KernelMeanIdeal_ReferenceMeanIdeal (hKernelMeanIdeal := Cert.KernelMeanIdeal.Gen.facts)
    (hReferenceMeanIdeal := Cert.ReferenceMeanIdeal.Gen.facts) := by
  intro m ρ m' ρ' _ hargs
  refine ⟨_, Cert.KernelMeanIdeal.Value.run_blocks (F := Ideal) m ρ, ?_⟩
  refine (θ_run (Cert.ReferenceMeanIdeal.defs (F := Ideal)) _ _).mono (fun r h c => ⟨(h c).1.trans ?_, (h c).2⟩) (Cert.ReferenceMeanIdeal.Value.run (F := Ideal) m' ρ')
  rw [hargs c]
  exact Mean.ext3 fun t q => (Cert.ReferenceMeanIdeal.Stage.means_apply (Cert.KernelMeanIdeal.Array.X m c) t q).trans (Cert.KernelMeanIdeal.Array.result_apply m c t q).symm

end Cert.Proof
-- ==== Proof.Words.lean ====
/- A word that holds two bf16 values: the value of its high half is the value of the word with the low half masked off, and
   the value of its low half that of the word shifted up. -/
module

public import Idealize.ShloMosaic.Lib.Pipeline.ValueKit
public import Idealize.ShloMosaic.PureOps.IdealRules

@[expose] public section

noncomputable section

open Idealize.ShloMosaic

namespace Words

/-- The bf16 values of a word's high half and of its low half. -/
def hi (w : BitVec 32) : EReal := Ideal.ofBits .bf16 (w.extractLsb' 16 16)
def lo (w : BitVec 32) : EReal := Ideal.ofBits .bf16 (w.extractLsb' 0 16)

/-- The bits of a bf16 pattern over sixteen zeros. -/
theorem bit (h : BitVec 16) (i : ℕ) : (h ++ 0#16 : BitVec 32).getLsbD i = if i < 16 then false else h.getLsbD (i - 16) :=
  BitVec.getLsbD_append.trans (by simp)

/-- A bf16 pattern over sixteen zeros denotes, as an f32 pattern, the same number. -/
theorem widen (h : BitVec 16) : Ideal.ofBits .f32 (h ++ 0#16) = Ideal.ofBits .bf16 h := by
  have h1 : (h ++ 0#16 : BitVec 32).extractLsb' (8 + 23) 1 = h.extractLsb' (8 + 7) 1 := by
    ext i hi
    obtain rfl : i = 0 := by omega
    rw [BitVec.getElem_extractLsb', BitVec.getElem_extractLsb', bit]
    simp
  have h2 : (h ++ 0#16 : BitVec 32).extractLsb' 23 8 = h.extractLsb' 7 8 := by
    ext i hi
    rw [BitVec.getElem_extractLsb', BitVec.getElem_extractLsb', bit, if_neg (by omega), show 23 + i - 16 = 7 + i by omega]
  have h3 : ((h ++ 0#16 : BitVec 32).extractLsb' 0 23).toNat = (h.extractLsb' 0 7).toNat * 2 ^ 16 := by
    have e : (h ++ 0#16 : BitVec 32).toNat = h.toNat * 2 ^ 16 := by
      rw [BitVec.toNat_append, BitVec.toNat_ofNat, Nat.shiftLeft_eq]
      simp
    rw [BitVec.extractLsb'_toNat, BitVec.extractLsb'_toNat, e]
    simp only [Nat.shiftRight_zero]
    omega
  show Ideal.ieee 8 23 (h ++ 0#16 : BitVec 32) = Ideal.ieee 8 7 h
  unfold Ideal.ieee
  simp only [h1, h2, h3]
  have e1 : (h.extractLsb' 0 7).toNat * 2 ^ 16 = 0 ↔ (h.extractLsb' 0 7).toNat = 0 := by simp
  have p : ∀ a b : ℤ, b = a + 16 → (2 : ℝ) ^ b = 2 ^ (16 : ℕ) * 2 ^ a := by
    rintro a b rfl
    rw [zpow_add₀ (by norm_num), mul_comm]
    norm_cast
  refine if_congr Iff.rfl (if_congr e1 rfl rfl) (if_congr Iff.rfl (congrArg _ ?_) (congrArg _ ?_))
  · rw [p (1 - (2 ^ (8 - 1) - 1) - (23 : ℕ)) (1 - (2 ^ (8 - 1) - 1) - (7 : ℕ)) (by norm_num)]
    push_cast
    ring
  · rw [p (((h.extractLsb' 7 8).toNat : ℤ) - (2 ^ (8 - 1) - 1) - (23 : ℕ)) (((h.extractLsb' 7 8).toNat : ℤ) - (2 ^ (8 - 1) - 1) - (7 : ℕ)) (by push_cast; ring)]
    push_cast
    ring

theorem mask (w : BitVec 32) : Ideal.ofBits .f32 (IntOp.andi w 4294901760#32) = hi w :=
  (congrArg (Ideal.ofBits .f32) (IdealRules.bf16_pack.hi16_append w).symm).trans (widen _)

theorem shift (w : BitVec 32) : Ideal.ofBits .f32 (IntOp.shli .vector w 16#32) = lo w := by
  refine (congrArg (Ideal.ofBits .f32) ?_).trans (widen (w.extractLsb' 0 16))
  have s : IntOp.shli .vector w 16#32 = w <<< (16#32 : BitVec 32) := by simp [IntOp.shli]
  rw [s]
  refine BitVec.eq_of_getLsbD_eq fun i hi => ?_
  rw [bit]
  by_cases h : i < 16
  · simp [h]
  · simp [h, hi, show i - 16 < 16 by omega, BitVec.getLsbD_eq_getElem (show i - 16 < 32 by omega)]

/-- A row of words as a row of values: the high halves, then the low halves. -/
def half {N : ℕ} (y : Vec Ideal ⟨2, ![N, 2048]⟩ .i32) (p : Fin N) (q : Fin 4096) : EReal :=
  if h : q.val < 2048 then hi (y (ix2 p ⟨q.val, h⟩)) else lo (y (ix2 p ⟨q.val - 2048, by omega⟩))

theorem half_congr {N M : ℕ} {y : Vec Ideal ⟨2, ![N, 2048]⟩ .i32} {z : Vec Ideal ⟨2, ![M, 2048]⟩ .i32} {p : Fin N} {n : Fin M}
    (h : ∀ q, y (ix2 p q) = z (ix2 n q)) : half y p = half z n := by
  funext q
  unfold half
  simp only [h]

end Words
-- ==== Proof.Last.lean ====
/- The last layer's sum of its rows and the experts' rows, and the norm of the sums, as the kernel and as the reference
   compute them. A word of the experts' rows holds two bf16 values; either program reads the two, the kernel by masking
   and shifting the word. -/
module

public import proofs.«01_k».proof.Proof.Product
public import proofs.«01_k».proof.Proof.Words
public import proofs.«01_k».proof.Proof.Gen.KernelLastIdeal.Value
public import proofs.«01_k».proof.Proof.Gen.ReferenceLastIdeal.Run
public import Idealize.ShloMosaic.Lib.BitcastConvert

@[expose] public section

noncomputable section

open Idealize.ShloMosaic

namespace Last

/-- A row of the sums: `α` times the layer's row `x`, plus one more than `g` times the weighted sum of the experts' rows `a`, `b`. -/
def sums (x g a b : Fin 4096 → EReal) (r s : EReal) (q : Fin 4096) : EReal :=
  Ideal.ofBits .f32 0x3FD744FD#32 * x q + (1 + g q) * (a q * r + b q * s)

/-- The mean of a row, and the norm of a row with gain `g` and bias `b`. -/
def mean (v : Fin 4096 → EReal) : EReal := Ideal.div (∑ k, v k) (Ideal.ofBits .f32 0x45800000#32)
def lnorm (v g b : Fin 4096 → EReal) (q : Fin 4096) : EReal :=
  (v q - mean v) * Ideal.rsqrt (mean (fun k => (v k - mean v) * (v k - mean v)) + Ideal.ofBits .f32 0x3727C5AC#32) * g q + b q

end Last

namespace Cert.KernelLastIdeal.Array

open Cert.KernelLastIdeal Cert.KernelLastIdeal.Gen Idealize.ShloMosaic.TcCoe Last Words

theorem pay1_apply (v : FVec Ideal S256x4096 .f32) (g b : Vec Ideal S1x4096 .f32) (p : Fin 256) (q : Fin 4096) :
    k0_pay1 v g b (ix2 p q) = lnorm (fun k => v (ix2 p k)) (fun k => g (ix2 0 k)) (fun k => b (ix2 0 k)) q := by
  pointwise [k0_pay1, lnorm, mean]

theorem pay2_apply (w0 w1 : Vec Ideal S256x1 .f32) (y0 y1 : Vec Ideal S256x2048 .i32) (g : Vec Ideal S1x4096 .f32) (x : Vec Ideal S256x4096 .f32)
    (p : Fin 256) (q : Fin 4096) :
    k0_pay2 w0 w1 y0 y1 g x (ix2 p q) = sums (fun k => x (ix2 p k)) (fun k => g (ix2 0 k)) (half y0 p) (half y1 p) (w0 (ix2 p 0)) (w1 (ix2 p 0)) q := by
  pointwise [k0_pay2]
  unfold sums half
  split <;> simp only [mask, shift]

/-- An entry of what a point leaves. -/
theorem block_apply (x : Vec Ideal S256x4096 .f32) (y0 y1 : Vec Ideal S256x2048 .i32) (r : Vec Ideal S256x128 .f32) (v : Vec Ideal S8x4096 .f32)
    (p : Fin 256) (q : Fin 4096) :
    out0_5 x y0 y1 r v (ix2 p q) = lnorm (sums (fun k => x (ix2 p k)) (fun k => v (ix2 0 k)) (half y0 p) (half y1 p) (r (ix2 p 2)) (r (ix2 p 3)))
      (fun k => v (ix2 1 k)) (fun k => v (ix2 2 k)) q := by
  refine (congrFun (View.canon_unit_zero Product.zero2 _ _) (ix2 p q)).trans ((pay1_apply _ _ _ p q).trans ?_)
  have hs : (fun k => k0_pay2 (View.ld r r0_0) (View.ld r r0_1) (View.ld y0 r0_2) (View.ld y1 r0_2) (View.ld v r0_3) (View.ld x r0_4) (ix2 p k))
      = sums (fun k => x (ix2 p k)) (fun k => v (ix2 0 k)) (half y0 p) (half y1 p) (r (ix2 p 2)) (r (ix2 p 3)) := by
    funext k
    refine (pay2_apply _ _ _ _ _ _ p k).trans ?_
    rw [show View.ld y0 r0_2 = y0 from View.ld_unit_zero Product.zero2 _ _, show View.ld y1 r0_2 = y1 from View.ld_unit_zero Product.zero2 _ _]
    pointwise []
  rw [hs]
  pointwise []

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val + 32 ∧ win0_2.index t 1 = 0 :=
  (by decide +kernel : ∀ t : Fin grid0.N, win0_2.index t 0 = t.val + 32 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem flush5 : ∀ t : Fin cfg0.N, (cfg0.win 5).flush t = true := (by decide +kernel : ∀ t : Fin grid0.N, (cfg0.win 5).flush t = true)

variable (m : (ℓ : Loc nD τ sig) → Buf (Elt Ideal) ℓ) (c : Dev nD)

/-- The layer's rows, the experts' rows as words, the weights of the experts, and the vectors. -/
def X : Vec Ideal S8192x4096 .f32 := m ((c : Thread nD τ).loc main_arg0)
def Y : Vec Ideal S16640x2048 .i32 := m ((c : Thread nD τ).loc main_arg1)
def R : Vec Ideal S8192x128 .f32 := m ((c : Thread nD τ).loc main_arg2)
def W : Vec Ideal S8x4096 .f32 := m ((c : Thread nD τ).loc main_arg3)

/-- The row that a point has at `p`, and the experts' row for it. -/
abbrev rowAt (t : Fin cfg0.N) (p : Fin 256) : Fin 8192 := ⟨256 * t.val + p.val, by have : t.val < 32 := t.isLt; omega⟩
abbrev firstAt (r : Fin 8192) : Fin 16640 := ⟨r.val, by omega⟩
abbrev secondAt (r : Fin 8192) : Fin 16640 := ⟨8192 + r.val, by omega⟩

theorem x_apply (t : Fin cfg0.N) (p : Fin 256) (q : Fin 4096) : iblk m c 0 t (ix2 p q) = X m c (ix2 (rowAt t p) q) := by
  blk_ext [X, iblk, V, (idx0 t).1, (idx0 t).2]

theorem y0_apply (t : Fin cfg0.N) (p : Fin 256) (q : Fin 2048) : iblk m c 1 t (ix2 p q) = Y m c (ix2 (firstAt (rowAt t p)) q) := by
  blk_ext [Y, iblk, V, (idx1 t).1, (idx1 t).2]

theorem y1_apply (t : Fin cfg0.N) (p : Fin 256) (q : Fin 2048) : iblk m c 2 t (ix2 p q) = Y m c (ix2 (secondAt (rowAt t p)) q) := by
  blk_ext [Y, iblk, V, (idx2 t).1, (idx2 t).2]

theorem r_apply (t : Fin cfg0.N) (p : Fin 256) (q : Fin 128) : iblk m c 3 t (ix2 p q) = R m c (ix2 (rowAt t p) q) := by
  blk_ext [R, iblk, V, (idx3 t).1, (idx3 t).2]

theorem w_apply (t : Fin cfg0.N) (a : Fin 8) (q : Fin 4096) : iblk m c 4 t (ix2 a q) = W m c (ix2 a q) := by
  blk_ext [W, iblk, V, (idx4 t).1, (idx4 t).2]

/-- A row of the result, from the rows it is made of. -/
def row (x : Vec Ideal S8192x4096 .f32) (y : Vec Ideal S16640x2048 .i32) (r : Vec Ideal S8192x128 .f32) (v : Vec Ideal S8x4096 .f32)
    (n : Fin 8192) : Fin 4096 → EReal :=
  lnorm (sums (fun k => x (ix2 n k)) (fun k => v (ix2 0 k)) (half y (firstAt n)) (half y (secondAt n)) (r (ix2 n 2)) (r (ix2 n 3)))
    (fun k => v (ix2 1 k)) (fun k => v (ix2 2 k))

theorem point_apply (t : Fin cfg0.N) (p : Fin 256) (q : Fin 4096) :
    (dats m 0 c).arrAt 5 cfg0.N (ix2 (rowAt t p) q : S8192x4096.Idx) = row (X m c) (Y m c) (R m c) (W m c) (rowAt t p) q := by
  have hb := congrFun ((Value.blocks5 m c t (flush5 t)).trans (Value.flushed5 m c t)) (ix2 p q)
  refine Eq.trans ?_ (hb.trans ?_)
  · blk_ext [(idx5 t).1, (idx5 t).2]
  · refine (block_apply _ _ _ _ _ p q).trans ?_
    have e0 : half (iblk m c 1 t) p = half (Y m c) (firstAt (rowAt t p)) := half_congr fun q => y0_apply m c t p q
    have e1 : half (iblk m c 2 t) p = half (Y m c) (secondAt (rowAt t p)) := half_congr fun q => y1_apply m c t p q
    unfold row
    rw [e0, e1, r_apply, r_apply]
    simp only [x_apply, w_apply]

/-- A row of the result. -/
theorem result_apply (n : Fin 8192) (q : Fin 4096) :
    (dats m 0 c).arrAt 5 cfg0.N (ix2 n q : S8192x4096.Idx) = row (X m c) (Y m c) (R m c) (W m c) n q := by
  have hn : n = rowAt ⟨n.val / 256, by show n.val / 256 < 32; omega⟩ ⟨n.val % 256, by omega⟩ :=
    Fin.ext (by show n.val = 256 * (n.val / 256) + n.val % 256; omega)
  rw [hn]
  exact point_apply m c _ _ q

end Cert.KernelLastIdeal.Array

namespace Cert.ReferenceLastIdeal.Stage

open Cert.ReferenceLastIdeal Cert.ReferenceLastIdeal.Gen Last Words

/-- The two bf16 values of each word. -/
def halves (y : Vec Ideal S16640x2048 .i32) : FVec Ideal S16384x2048x2 .f32 :=
  extf .f32 (bitcastToFloat (F := Ideal) .bf16 (Host.bitcastConvertNarrow S16384x2048x2 16 (extractStridedSlice S16384x2048 ![0, 0] y
    slices_S16640x2048_S16384x2048_0_0) splits_S16384x2048_w32_S16384x2048x2_w16)) bitsLt_bf16_f32

theorem halves_apply (y : Vec Ideal S16640x2048 .i32) (p : Fin 16384) (q : Fin 2048) (k : Fin 2) :
    halves y (ix3 p q k) = Ideal.ofBits .bf16 ((y (ix2 ⟨p.val, by omega⟩ q)).extractLsb' (k.val * 16) 16) := by
  pointwise [halves]

/-- The rows that the experts return: a row's high halves, then its low halves. -/
def outs (h : FVec Ideal S16384x2048x2 .f32) : FVec Ideal S2x8192x4096 .f32 :=
  shapeCast _ (concatenate S16384x4096 1
    [⟨S16384x2048, shapeCast _ (extractStridedSlice S16384x2048x1 ![0, 0, 1] h slices_S16384x2048x2_S16384x2048x1_0_0_1) shapeCasts_S16384x2048x1_S16384x2048⟩,
     ⟨S16384x2048, shapeCast _ (extractStridedSlice S16384x2048x1 ![0, 0, 0] h slices_S16384x2048x2_S16384x2048x1_0_0_0) shapeCasts_S16384x2048x1_S16384x2048⟩]
    concatenates_S16384x2048_S16384x2048_S16384x4096_d1) shapeCasts_S16384x4096_S2x8192x4096

theorem outs_apply (y : Vec Ideal S16640x2048 .i32) (e : Fin 2) (R : Fin 8192) (C : Fin 4096) :
    outs (halves y) (ix3 e R C) = half y ⟨e.val * 8192 + R.val, by omega⟩ C := by
  generalize hh : halves y = h
  pointwise [outs]
  subst hh
  unfold half hi lo
  split <;> exact halves_apply y _ _ _

/-- The sums. -/
def added (x : FVec Ideal S8192x4096 .f32) (o : FVec Ideal S2x8192x4096 .f32) (r : FVec Ideal S8192x128 .f32) (v : FVec Ideal S8x4096 .f32) :
    FVec Ideal S8192x4096 .f32 :=
  addf (mulf (broadcastInDim S8192x4096 ![] bcast_S_S8192x4096 (constant S_ .f32 0x3FD744FD#32)) x)
    (mulf (broadcastInDim S8192x4096 ![0, 1] bcast_S1x4096_S8192x4096_0_1 (broadcastInDim S1x4096 ![1] bcast_S4096_S1x4096_1
      (addf (broadcastInDim S4096 ![] bcast_S_S4096 (constant S_ .f32 0x3F800000#32))
        (shapeCast _ (extractStridedSlice S1x4096 ![0, 0] v slices_S8x4096_S1x4096_0_0) shapeCasts_S1x4096_S4096))))
    (addf
      (mulf (shapeCast _ (extractStridedSlice S1x8192x4096 ![0, 0, 0] o slices_S2x8192x4096_S1x8192x4096_0_0_0) shapeCasts_S1x8192x4096_S8192x4096)
        (broadcastInDim S8192x4096 ![0, 1] bcast_S8192x1_S8192x4096_0_1 (extractStridedSlice S8192x1 ![0, 2] r slices_S8192x128_S8192x1_0_2)))
      (mulf (shapeCast _ (extractStridedSlice S1x8192x4096 ![1, 0, 0] o slices_S2x8192x4096_S1x8192x4096_1_0_0) shapeCasts_S1x8192x4096_S8192x4096)
        (broadcastInDim S8192x4096 ![0, 1] bcast_S8192x1_S8192x4096_0_1 (extractStridedSlice S8192x1 ![0, 3] r slices_S8192x128_S8192x1_0_3)))))

theorem sum_apply (x : FVec Ideal S8192x4096 .f32) (o : FVec Ideal S2x8192x4096 .f32) (r : FVec Ideal S8192x128 .f32) (v : FVec Ideal S8x4096 .f32)
    (R : Fin 8192) (C : Fin 4096) :
    added x o r v (ix2 R C) = Ideal.ofBits .f32 0x3FD744FD#32 * x (ix2 R C)
      + (1 + v (ix2 0 C)) * (o (ix3 0 R C) * r (ix2 R 2) + o (ix3 1 R C) * r (ix2 R 3)) := by
  pointwise [added]

theorem added_apply (x : FVec Ideal S8192x4096 .f32) (y : Vec Ideal S16640x2048 .i32) (r : FVec Ideal S8192x128 .f32) (v : FVec Ideal S8x4096 .f32)
    (R : Fin 8192) (C : Fin 4096) :
    added x (outs (halves y)) r v (ix2 R C) = sums (fun k => x (ix2 R k)) (fun k => v (ix2 0 k)) (half y ⟨R.val, by omega⟩)
      (half y ⟨8192 + R.val, by omega⟩) (r (ix2 R 2)) (r (ix2 R 3)) C := by
  have h0 := outs_apply y 0 R C
  have h1 := outs_apply y 1 R C
  refine (sum_apply x _ r v R C).trans ?_
  rw [h0, h1]
  unfold sums
  simp only [Fin.val_zero, Fin.val_one, Nat.zero_mul, Nat.one_mul, Nat.zero_add]

/-- A row's value in each column, and the means of rows. -/
def column (z : FVec Ideal S8192x1 .f32) : FVec Ideal S8192x4096 .f32 := broadcastInDim S8192x4096 ![0, 1] bcast_S8192x1_S8192x4096_0_1 z
def means (v : FVec Ideal S8192x4096 .f32) : FVec Ideal S8192x1 .f32 :=
  Host.divf (broadcastInDim S8192x1 ![0] bcast_S8192_S8192x1_0 (Host.reduceAdd v (constant S_ .f32 0x00000000#32) reducesTo_S8192x4096_S8192_d1 h_S_))
    (broadcastInDim S8192x1 ![] bcast_S_S8192x1 (constant S_ .f32 0x45800000#32))
def centred (v : FVec Ideal S8192x4096 .f32) : FVec Ideal S8192x4096 .f32 := subf v (column (means v))

/-- The norm of every row. -/
def normed (w : FVec Ideal S8192x4096 .f32) (v : FVec Ideal S8x4096 .f32) : FVec Ideal S8192x4096 .f32 :=
  addf (mulf (mulf (centred w) (column (Host.rsqrt (addf (means (mulf (centred w) (centred w)))
      (broadcastInDim S8192x1 ![] bcast_S_S8192x1 (constant S_ .f32 0x3727C5AC#32))))))
    (broadcastInDim S8192x4096 ![0, 1] bcast_S1x4096_S8192x4096_0_1 (broadcastInDim S1x4096 ![1] bcast_S4096_S1x4096_1
      (shapeCast _ (extractStridedSlice S1x4096 ![1, 0] v slices_S8x4096_S1x4096_1_0) shapeCasts_S1x4096_S4096))))
    (broadcastInDim S8192x4096 ![0, 1] bcast_S1x4096_S8192x4096_0_1 (broadcastInDim S1x4096 ![1] bcast_S4096_S1x4096_1
      (shapeCast _ (extractStridedSlice S1x4096 ![2, 0] v slices_S8x4096_S1x4096_2_0) shapeCasts_S1x4096_S4096)))

theorem means_apply (v : FVec Ideal S8192x4096 .f32) (R : Fin 8192) (a : Fin 1) : means v (ix2 R a) = mean (fun k => v (ix2 R k)) := by
  pointwise [means, mean]

theorem normed_apply (w : FVec Ideal S8192x4096 .f32) (v : FVec Ideal S8x4096 .f32) (R : Fin 8192) (C : Fin 4096) :
    normed w v (ix2 R C) = lnorm (fun k => w (ix2 R k)) (fun k => v (ix2 1 k)) (fun k => v (ix2 2 k)) C := by
  pointwise [normed, means, centred, column, lnorm, mean]

/-- An entry of the whole. -/
theorem result_apply (x : FVec Ideal S8192x4096 .f32) (y : Vec Ideal S16640x2048 .i32) (r : FVec Ideal S8192x128 .f32) (v : FVec Ideal S8x4096 .f32)
    (R : Fin 8192) (C : Fin 4096) :
    normed (added x (outs (halves y)) r v) v (ix2 R C) = Cert.KernelLastIdeal.Array.row x y r v R C := by
  refine (normed_apply _ v R C).trans ?_
  unfold Cert.KernelLastIdeal.Array.row
  simp only [added_apply]

end Cert.ReferenceLastIdeal.Stage
-- ==== Proof.Mod.lean ====
/- The modulation vectors of the four layers, as the kernel and as the reference compute them: the conditioning vector
   through `silu` and two products, and a bias. -/
module

public import proofs.«01_k».proof.Proof.Product
public import proofs.«01_k».proof.Proof.Gen.KernelModIdeal.Value
public import proofs.«01_k».proof.Proof.Gen.ReferenceModIdeal.Run

@[expose] public section

set_option maxRecDepth 16384

noncomputable section

open Idealize.ShloMosaic

namespace Mod

/-- `x · σ(x)`. -/
def silu (x : EReal) : EReal := x * Ideal.div 1 (1 + Ideal.exp (-x))

/-- An entry of a layer's vectors. -/
def entry (c : Fin 4096 → EReal) (d : Fin 4096 → Fin 256 → EReal) (u : Fin 256 → EReal) (b : EReal) : EReal :=
  ∑ r, (∑ k, silu (c k) * d k r) * u r + b

/-- Two stacks of matrices with the same entries. -/
theorem ext3 {A B C : ℕ} {α : Type} {v w : (⟨3, ![A, B, C]⟩ : Shape).Idx → α} (h : ∀ l p q, v (ix3 l p q) = w (ix3 l p q)) : v = w := by
  funext y
  have hy : y = ix3 (y 0) (y 1) (y 2) := by
    funext a
    fin_cases a <;> rfl
  rw [hy]
  exact h _ _ _

end Mod

namespace Cert.KernelModIdeal.Array

open Cert.KernelModIdeal Cert.KernelModIdeal.Gen Idealize.ShloMosaic.TcCoe

theorem pay1_apply (c : Vec Ideal S8x4096 .f32) (d : Vec Ideal S1x4096x256 .f32) (p : Fin 8) (r : Fin 256) :
    k0_pay1 c d (ix2 p r) = ∑ k : Fin 4096, Mod.silu (c (ix2 p k)) * d (ix3 0 k r) := by
  pointwise [k0_pay1]
  simp only [Mod.silu, zero_sub]

theorem pay2_apply (s : Vec Ideal S8x256 .f32) (u : Vec Ideal S1x256x6144 .f32) (b : Vec Ideal S1x1x6144 .f32) (p : Fin 8) (q : Fin 6144) :
    k0_pay2 s u b (ix3 0 p q) = ∑ r : Fin 256, s (ix2 p r) * u (ix3 0 r q) + b (ix3 0 0 q) := by
  pointwise [k0_pay2]

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
theorem idx3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

section cases
variable (c : Dev nD) (i : grid0.Coords) (a2 : Memref sig .tc .vmem S8x4096 .f32) (h2 : a2.IsWhole)
  (a3 : Memref sig .tc .vmem S1x4096x256 .f32) (h3 : a3.IsWhole) (a4 : Memref sig .tc .vmem S1x256x6144 .f32) (h4 : a4.IsWhole)
  (a5 : Memref sig .tc .vmem S1x1x6144 .f32) (h5 : a5.IsWhole) (a6 : Memref sig .tc .vmem S1x8x6144 .f32) (h6 : a6.IsWhole)
  (a7 : Memref sig .tc .vmem S8x256 .f32) (h7 : a7.IsWhole)
  (x : Vec Ideal S8x4096 .f32) (d : Vec Ideal S1x4096x256 .f32) (u : Vec Ideal S1x256x6144 .f32) (b : Vec Ideal S1x1x6144 .f32) (s : Vec Ideal S8x256 .f32)

theorem sout_A (hc : cond0_0 i) : sout0_A_0 c i a2 h2 a3 h3 a4 h4 a5 h5 a6 h6 a7 h7 hc x d u b = k0_pay1 x d := by
  unfold sout0_A_0 kernelRun0_A
  dsimp only
  sl_unfold_words
  exact (Product.stored _ _ Product.zero2 _ _).trans (congrArg₂ k0_pay1 (Product.loaded h2 Product.zero2 _ x) (Product.loaded h3 Product.zero3 _ d))

theorem out_A (hc : cond0_0 i) : out0_A_4 c i a2 h2 a3 h3 a4 h4 a5 h5 a6 h6 a7 h7 hc x d u b = k0_pay2 (k0_pay1 x d) u b := by
  unfold out0_A_4 kernelRun0_A
  dsimp only
  sl_unfold_words
  refine (Product.stored _ _ Product.zero3 _ _).trans ?_
  exact congr (congrArg₂ k0_pay2 ((View.readCov_unit_zero _ Product.zero2 _ _).trans (congrArg₂ k0_pay1 (Product.loaded h2 Product.zero2 _ x)
    (Product.loaded h3 Product.zero3 _ d))) (Product.loaded h4 Product.zero3 _ u)) (Product.loaded h5 Product.zero3 _ b)

theorem out_B (hc : ¬cond0_0 i) : out0_B_4 c i a2 h2 a3 h3 a4 h4 a5 h5 a6 h6 a7 h7 hc x d u b s = k0_pay2 s u b := by
  unfold out0_B_4 kernelRun0_B
  refine (Product.stored _ _ Product.zero3 _ _).trans ?_
  exact congr (congrArg₂ k0_pay2 (Product.loaded h7 Product.zero2 _ s) (Product.loaded h4 Product.zero3 _ u)) (Product.loaded h5 Product.zero3 _ b)

end cases

variable (m : (ℓ : Loc nD τ sig) → Buf (Elt Ideal) ℓ) (c : Dev nD)

/-- The conditioning vector, the weights down and up of the four layers, and their biases. -/
def X : Vec Ideal S1x4096 .f32 := m ((c : Thread nD τ).loc main_arg0)
def D : Vec Ideal S4x4096x256 .f32 := m ((c : Thread nD τ).loc main_arg1)
def U : Vec Ideal S4x256x24576 .f32 := m ((c : Thread nD τ).loc main_arg2)
def B : Vec Ideal S4x24576 .f32 := m ((c : Thread nD τ).loc main_arg3)

theorem V_v0 : V m c main_v0 = broadcastInDim S8x4096 ![0, 1] bcast_S1x4096_S8x4096_0_1 (X m c) := by
  show StableHlo.after hostOps0 _ _ = _
  after_results
  rfl

theorem V_v1 : V m c main_v1 = shapeCast S4x1x24576 (B m c) shapeCasts_S4x24576_S4x1x24576 := by
  show StableHlo.after hostOps0 _ _ = _
  after_results
  rfl

theorem V_arg1 : V m c main_arg1 = D m c := by
  show StableHlo.after hostOps0 _ _ = _
  after_results
  rfl

theorem V_arg2 : V m c main_arg2 = U m c := by
  show StableHlo.after hostOps0 _ _ = _
  after_results
  rfl

theorem rows_apply (x : Vec Ideal S1x4096 .f32) (p : Fin 8) (k : Fin 4096) :
    broadcastInDim S8x4096 ![0, 1] bcast_S1x4096_S8x4096_0_1 x (ix2 p k) = x (ix2 0 k) := by
  pointwise []

theorem bias_apply (b : Vec Ideal S4x24576 .f32) (l : Fin 4) (q : Fin 24576) :
    shapeCast S4x1x24576 b shapeCasts_S4x24576_S4x1x24576 (ix3 l 0 q) = b (ix2 l q) := by
  pointwise []

/-- The layer and the column of a point's entry. -/
abbrev layerAt (t : Fin cfg0.N) : Fin 4 := ⟨t.val / 4, by have : t.val < 16 := t.isLt; omega⟩
abbrev colAt (t : Fin cfg0.N) (q : Fin 6144) : Fin 24576 := ⟨6144 * (t.val % 4) + q.val, by omega⟩

theorem x_apply (t : Fin cfg0.N) (p : Fin 8) (k : Fin 4096) : iblk m c 0 t (ix2 p k) = X m c (ix2 0 k) := by
  have e : iblk m c 0 t = ((cfg0.win 0).blk t).view.read (Elt Ideal) (V m c main_v0) := rfl
  rw [e, V_v0, ← rows_apply (X m c) p k]
  generalize broadcastInDim S8x4096 ![0, 1] bcast_S1x4096_S8x4096_0_1 (X m c) = z
  blk_ext [(idx0 t).1, (idx0 t).2]

theorem d_apply (t : Fin cfg0.N) (k : Fin 4096) (r : Fin 256) : iblk m c 1 t (ix3 0 k r) = D m c (ix3 (layerAt t) k r) := by
  have e : iblk m c 1 t = ((cfg0.win 1).blk t).view.read (Elt Ideal) (V m c main_arg1) := rfl
  rw [e, V_arg1]
  generalize D m c = z
  blk_ext [(idx1 t).1, (idx1 t).2.1, (idx1 t).2.2]

theorem u_apply (t : Fin cfg0.N) (r : Fin 256) (q : Fin 6144) : iblk m c 2 t (ix3 0 r q) = U m c (ix3 (layerAt t) r (colAt t q)) := by
  have e : iblk m c 2 t = ((cfg0.win 2).blk t).view.read (Elt Ideal) (V m c main_arg2) := rfl
  rw [e, V_arg2]
  generalize U m c = z
  blk_ext [(idx2 t).1, (idx2 t).2.1, (idx2 t).2.2]

theorem b_apply (t : Fin cfg0.N) (q : Fin 6144) : iblk m c 3 t (ix3 0 0 q) = B m c (ix2 (layerAt t) (colAt t q)) := by
  have e : iblk m c 3 t = ((cfg0.win 3).blk t).view.read (Elt Ideal) (V m c main_v1) := rfl
  rw [e, V_v1, ← bias_apply (B m c) (layerAt t) (colAt t q)]
  generalize shapeCast S4x1x24576 (B m c) shapeCasts_S4x24576_S4x1x24576 = z
  blk_ext [(idx3 t).1, (idx3 t).2.1, (idx3 t).2.2]

/-- What a point multiplies. -/
abbrev xs (n : ℕ) (h : n < cfg0.N) : Vec Ideal S8x4096 .f32 := iblk m c 0 ⟨n, h⟩
abbrev ds (n : ℕ) (h : n < cfg0.N) : Vec Ideal S1x4096x256 .f32 := iblk m c 1 ⟨n, h⟩
abbrev us (n : ℕ) (h : n < cfg0.N) : Vec Ideal S1x256x6144 .f32 := iblk m c 2 ⟨n, h⟩
abbrev bs (n : ℕ) (h : n < cfg0.N) : Vec Ideal S1x1x6144 .f32 := iblk m c 3 ⟨n, h⟩

/-- The first product is the same over a layer's points. -/
theorem first_apply (n : ℕ) (h : n < cfg0.N) (p : Fin 8) (r : Fin 256) :
    k0_pay1 (xs m c n h) (ds m c n h) (ix2 p r) = ∑ k : Fin 4096, Mod.silu (X m c (ix2 0 k)) * D m c (ix3 (layerAt ⟨n, h⟩) k r) := by
  refine (pay1_apply _ _ p r).trans (Finset.sum_congr rfl fun k _ => ?_)
  rw [xs, ds, x_apply, d_apply]

/-- After a point: its block of the second product, with the bias. -/
theorem outs_eq (n : ℕ) (h : n < cfg0.N) :
    outsAt0 m c n h = (k0_pay2 (k0_pay1 (xs m c n h) (ds m c n h)) (us m c n h) (bs m c n h), k0_pay1 (xs m c n h) (ds m c n h)) := by
  refine Product.kept (p := 4) (outsAt0 m c) (fun n h s => k0_pay2 s (us m c n h) (bs m c n h)) (fun n h => k0_pay1 (xs m c n h) (ds m c n h))
    (fun n h hn => ?_) (fun n h hn => ?_) (fun n h hn => Product.ext2 fun p r => ?_) n h
  · rw [outsAt0_A m c ⟨n, h⟩ hn, out_A, sout_A]
  · rw [outsAt0_B m c ⟨n, h⟩ hn, out_B]
    rfl
  · have e : layerAt ⟨n, h⟩ = layerAt ⟨n - 1, by omega⟩ := Fin.ext (by show n / 4 = (n - 1) / 4; omega)
    rw [first_apply, first_apply, e]

/-- An entry of the result. -/
theorem result_apply (l : Fin 4) (p : Fin 8) (q : Fin 24576) :
    Value.G4 m c (ix3 l p q)
      = Mod.entry (fun k => X m c (ix2 0 k)) (fun k r => D m c (ix3 l k r)) (fun r => U m c (ix3 l r q)) (B m c (ix2 l q)) := by
  have hp : 4 * l.val + q.val / 6144 < cfg0.N := lt_of_lt_of_eq (show _ < 16 by omega) N_0.symm
  have hr : Value.pt4Of (ix3 l p q) = 4 * l.val + q.val / 6144 := by
    show 4 * (l.val / 1 - 0) + 4 * (p.val / 8 - 0) + 1 * (q.val / 6144 - 0) = _
    omega
  unfold Value.G4
  rw [dif_pos (hr ▸ hp), Value.fold0_congr m c _ _ _ (by omega) hr, ← Value.outsAt0_sweep m c _ hp]
  have hl : Value.loc4Of (ix3 l p q) = ix3 (0 : Fin 1) p (⟨q.val % 6144, by omega⟩ : Fin 6144) :=
    funext fun a => by
      match a with
      | ⟨0, _⟩ => exact Subsingleton.elim (α := Fin 1) _ _
      | ⟨1, _⟩ => exact Fin.ext (Nat.mod_eq_of_lt p.isLt)
      | ⟨2, _⟩ => rfl
  have e1 : layerAt ⟨4 * l.val + q.val / 6144, hp⟩ = l := Fin.ext (by show (4 * l.val + q.val / 6144) / 4 = l.val; omega)
  have e2 : colAt ⟨4 * l.val + q.val / 6144, hp⟩ ⟨q.val % 6144, by omega⟩ = q :=
    Fin.ext (by show 6144 * ((4 * l.val + q.val / 6144) % 4) + q.val % 6144 = q.val; omega)
  rw [hl, outs_eq]
  refine (pay2_apply _ _ _ p _).trans ?_
  rw [us, bs, b_apply, e1, e2]
  refine congrArg (· + _) (Finset.sum_congr rfl fun r _ => ?_)
  rw [first_apply, u_apply, e1, e2]

end Cert.KernelModIdeal.Array

namespace Cert.ReferenceModIdeal.Stage

open Cert.ReferenceModIdeal Cert.ReferenceModIdeal.Gen

/-- A layer's vectors, from its two weights and its bias. -/
def layer (c : FVec Ideal S1x4096 .f32) (d : FVec Ideal S1x4096x256 .f32) (u : FVec Ideal S1x256x24576 .f32) (b : FVec Ideal S1x24576 .f32) :
    FVec Ideal S1x1x24576 .f32 :=
  broadcastInDim S1x1x24576 ![1, 2] bcast_S1x24576_S1x1x24576_1_2 (addf
    (Host.dotGeneral dot_S1x256_S256x24576_S1x24576_1_0_0_1_n_n none
      (Host.dotGeneral dot_S1x4096_S4096x256_S1x256_1_0_0_1_n_n none
        (mulf c (Host.divf (broadcastInDim S1x4096 ![] bcast_S_S1x4096 (constant S_ .f32 0x3F800000#32))
          (addf (broadcastInDim S1x4096 ![] bcast_S_S1x4096 (constant S_ .f32 0x3F800000#32)) (Host.exp (Host.negf c)))))
        (shapeCast _ d shapeCasts_S1x4096x256_S4096x256))
      (shapeCast _ u shapeCasts_S1x256x24576_S256x24576))
    (broadcastInDim S1x24576 ![1] bcast_S24576_S1x24576_1 (shapeCast _ b shapeCasts_S1x24576_S24576)))

theorem layer_apply (c : FVec Ideal S1x4096 .f32) (d : FVec Ideal S1x4096x256 .f32) (u : FVec Ideal S1x256x24576 .f32) (b : FVec Ideal S1x24576 .f32)
    (q : Fin 24576) :
    layer c d u b (ix3 0 0 q) = Mod.entry (fun k => c (ix2 0 k)) (fun k r => d (ix3 0 k r)) (fun r => u (ix3 0 r q)) (b (ix2 0 q)) := by
  unfold Mod.entry Mod.silu
  pointwise [layer]

/-- The vectors of the four layers, each over eight rows. -/
def stacked (c : FVec Ideal S1x4096 .f32) (d : FVec Ideal S4x4096x256 .f32) (u : FVec Ideal S4x256x24576 .f32) (b : FVec Ideal S4x24576 .f32) :
    FVec Ideal S4x8x24576 .f32 :=
  broadcastInDim S4x8x24576 ![0, 1, 2] bcast_S4x1x24576_S4x8x24576_0_1_2 (concatenate S4x1x24576 0
    [⟨S1x1x24576, layer c (extractStridedSlice S1x4096x256 ![0, 0, 0] d slices_S4x4096x256_S1x4096x256_0_0_0)
        (extractStridedSlice S1x256x24576 ![0, 0, 0] u slices_S4x256x24576_S1x256x24576_0_0_0) (extractStridedSlice S1x24576 ![0, 0] b slices_S4x24576_S1x24576_0_0)⟩,
     ⟨S1x1x24576, layer c (extractStridedSlice S1x4096x256 ![1, 0, 0] d slices_S4x4096x256_S1x4096x256_1_0_0)
        (extractStridedSlice S1x256x24576 ![1, 0, 0] u slices_S4x256x24576_S1x256x24576_1_0_0) (extractStridedSlice S1x24576 ![1, 0] b slices_S4x24576_S1x24576_1_0)⟩,
     ⟨S1x1x24576, layer c (extractStridedSlice S1x4096x256 ![2, 0, 0] d slices_S4x4096x256_S1x4096x256_2_0_0)
        (extractStridedSlice S1x256x24576 ![2, 0, 0] u slices_S4x256x24576_S1x256x24576_2_0_0) (extractStridedSlice S1x24576 ![2, 0] b slices_S4x24576_S1x24576_2_0)⟩,
     ⟨S1x1x24576, layer c (extractStridedSlice S1x4096x256 ![3, 0, 0] d slices_S4x4096x256_S1x4096x256_3_0_0)
        (extractStridedSlice S1x256x24576 ![3, 0, 0] u slices_S4x256x24576_S1x256x24576_3_0_0) (extractStridedSlice S1x24576 ![3, 0] b slices_S4x24576_S1x24576_3_0)⟩]
    concatenates_S1x1x24576_S1x1x24576_S1x1x24576_S1x1x24576_S4x1x24576_d0)

theorem stacked_apply (c : FVec Ideal S1x4096 .f32) (d : FVec Ideal S4x4096x256 .f32) (u : FVec Ideal S4x256x24576 .f32) (b : FVec Ideal S4x24576 .f32)
    (l : Fin 4) (p : Fin 8) (q : Fin 24576) :
    stacked c d u b (ix3 l p q) = Mod.entry (fun k => c (ix2 0 k)) (fun k r => d (ix3 l k r)) (fun r => u (ix3 l r q)) (b (ix2 l q)) := by
  fin_cases l
  all_goals
    pointwise [stacked]
    refine (layer_apply _ _ _ _ q).trans ?_
    pointwise []

end Cert.ReferenceModIdeal.Stage
-- ==== Proof.Outcome.lean ====
/- The last layer's norm and the modulation vectors: each kernel's result is its reference's, and each reference ends quietly. -/
module

public import proofs.«01_k».proof.Defs
public import proofs.«01_k».proof.Proof.Last
public import proofs.«01_k».proof.Proof.Mod
public import proofs.«01_k».proof.Proof.Gen.ReferenceLastIdeal
public import proofs.«01_k».proof.Proof.Gen.ReferenceModIdeal
public import Idealize.ShloMosaic.Adequacy
public import Idealize.ShloMosaic.Init

@[expose] public section

noncomputable section

namespace Cert.Proof

open Idealize.ShloMosaic Idealize.SL.Sem

/-! ## The last layer's norm -/

theorem frame_Last : Cert.quiescent_ReferenceLastIdeal (hReferenceLastIdeal := Cert.ReferenceLastIdeal.Gen.facts) := fun m ρ _ =>
  (θ_run Cert.ReferenceLastIdeal.defs _ _).mono (fun r h => ⟨fun c => (h c).2, sem_eq_zero_of_no_sems (by decide) r.2⟩)
    (Cert.ReferenceLastIdeal.Value.run (F := Ideal) m ρ)

theorem algebraic_Last : Cert.algebraic_KernelLastIdeal_ReferenceLastIdeal (hKernelLastIdeal := Cert.KernelLastIdeal.Gen.facts)
    (hReferenceLastIdeal := Cert.ReferenceLastIdeal.Gen.facts) := by
  intro m ρ m' ρ' _ hargs
  refine ⟨_, Cert.KernelLastIdeal.Value.run_blocks (F := Ideal) m ρ, ?_⟩
  refine (θ_run (Cert.ReferenceLastIdeal.defs (F := Ideal)) _ _).mono (fun r h c => ⟨(h c).1.trans ?_, (h c).2⟩) (Cert.ReferenceLastIdeal.Value.run (F := Ideal) m' ρ')
  unfold Cert.ReferenceLastIdeal.Value.res_main_v57
  rw [(hargs c).1, (hargs c).2.1, (hargs c).2.2.1, (hargs c).2.2.2]
  exact Product.ext2 fun R C => (Cert.ReferenceLastIdeal.Stage.result_apply (Cert.KernelLastIdeal.Array.X m c) (Cert.KernelLastIdeal.Array.Y m c)
    (Cert.KernelLastIdeal.Array.R m c) (Cert.KernelLastIdeal.Array.W m c) R C).trans (Cert.KernelLastIdeal.Array.result_apply m c R C).symm

/-! ## The modulation vectors -/

theorem frame_Mod : Cert.quiescent_ReferenceModIdeal (hReferenceModIdeal := Cert.ReferenceModIdeal.Gen.facts) := fun m ρ _ =>
  (θ_run Cert.ReferenceModIdeal.defs _ _).mono (fun r h => ⟨fun c => (h c).2, sem_eq_zero_of_no_sems (by decide) r.2⟩)
    (Cert.ReferenceModIdeal.Value.run (F := Ideal) m ρ)

theorem algebraic_Mod : Cert.algebraic_KernelModIdeal_ReferenceModIdeal (hKernelModIdeal := Cert.KernelModIdeal.Gen.facts)
    (hReferenceModIdeal := Cert.ReferenceModIdeal.Gen.facts) := by
  intro m ρ m' ρ' _ hargs
  refine ⟨_, Cert.KernelModIdeal.Value.run (F := Ideal) m ρ, ?_⟩
  refine (θ_run (Cert.ReferenceModIdeal.defs (F := Ideal)) _ _).mono (fun r h c => ⟨(h c).1.trans ?_, (h c).2⟩) (Cert.ReferenceModIdeal.Value.run (F := Ideal) m' ρ')
  unfold Cert.ReferenceModIdeal.Value.res_main_v49
  rw [(hargs c).1, (hargs c).2.1, (hargs c).2.2.1, (hargs c).2.2.2]
  exact Mod.ext3 fun l p q => (Cert.ReferenceModIdeal.Stage.stacked_apply (Cert.KernelModIdeal.Array.X m c) (Cert.KernelModIdeal.Array.D m c)
    (Cert.KernelModIdeal.Array.U m c) (Cert.KernelModIdeal.Array.B m c) l p q).trans (Cert.KernelModIdeal.Array.result_apply m c l p q).symm

end Cert.Proof
-- ==== Proof.Interleave.lean ====
/- What a scratch of planes holds that a program fills with the rows of a block apart: a store puts `N` rows of the block
   at a column into every `D`-th row of a plane, and a load takes a plane whole. -/
module

public import Idealize.ShloMosaic.Lib.Pipeline.ValueKit
public import Idealize.ShloMosaic.Lib.Pointwise

@[expose] public section

noncomputable section

namespace Interleave

open Idealize.ShloMosaic

/-- The planes and one store's rows: `P = D * N`. -/
abbrev Planes (P : ℕ) : Shape := ⟨3, ![17, P, 128]⟩
abbrev Rows (N : ℕ) : Shape := ⟨3, ![1, N, 128]⟩

variable {Val : EltTy → Type} {e : EltTy} [∀ e, Nonempty (Val e)]

/-- A block's entry at a row and a column that need not be in it. -/
def at2 {N K : ℕ} (X : (⟨2, ![N, K]⟩ : Shape).Idx → Val e) (a : Fin N) (k : ℕ) : Val e :=
  if h : k < K then X (ix2 a ⟨k, h⟩) else Classical.arbitrary _

theorem at2_of_lt {N K : ℕ} (X : (⟨2, ![N, K]⟩ : Shape).Idx → Val e) (a : Fin N) (k : ℕ) (h : k < K) : at2 X a k = X (ix2 a ⟨k, h⟩) := dif_pos h

/-- The column of plane `n`'s row `r` in the values' block, and the one in the weights' block for the last plane. -/
def row {N K M : ℕ} (X : (⟨2, ![N, K]⟩ : Shape).Idx → Val e) (Y : (⟨2, ![N, M]⟩ : Shape).Idx → Val e) (n r : ℕ) (a : Fin N) (l : Fin 128) : Val e :=
  if n < 16 then at2 X a (r * 2048 + n * 128 + l.val) else at2 Y a (r * 128 + l.val)

theorem row_value {N K M : ℕ} (X : (⟨2, ![N, K]⟩ : Shape).Idx → Val e) (Y : (⟨2, ![N, M]⟩ : Shape).Idx → Val e) (n r : ℕ) (a : Fin N) (l : Fin 128)
    (hn : n < 16) (k : Fin K) (h : r * 2048 + n * 128 + l.val = k.val) : row X Y n r a l = X (ix2 a k) := by
  unfold row
  rw [if_pos hn, h]
  exact at2_of_lt X a _ k.isLt

theorem row_weight {N K M : ℕ} (X : (⟨2, ![N, K]⟩ : Shape).Idx → Val e) (Y : (⟨2, ![N, M]⟩ : Shape).Idx → Val e) (r : ℕ) (a : Fin N) (l : Fin 128)
    (k : Fin M) (h : r * 128 + l.val = k.val) : row X Y 16 r a l = Y (ix2 a k) := by
  unfold row
  rw [if_neg (lt_irrefl 16), h]
  exact at2_of_lt Y a _ k.isLt

/-- A store that puts row `r` of plane `n`. -/
def Good {P N K M : ℕ} (D : ℕ) (X : (⟨2, ![N, K]⟩ : Shape).Idx → Val e) (Y : (⟨2, ![N, M]⟩ : Shape).Idx → Val e)
    (p : View.Piece Val (Planes P) e) : Prop :=
  ∃ (n r : ℕ) (inb : ∀ a, (![1, N, 128] : Fin 3 → ℕ) a = 0 ∨ (![n, r, 0] : Fin 3 → ℕ) a + (![1, D, 1] : Fin 3 → ℕ) a * ((![1, N, 128] : Fin 3 → ℕ) a - 1) < (Planes P).size a)
    (sp : ∀ a, 0 < (![1, D, 1] : Fin 3 → ℕ) a) (w : (Rows N).Idx → Val e),
    p = ⟨⟨⟨![n, r, 0], ![1, N, 128], ![1, D, 1], inb⟩, sp⟩, w⟩ ∧ r < D ∧ ∀ x : (Rows N).Idx, w x = row X Y n r (x 1) (x 2)

/-- A store of a slice of a block under a leading axis of size one. -/
theorem cast_slice {N K o : ℕ} (X : (⟨2, ![N, K]⟩ : Shape).Idx → Val e) (inb : ∀ d, (![0, o] : Fin 2 → ℕ) d + (![N, 128] : Fin 2 → ℕ) d ≤ (⟨2, ![N, K]⟩ : Shape).size d)
    (h : (⟨2, ![N, 128]⟩ : Shape).ShapeCasts (Rows N)) (x : (Rows N).Idx) :
    shapeCast (Rows N) (View.ld (S := ⟨2, ![N, K]⟩) X (Rect.unit ![0, o] ![N, 128] inb) : (⟨2, ![N, 128]⟩ : Shape).Idx → Val e) h x = at2 X (x 1) (o + (x 2).val) := by
  have hi : o + 128 ≤ K := inb 1
  have hx : (x 2).val < 128 := (x 2).isLt
  refine Eq.trans ?_ (at2_of_lt X (x 1) (o + (x 2).val) (by omega)).symm
  refine (shapeCast_addUnit_apply ![N, 128] _ h x).trans (congrArg X (funext fun a => Fin.ext ?_))
  match a with
  | ⟨0, _⟩ => show 0 + 1 * (x 1).val = (x 1).val; omega
  | ⟨1, _⟩ => show o + 1 * (x 2).val = o + (x 2).val; omega

section stores
variable {sig : RefSig} {κ : Kind} {sc : Space} {P N K M D n r o : ℕ} {a : Memref sig κ sc ⟨2, ![N, K]⟩ e} (ha : a.IsWhole)
  {b : Memref sig κ sc ⟨2, ![N, M]⟩ e} (hb : b.IsWhole) (X : (⟨2, ![N, K]⟩ : Shape).Idx → Val e) (Y : (⟨2, ![N, M]⟩ : Shape).Idx → Val e)
  (inb : ∀ a, (![1, N, 128] : Fin 3 → ℕ) a = 0 ∨ (![n, r, 0] : Fin 3 → ℕ) a + (![1, D, 1] : Fin 3 → ℕ) a * ((![1, N, 128] : Fin 3 → ℕ) a - 1) < (Planes P).size a)
  (sp : ∀ a, 0 < (![1, D, 1] : Fin 3 → ℕ) a) (h : (⟨2, ![N, 128]⟩ : Shape).ShapeCasts (Rows N))

theorem good_value (hn : n < 16) (hr : r < D) (ho : o = r * 2048 + n * 128) (ib) :
    Good D X Y (⟨⟨⟨![n, r, 0], ![1, N, 128], ![1, D, 1], inb⟩, sp⟩, shapeCast (Rows N)
      (View.readAt Val a.view (Rect.unit (s := ⟨2, ![N, K]⟩) ![0, o] ![N, 128] ib).toLoadRect (ha.unread X) : (⟨2, ![N, 128]⟩ : Shape).Idx → Val e) h⟩ :
      View.Piece Val (Planes P) e) := by
  subst ho
  rw [View.readAt_eq_ld, ha.read_unread]
  exact ⟨n, r, inb, sp, _, rfl, hr, fun x => (cast_slice X ib h x).trans (if_pos hn).symm⟩

theorem good_weight (hn : n = 16) (hr : r < D) (ho : o = r * 128) (ib) :
    Good D X Y (⟨⟨⟨![n, r, 0], ![1, N, 128], ![1, D, 1], inb⟩, sp⟩, shapeCast (Rows N)
      (View.readAt Val b.view (Rect.unit (s := ⟨2, ![N, M]⟩) ![0, o] ![N, 128] ib).toLoadRect (hb.unread Y) : (⟨2, ![N, 128]⟩ : Shape).Idx → Val e) h⟩ :
      View.Piece Val (Planes P) e) := by
  subst ho
  rw [View.readAt_eq_ld, hb.read_unread]
  exact ⟨n, r, inb, sp, _, rfl, hr, fun x => (cast_slice Y ib h x).trans (if_neg (by omega)).symm⟩

end stores

variable {sig : RefSig} {κ : Kind} {sp : Space} {P N K M D : ℕ}

/-- What a load of plane `n` reads after stores of every row of it. -/
theorem plane (v : View sig κ sp (Planes P) e) (hP : P = D * N) (X : (⟨2, ![N, K]⟩ : Shape).Idx → Val e) (Y : (⟨2, ![N, M]⟩ : Shape).Idx → Val e)
    (L : List (View.Piece Val (Planes P) e)) (hL : ∀ p ∈ L, Good D X Y p) (n : ℕ)
    (hc : ∀ r < D, (n, r) ∈ L.map fun p => (p.1.off 0, p.1.off 1))
    (inb : ∀ d, (![n, 0, 0] : Fin 3 → ℕ) d + (![1, P, 128] : Fin 3 → ℕ) d ≤ (Planes P).size d) (z : Fin 1) (y : Fin P) (l : Fin 128)
    (hy : y.val / D < N) :
    (v.readCov L (Rect.unit (s := Planes P) ![n, 0, 0] ![1, P, 128] inb).toLoadRect : (Rows P).Idx → Val e) (ix3 z y l) = row X Y n (y.val % D) ⟨y.val / D, hy⟩ l := by
  have hD : 0 < D := by
    rcases Nat.eq_zero_or_pos D with h | h
    · have hlt := y.isLt
      rw [h, Nat.zero_mul] at hP
      omega
    · exact h
  let G : (Planes P).Idx → Val e := fun i => if h : (i 1).val / D < N then row X Y (i 0).val ((i 1).val % D) ⟨(i 1).val / D, h⟩ (i 2) else Classical.arbitrary _
  have hG : ∀ p ∈ L, ∀ x : p.1.shape.Idx, p.2 x = G (p.1.emb x) := by
    intro p hp x
    obtain ⟨n', r', inb', sp', w, rfl, hr, hw⟩ := hL p hp
    have h0 : (x 0).val < 1 := (x 0).isLt
    have h1 : (x 1).val < N := (x 1).isLt
    refine (hw x).trans ?_
    have e0 : ((⟨⟨![n', r', 0], ![1, N, 128], ![1, D, 1], inb'⟩, sp'⟩ : Rect (Planes P)).emb x 0).val = n' := show n' + 1 * (x 0).val = n' by omega
    have e1 : ((⟨⟨![n', r', 0], ![1, N, 128], ![1, D, 1], inb'⟩, sp'⟩ : Rect (Planes P)).emb x 1).val = r' + D * (x 1).val := rfl
    have e2 : ((⟨⟨![n', r', 0], ![1, N, 128], ![1, D, 1], inb'⟩, sp'⟩ : Rect (Planes P)).emb x 2) = x 2 := Fin.ext (show 0 + 1 * (x 2).val = (x 2).val by omega)
    have ed : (r' + D * (x 1).val) / D = (x 1).val := by rw [Nat.add_mul_div_left _ _ hD, Nat.div_eq_of_lt hr, Nat.zero_add]
    have em : (r' + D * (x 1).val) % D = r' := by rw [Nat.add_mul_mod_self_left, Nat.mod_eq_of_lt hr]
    have hlt : ((⟨⟨![n', r', 0], ![1, N, 128], ![1, D, 1], inb'⟩, sp'⟩ : Rect (Planes P)).emb x 1).val / D < N := by rw [e1, ed]; exact h1
    refine Eq.trans ?_ (dif_pos hlt).symm
    have e4 : (⟨((⟨⟨![n', r', 0], ![1, N, 128], ![1, D, 1], inb'⟩, sp'⟩ : Rect (Planes P)).emb x 1).val / D, hlt⟩ : Fin N) = x 1 := Fin.ext (by show _ / D = _; rw [e1, ed])
    rw [e4, e0, e1, e2, em]
  rw [View.readCov_eq_canon']
  have i0 : (((Rect.unit (s := Planes P) ![n, 0, 0] ![1, P, 128] inb).toLoadRect.idx (ix3 z y l)) 0).val = n := show n + 1 * z.val = n by omega
  have i1 : (((Rect.unit (s := Planes P) ![n, 0, 0] ![1, P, 128] inb).toLoadRect.idx (ix3 z y l)) 1).val = y.val := show 0 + 1 * y.val = y.val by omega
  have i2 : (((Rect.unit (s := Planes P) ![n, 0, 0] ![1, P, 128] inb).toLoadRect.idx (ix3 z y l)) 2) = l := Fin.ext (show 0 + 1 * l.val = l.val by omega)
  refine (View.canon_apply_of_pieces G L hG _ ?_).trans ?_
  · obtain ⟨p, hp, hk⟩ := List.mem_map.1 (hc (y.val % D) (Nat.mod_lt _ hD))
    refine ⟨p, hp, ?_⟩
    obtain ⟨n', r', inb', sp', w, rfl, hr, hw⟩ := hL p hp
    have k0 : n' = n := congrArg Prod.fst hk
    have k1 : r' = y.val % D := congrArg Prod.snd hk
    rw [LoadRect.mem_set]
    intro a
    match a with
    | ⟨0, _⟩ => exact ⟨0, Nat.one_pos, by show _ = n' + 1 * 0; rw [k0]; exact i0⟩
    | ⟨1, _⟩ => exact ⟨y.val / D, hy, by show _ = r' + D * (y.val / D); rw [k1, Nat.mod_add_div]; exact i1⟩
    | ⟨2, _⟩ => exact ⟨l.val, l.isLt, by show _ = 0 + 1 * l.val; rw [Nat.zero_add, Nat.one_mul]; exact congrArg Fin.val i2⟩
  · have hlt : (((Rect.unit (s := Planes P) ![n, 0, 0] ![1, P, 128] inb).toLoadRect.idx (ix3 z y l)) 1).val / D < N := by rw [i1]; exact hy
    refine (dif_pos hlt).trans ?_
    have e4 : (⟨(((Rect.unit (s := Planes P) ![n, 0, 0] ![1, P, 128] inb).toLoadRect.idx (ix3 z y l)) 1).val / D, hlt⟩ : Fin N) = ⟨y.val / D, hy⟩ := Fin.ext (by show _ / D = _; rw [i1])
    rw [e4, i0, i1, i2]

end Interleave

end
-- ==== Proof.Weights.lean ====
/- The weighted sum of three values whose weights are the softmax of three numbers, which the kernel scales by the inverse of
   the sum and the reference divides by it. -/
module

public import Idealize.ShloMosaic.Lib.IdealHost
public import Idealize.ShloMosaic.Lib.Pipeline.ValueKit

@[expose] public section

noncomputable section

namespace Mix

open Idealize.ShloMosaic

/-- The largest number, and the sum of the exponentials of the differences from it. -/
def top (l m n : EReal) : EReal := max (max l m) n
def total (l m n : EReal) : EReal := Ideal.exp (l - top l m n) + Ideal.exp (m - top l m n) + Ideal.exp (n - top l m n)

/-- The weighted sum as the kernel computes it, and as the reference does. -/
def scaled (o p q l m n : EReal) : EReal :=
  o * (Ideal.exp (l - top l m n) * Ideal.div 1 (total l m n)) + p * (Ideal.exp (m - top l m n) * Ideal.div 1 (total l m n))
    + q * (Ideal.exp (n - top l m n) * Ideal.div 1 (total l m n))
def divided (o p q l m n : EReal) : EReal :=
  o * Ideal.div (Ideal.exp (l - top l m n)) (total l m n) + p * Ideal.div (Ideal.exp (m - top l m n)) (total l m n)
    + q * Ideal.div (Ideal.exp (n - top l m n)) (total l m n)

theorem total_ne_zero (a b c : ℝ) : total (a : EReal) b c ≠ 0 := by
  have ht : top (a : EReal) b c = ((max (max a b) c : ℝ) : EReal) := by
    unfold top
    rw [EReal.coe_strictMono.monotone.map_max, EReal.coe_strictMono.monotone.map_max]
  unfold total
  rw [ht, ← EReal.coe_sub, ← EReal.coe_sub, ← EReal.coe_sub, Ideal.exp_coe, Ideal.exp_coe, Ideal.exp_coe, ← EReal.coe_add, ← EReal.coe_add]
  exact EReal.coe_ne_zero.2 (by positivity)

/-- With real numbers the two are the same. -/
theorem scaled_eq_divided (o p q : EReal) (a b c : ℝ) : scaled o p q a b c = divided o p q a b c := by
  have h := total_ne_zero a b c
  unfold scaled divided
  rw [Ideal.mul_one_div h, Ideal.mul_one_div h, Ideal.mul_one_div h]

end Mix

end
-- ==== Proof.Mix.lean ====
/- The merge of the three dilations: the two scratches that hold a block of the other streams in token order, and an entry of the result. -/
module

public import proofs.«01_k».proof.Proof.Interleave
public import proofs.«01_k».proof.Proof.Product
public import proofs.«01_k».proof.Proof.Weights
public import proofs.«01_k».proof.Proof.Gen.KernelMixIdeal.Value

@[expose] public section

set_option maxRecDepth 16384

noncomputable section

open Idealize.ShloMosaic

namespace Cert.KernelMixIdeal.Array

open Cert.KernelMixIdeal Cert.KernelMixIdeal.Gen Idealize.ShloMosaic.TcCoe

/-- One head of a block: its columns of the three groups, each times a column of the group's weights. -/
def head (h : ℕ) (hs : S256x128.Slices ![0, h] S256x1) (u v w : FVec Ideal S256x128 .f32) (A : Vec Ideal S256x128 .f32) (B C : Vec Ideal S1x256x128 .f32) :
    FVec Ideal S256x128 .bf16 :=
  truncf .bf16 (addf (addf (mulf A (broadcastTo S256x128 (extractStridedSlice S256x1 ![0, h] u hs) broadcasts_S256x1_S256x128))
    (mulf (shapeCast S256x128 B shapeCasts_S1x256x128_S256x128) (broadcastTo S256x128 (extractStridedSlice S256x1 ![0, h] v hs) broadcasts_S256x1_S256x128)))
    (mulf (shapeCast S256x128 C shapeCasts_S1x256x128_S256x128) (broadcastTo S256x128 (extractStridedSlice S256x1 ![0, h] w hs) broadcasts_S256x1_S256x128)))
    bitsLt_bf16_f32

section weights
variable (l : Vec Ideal S256x128 .f32) (m n : Vec Ideal S1x256x128 .f32)

/-- The three groups' weights in a block, from the first group's numbers and the other two's, each a plane of its scratch. -/
abbrev weight1 : FVec Ideal S256x128 .f32 :=
  k0_pay350 (k0_pay344 n) (k0_pay345 l (k0_pay71 m) n) (k0_pay346 l (k0_pay71 m) n) (k0_pay347 l (k0_pay71 m) n)
abbrev weight4 : FVec Ideal S256x128 .f32 :=
  k0_pay351 (k0_pay344 n) (k0_pay345 l (k0_pay71 m) n) (k0_pay346 l (k0_pay71 m) n) (k0_pay347 l (k0_pay71 m) n)
abbrev weight16 : FVec Ideal S256x128 .f32 :=
  k0_pay352 (k0_pay344 n) (k0_pay345 l (k0_pay71 m) n) (k0_pay346 l (k0_pay71 m) n) (k0_pay347 l (k0_pay71 m) n)

/-- So one head, at a row and a column. -/
theorem weighted_apply (h : ℕ) (hh : h < 128) (hs : S256x128.Slices ![0, h] S256x1) (A : Vec Ideal S256x128 .f32) (B C : Vec Ideal S1x256x128 .f32)
    (y : Fin 256) (d : Fin 128) : head h hs (weight1 l m n) (weight4 l m n) (weight16 l m n) A B C (ix2 y d) =
      Mix.scaled (A (ix2 y d)) (B (ix3 0 y d)) (C (ix3 0 y d)) (l (ix2 y ⟨h, hh⟩)) (m (ix3 0 y ⟨h, hh⟩)) (n (ix3 0 y ⟨h, hh⟩)) := by
  unfold Mix.scaled Mix.total Mix.top
  pointwise [head, k0_pay71, k0_pay344, k0_pay345, k0_pay346, k0_pay347, k0_pay348, k0_pay349, k0_pay350, k0_pay351, k0_pay352]

end weights

section cases
variable (c : Dev nD) (i : grid0.Coords) (a1 : Memref sig .tc .vmem S256x2048 .f32) (h1 : a1.IsWhole)
  (a2 : Memref sig .tc .vmem S64x8192 .f32) (h2 : a2.IsWhole) (a3 : Memref sig .tc .vmem S16x32768 .f32) (h3 : a3.IsWhole)
  (a4 : Memref sig .tc .vmem S256x128 .f32) (h4 : a4.IsWhole) (a5 : Memref sig .tc .vmem S64x512 .f32) (h5 : a5.IsWhole)
  (a6 : Memref sig .tc .vmem S16x2048 .f32) (h6 : a6.IsWhole) (a7 : Memref sig .tc .vmem S256x2048 .bf16) (h7 : a7.IsWhole)
  (a8 : Memref sig .tc .vmem S17x256x128 .f32) (h8 : a8.IsWhole) (a9 : Memref sig .tc .vmem S17x256x128 .f32) (h9 : a9.IsWhole)
  (x0 : Vec Ideal S256x2048 .f32) (x1 : Vec Ideal S64x8192 .f32) (x2 : Vec Ideal S16x32768 .f32)
  (x3 : Vec Ideal S256x128 .f32) (x4 : Vec Ideal S64x512 .f32) (x5 : Vec Ideal S16x2048 .f32)

/-- The stores of the rows of the groups of stride 4 and 16. -/
theorem good4 : ∀ p ∈ kernelRun0_A.sl.HS0_68 (F := Ideal) c a2 h2 a5 h5 x1 x4, Interleave.Good (P := 256) (N := 64) (K := 8192) (M := 512) 4 x1 x4 p := by
  sl_unfold_words
  repeat
    refine List.forall_mem_cons.2 ⟨?_, ?_⟩
    first
      | exact Interleave.good_value h2 x1 x4 _ _ _ (by decide) (by decide) (by decide) _
      | exact Interleave.good_weight h5 x1 x4 _ _ _ (by decide) (by decide) (by decide) _
  exact List.forall_mem_nil _

theorem good16 : ∀ p ∈ kernelRun0_A.sl.HS1_272 (F := Ideal) c a3 h3 a6 h6 x2 x5, Interleave.Good (P := 256) (N := 16) (K := 32768) (M := 2048) 16 x2 x5 p := by
  sl_unfold_words
  repeat
    refine List.forall_mem_cons.2 ⟨?_, ?_⟩
    first
      | exact Interleave.good_value h3 x2 x5 _ _ _ (by decide) (by decide) (by decide) _
      | exact Interleave.good_weight h6 x2 x5 _ _ _ (by decide) (by decide) (by decide) _
  exact List.forall_mem_nil _

theorem keys4 (n r : ℕ) (hn : n < 17) (hr : r < 4) : (n, r) ∈ (kernelRun0_A.sl.HS0_68 (F := Ideal) c a2 h2 a5 h5 x1 x4).map fun p => (p.1.off 0, p.1.off 1) := by
  have h : (kernelRun0_A.sl.HS0_68 (F := Ideal) c a2 h2 a5 h5 x1 x4).map (fun p => (p.1.off 0, p.1.off 1)) =
      (List.range 4).reverse.flatMap fun r => (List.range 17).reverse.map fun n => (n, r) := by sl_kernel_rfl
  rw [h]
  simp [hn, hr]

theorem keys16 (n r : ℕ) (hn : n < 17) (hr : r < 16) : (n, r) ∈ (kernelRun0_A.sl.HS1_272 (F := Ideal) c a3 h3 a6 h6 x2 x5).map fun p => (p.1.off 0, p.1.off 1) := by
  have h : (kernelRun0_A.sl.HS1_272 (F := Ideal) c a3 h3 a6 h6 x2 x5).map (fun p => (p.1.off 0, p.1.off 1)) =
      (List.range 16).reverse.flatMap fun r => (List.range 17).reverse.map fun n => (n, r) := by sl_kernel_rfl
  rw [h]
  simp [hn, hr]

/-- An entry of a point's block, from the blocks it reads: row `y` is row `y / 4` of the second group's and row `y / 16` of the third's. -/
def entry (y : Fin 256) (C : Fin 2048) : EReal :=
  Mix.scaled (x0 (ix2 y C)) (Interleave.row x1 x4 (C.val / 128) (y.val % 4) (⟨y.val / 4, by omega⟩ : Fin 64) ⟨C.val % 128, by omega⟩)
    (Interleave.row x2 x5 (C.val / 128) (y.val % 16) (⟨y.val / 16, by omega⟩ : Fin 16) ⟨C.val % 128, by omega⟩) (x3 (ix2 y ⟨C.val / 128, by omega⟩))
    (Interleave.row x1 x4 16 (y.val % 4) (⟨y.val / 4, by omega⟩ : Fin 64) ⟨C.val / 128, by omega⟩)
    (Interleave.row x2 x5 16 (y.val % 16) (⟨y.val / 16, by omega⟩ : Fin 16) ⟨C.val / 128, by omega⟩)

/-- One head's store. -/
theorem head_store {L8 L9 : List (View.Piece (Elt Ideal) S17x256x128 .f32)}
    (g8 : ∀ p ∈ L8, Interleave.Good (P := 256) (N := 64) (K := 8192) (M := 512) 4 x1 x4 p)
    (g9 : ∀ p ∈ L9, Interleave.Good (P := 256) (N := 16) (K := 32768) (M := 2048) 16 x2 x5 p)
    (k8 : ∀ n r, n < 17 → r < 4 → (n, r) ∈ L8.map fun p => (p.1.off 0, p.1.off 1))
    (k9 : ∀ n r, n < 17 → r < 16 → (n, r) ∈ L9.map fun p => (p.1.off 0, p.1.off 1))
    {h o : ℕ} (hh : h < 16) (ho : o = h * 128) (hs : S256x128.Slices ![0, h] S256x1)
    (inb : ∀ d, (![0, o] : Fin 2 → ℕ) d + (![256, 128] : Fin 2 → ℕ) d ≤ S256x2048.size d)
    (ibl : ∀ d, (![0, 0] : Fin 2 → ℕ) d + S256x128.size d ≤ S256x128.size d)
    (ibh : ∀ d, (![h, 0, 0] : Fin 3 → ℕ) d + (![1, 256, 128] : Fin 3 → ℕ) d ≤ S17x256x128.size d)
    (ibw : ∀ d, (![16, 0, 0] : Fin 3 → ℕ) d + (![1, 256, 128] : Fin 3 → ℕ) d ≤ S17x256x128.size d)
    (x : (Rect.unit (s := S256x2048) ![0, o] ![256, 128] inb).shape.Idx) :
    head h hs
      (weight1 (View.readAt (Elt Ideal) a4.view (Rect.unit ![0, 0] S256x128.size ibl).toLoadRect (h4.unread x3))
        (a8.view.readCov L8 (Rect.unit (s := S17x256x128) ![16, 0, 0] ![1, 256, 128] ibw).toLoadRect)
        (a9.view.readCov L9 (Rect.unit (s := S17x256x128) ![16, 0, 0] ![1, 256, 128] ibw).toLoadRect))
      (weight4 (View.readAt (Elt Ideal) a4.view (Rect.unit ![0, 0] S256x128.size ibl).toLoadRect (h4.unread x3))
        (a8.view.readCov L8 (Rect.unit (s := S17x256x128) ![16, 0, 0] ![1, 256, 128] ibw).toLoadRect)
        (a9.view.readCov L9 (Rect.unit (s := S17x256x128) ![16, 0, 0] ![1, 256, 128] ibw).toLoadRect))
      (weight16 (View.readAt (Elt Ideal) a4.view (Rect.unit ![0, 0] S256x128.size ibl).toLoadRect (h4.unread x3))
        (a8.view.readCov L8 (Rect.unit (s := S17x256x128) ![16, 0, 0] ![1, 256, 128] ibw).toLoadRect)
        (a9.view.readCov L9 (Rect.unit (s := S17x256x128) ![16, 0, 0] ![1, 256, 128] ibw).toLoadRect))
      (View.readAt (Elt Ideal) a1.view (Rect.unit (s := S256x2048) ![0, o] ![256, 128] inb).toLoadRect (h1.unread x0))
      (a8.view.readCov L8 (Rect.unit (s := S17x256x128) ![h, 0, 0] ![1, 256, 128] ibh).toLoadRect)
      (a9.view.readCov L9 (Rect.unit (s := S17x256x128) ![h, 0, 0] ![1, 256, 128] ibh).toLoadRect) x
    = (fun i : S256x2048.Idx => entry x0 x1 x2 x3 x4 x5 (i 0) (i 1)) ((Rect.unit (s := S256x2048) ![0, o] ![256, 128] inb).emb x) := by
  subst ho
  obtain ⟨y, d, rfl⟩ : ∃ (y : Fin 256) (d : Fin 128), x = ix2 y d := ⟨x 0, x 1, by
    funext a
    fin_cases a <;> rfl⟩
  have e0 : ((Rect.unit (s := S256x2048) ![0, h * 128] ![256, 128] inb).emb (ix2 y d) : S256x2048.Idx) = ix2 y ⟨h * 128 + d.val, by omega⟩ := by
    funext a
    match a with
    | ⟨0, _⟩ => exact Fin.ext (by show 0 + 1 * y.val = y.val; omega)
    | ⟨1, _⟩ => exact Fin.ext (by show h * 128 + 1 * d.val = h * 128 + d.val; omega)
  have c1 : (h * 128 + d.val) / 128 = h := by omega
  have c2 : (⟨(h * 128 + d.val) % 128, by omega⟩ : Fin 128) = d := Fin.ext (by show (h * 128 + d.val) % 128 = d.val; omega)
  have c3 : (⟨(h * 128 + d.val) / 128, by omega⟩ : Fin 128) = ⟨h, by omega⟩ := Fin.ext c1
  rw [e0]
  refine (weighted_apply _ _ _ h (by omega) hs _ _ _ y d).trans ?_
  rw [Interleave.plane (D := 4) a8.view rfl x1 x4 L8 g8 h (fun r hr => k8 h r (by omega) hr) ibh 0 y d (by omega),
    Interleave.plane (D := 16) a9.view rfl x2 x5 L9 g9 h (fun r hr => k9 h r (by omega) hr) ibh 0 y d (by omega),
    Interleave.plane (D := 4) a8.view rfl x1 x4 L8 g8 16 (fun r hr => k8 16 r (by omega) hr) ibw 0 y ⟨h, by omega⟩ (by omega),
    Interleave.plane (D := 16) a9.view rfl x2 x5 L9 g9 16 (fun r hr => k9 16 r (by omega) hr) ibw 0 y ⟨h, by omega⟩ (by omega),
    Product.loaded h4 Product.zero2 ibl x3, View.readAt_eq_ld, h1.read_unread]
  have e1 : View.ld x0 (Rect.unit (s := S256x2048) ![0, h * 128] ![256, 128] inb) (ix2 y d) = x0 (ix2 y ⟨h * 128 + d.val, by omega⟩) := congrArg x0 e0
  refine Eq.trans ?_ (show Mix.scaled _ _ _ _ _ _ = entry x0 x1 x2 x3 x4 x5 y ⟨h * 128 + d.val, by omega⟩ from rfl)
  rw [c3, c2, c1]
  exact congrArg (fun z => Mix.scaled z _ _ _ _ _) e1

/-- What a point leaves in its block of the result. -/
theorem out_A : out0_A_6 (F := Ideal) c i a1 h1 a2 h2 a3 h3 a4 h4 a5 h5 a6 h6 a7 h7 a8 h8 a9 h9 x0 x1 x2 x3 x4 x5
    = fun i : S256x2048.Idx => entry x0 x1 x2 x3 x4 x5 (i 0) (i 1) := by
  funext y
  unfold out0_A_6
  rw [View.read_writes_junk_eq_canon]
  refine View.canon_apply_of_pieces (fun i : S256x2048.Idx => entry x0 x1 x2 x3 x4 x5 (i 0) (i 1)) _ ?_ y
    (cover0_A_6 c i a1 h1 a2 h2 a3 h3 a4 h4 a5 h5 a6 h6 a7 h7 a8 h8 a9 h9 x0 x1 x2 x3 x4 x5 y)
  have g8 := good4 c a2 h2 a5 h5 x1 x4
  have g9 := good16 c a3 h3 a6 h6 x2 x5
  have k8 := keys4 c a2 h2 a5 h5 x1 x4
  have k9 := keys16 c a3 h3 a6 h6 x2 x5
  unfold kernelRun0_A
  dsimp only
  iterate 16
    refine List.forall_mem_cons.2 ⟨fun x => ?_, ?_⟩
    · exact head_store a1 h1 a4 h4 a8 a9 x0 x1 x2 x3 x4 x5 g8 g9 k8 k9 (by decide) (by decide) _ _ _ _ _ x
  exact List.forall_mem_nil _

theorem entry_eq (y : Fin 256) (C : Fin 2048) : entry x0 x1 x2 x3 x4 x5 y C = Mix.scaled (x0 (ix2 y C))
    (x1 (ix2 ⟨y.val / 4, by omega⟩ ⟨y.val % 4 * 2048 + C.val, by omega⟩)) (x2 (ix2 ⟨y.val / 16, by omega⟩ ⟨y.val % 16 * 2048 + C.val, by omega⟩))
    (x3 (ix2 y ⟨C.val / 128, by omega⟩)) (x4 (ix2 ⟨y.val / 4, by omega⟩ ⟨y.val % 4 * 128 + C.val / 128, by omega⟩))
    (x5 (ix2 ⟨y.val / 16, by omega⟩ ⟨y.val % 16 * 128 + C.val / 128, by omega⟩)) := by
  unfold entry
  rw [Interleave.row_value x1 x4 _ _ _ _ (by omega) ⟨y.val % 4 * 2048 + C.val, by omega⟩ (by dsimp only; omega),
    Interleave.row_value x2 x5 _ _ _ _ (by omega) ⟨y.val % 16 * 2048 + C.val, by omega⟩ (by dsimp only; omega),
    Interleave.row_weight x1 x4 _ _ _ ⟨y.val % 4 * 128 + C.val / 128, by omega⟩ rfl,
    Interleave.row_weight x2 x5 _ _ _ ⟨y.val % 16 * 128 + C.val / 128, by omega⟩ rfl]

end cases

theorem idx (t : Fin cfg0.N) : (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0)) t

variable (m : (ℓ : Loc nD τ sig) → Buf (Elt Ideal) ℓ) (c : Dev nD)

/-- The three groups' outputs and their numbers. -/
def O1 : Vec Ideal S8192x2048 .f32 := m ((c : Thread nD τ).loc main_arg0)
def O4 : Vec Ideal S2048x8192 .f32 := m ((c : Thread nD τ).loc main_arg1)
def O16 : Vec Ideal S512x32768 .f32 := m ((c : Thread nD τ).loc main_arg2)
def N1 : Vec Ideal S8192x128 .f32 := m ((c : Thread nD τ).loc main_arg3)
def N4 : Vec Ideal S2048x512 .f32 := m ((c : Thread nD τ).loc main_arg4)
def N16 : Vec Ideal S512x2048 .f32 := m ((c : Thread nD τ).loc main_arg5)

theorem blocks_apply (t : Fin cfg0.N) (ht : t.val < 32) :
    (∀ (y : Fin 256) (C : Fin 2048), iblk m c 0 t (ix2 y C) = O1 m c (ix2 ⟨256 * t.val + y.val, by omega⟩ C)) ∧
    (∀ (y : Fin 64) (C : Fin 8192), iblk m c 1 t (ix2 y C) = O4 m c (ix2 ⟨64 * t.val + y.val, by omega⟩ C)) ∧
    (∀ (y : Fin 16) (C : Fin 32768), iblk m c 2 t (ix2 y C) = O16 m c (ix2 ⟨16 * t.val + y.val, by omega⟩ C)) ∧
    (∀ (y : Fin 256) (C : Fin 128), iblk m c 3 t (ix2 y C) = N1 m c (ix2 ⟨256 * t.val + y.val, by omega⟩ C)) ∧
    (∀ (y : Fin 64) (C : Fin 512), iblk m c 4 t (ix2 y C) = N4 m c (ix2 ⟨64 * t.val + y.val, by omega⟩ C)) ∧
    (∀ (y : Fin 16) (C : Fin 2048), iblk m c 5 t (ix2 y C) = N16 m c (ix2 ⟨16 * t.val + y.val, by omega⟩ C)) := by
  obtain ⟨i0, i1, i2, i3, i4, i5, -⟩ := idx t
  refine ⟨fun y C => ?_, fun y C => ?_, fun y C => ?_, fun y C => ?_, fun y C => ?_, fun y C => ?_⟩
  · blk_ext [O1, iblk, V, i0.1, i0.2]
  · blk_ext [O4, iblk, V, i1.1, i1.2]
  · blk_ext [O16, iblk, V, i2.1, i2.2]
  · blk_ext [N1, iblk, V, i3.1, i3.2]
  · blk_ext [N4, iblk, V, i4.1, i4.2]
  · blk_ext [N16, iblk, V, i5.1, i5.2]

/-- An entry of the result. -/
theorem point_apply (t : Fin cfg0.N) (ht : t.val < 32) (y : Fin 256) (C : Fin 2048) (R : Fin 8192) (hR : R.val = 256 * t.val + y.val) :
    (dats m 0 c).arrAt 6 cfg0.N (ix2 R C : S8192x2048.Idx) = Mix.scaled (O1 m c (ix2 R C))
      (O4 m c (ix2 ⟨R.val / 4, by omega⟩ ⟨R.val % 4 * 2048 + C.val, by omega⟩)) (O16 m c (ix2 ⟨R.val / 16, by omega⟩ ⟨R.val % 16 * 2048 + C.val, by omega⟩))
      (N1 m c (ix2 R ⟨C.val / 128, by omega⟩)) (N4 m c (ix2 ⟨R.val / 4, by omega⟩ ⟨R.val % 4 * 128 + C.val / 128, by omega⟩))
      (N16 m c (ix2 ⟨R.val / 16, by omega⟩ ⟨R.val % 16 * 128 + C.val / 128, by omega⟩)) := by
  obtain ⟨b0, b1, b2, b3, b4, b5⟩ := blocks_apply m c t ht
  obtain ⟨-, -, -, -, -, -, i6⟩ := idx t
  have hR' : R = ⟨256 * t.val + y.val, by omega⟩ := Fin.ext hR
  have hb := congrFun ((Value.blocks6 m c t (flush0_6 t)).trans (Value.flushed6_A m c t)) (ix2 y C)
  have hl : (dats m 0 c).arrAt 6 cfg0.N (ix2 R C : S8192x2048.Idx) = entry (iblk m c 0 t) (iblk m c 1 t) (iblk m c 2 t) (iblk m c 3 t) (iblk m c 4 t) (iblk m c 5 t) y C := by
    rw [hR']
    refine Eq.trans ?_ (hb.trans ?_)
    · blk_ext [i6.1, i6.2]
    · rw [out_A]
      rfl
  rw [hl, entry_eq, b0, b1, b2, b3, b4, b5]
  have d1 : (⟨64 * t.val + y.val / 4, by omega⟩ : Fin 2048) = ⟨R.val / 4, by omega⟩ := Fin.ext (by show 64 * t.val + y.val / 4 = R.val / 4; omega)
  have d2 : (⟨16 * t.val + y.val / 16, by omega⟩ : Fin 512) = ⟨R.val / 16, by omega⟩ := Fin.ext (by show 16 * t.val + y.val / 16 = R.val / 16; omega)
  have m1 : y.val % 4 = R.val % 4 := by omega
  have m2 : y.val % 16 = R.val % 16 := by omega
  rw [d1, d2, ← hR']
  simp only [m1, m2]

theorem result_apply (R : Fin 8192) (C : Fin 2048) :
    (dats m 0 c).arrAt 6 cfg0.N (ix2 R C : S8192x2048.Idx) = Mix.scaled (O1 m c (ix2 R C))
      (O4 m c (ix2 ⟨R.val / 4, by omega⟩ ⟨R.val % 4 * 2048 + C.val, by omega⟩)) (O16 m c (ix2 ⟨R.val / 16, by omega⟩ ⟨R.val % 16 * 2048 + C.val, by omega⟩))
      (N1 m c (ix2 R ⟨C.val / 128, by omega⟩)) (N4 m c (ix2 ⟨R.val / 4, by omega⟩ ⟨R.val % 4 * 128 + C.val / 128, by omega⟩))
      (N16 m c (ix2 ⟨R.val / 16, by omega⟩ ⟨R.val % 16 * 128 + C.val / 128, by omega⟩)) :=
  point_apply m c ⟨R.val / 256, by show R.val / 256 < 32; omega⟩ (by show R.val / 256 < 32; omega) ⟨R.val % 256, by omega⟩ C R
    (by show R.val = 256 * (R.val / 256) + R.val % 256; omega)

end Cert.KernelMixIdeal.Array

end
-- ==== Proof.Merge.lean ====
/- The reference's weighted sum of the three groups' outputs: an entry of its result. -/
module

public import proofs.«01_k».proof.Proof.Weights
public import proofs.«01_k».proof.Proof.Gen.ReferenceMixIdeal.Run
public import Idealize.ShloMosaic.Lib.Pointwise

@[expose] public section

set_option maxRecDepth 16384

noncomputable section

namespace Cert.ReferenceMixIdeal.Stage

open Cert.ReferenceMixIdeal Cert.ReferenceMixIdeal.Gen Idealize.ShloMosaic

variable (o : FVec Ideal S8192x2048 .f32) (p : FVec Ideal S2048x8192 .f32) (q : FVec Ideal S512x32768 .f32)
  (l : FVec Ideal S8192x128 .f32) (m : FVec Ideal S2048x512 .f32) (n : FVec Ideal S512x2048 .f32)

/-- The three groups' outputs and numbers, one under another. -/
def outs : FVec Ideal S3x8192x16x128 .f32 :=
  concatenate S3x8192x16x128 0
    [⟨S1x8192x16x128, broadcastInDim S1x8192x16x128 ![1, 2, 3] bcast_S8192x16x128_S1x8192x16x128_1_2_3 (shapeCast _ o shapeCasts_S8192x2048_S8192x16x128)⟩,
     ⟨S1x8192x16x128, broadcastInDim S1x8192x16x128 ![1, 2, 3] bcast_S8192x16x128_S1x8192x16x128_1_2_3 (shapeCast _ p shapeCasts_S2048x8192_S8192x16x128)⟩,
     ⟨S1x8192x16x128, broadcastInDim S1x8192x16x128 ![1, 2, 3] bcast_S8192x16x128_S1x8192x16x128_1_2_3 (shapeCast _ q shapeCasts_S512x32768_S8192x16x128)⟩]
    concatenates_S1x8192x16x128_S1x8192x16x128_S1x8192x16x128_S3x8192x16x128_d0
def nums : FVec Ideal S3x8192x16 .f32 :=
  concatenate S3x8192x16 0
    [⟨S1x8192x16, broadcastInDim S1x8192x16 ![1, 2] bcast_S8192x16_S1x8192x16_1_2 (extractStridedSlice S8192x16 ![0, 0] l slices_S8192x128_S8192x16_0_0)⟩,
     ⟨S1x8192x16, broadcastInDim S1x8192x16 ![1, 2] bcast_S8192x16_S1x8192x16_1_2 (extractStridedSlice S8192x16 ![0, 0] (shapeCast _ m shapeCasts_S2048x512_S8192x128) slices_S8192x128_S8192x16_0_0)⟩,
     ⟨S1x8192x16, broadcastInDim S1x8192x16 ![1, 2] bcast_S8192x16_S1x8192x16_1_2 (extractStridedSlice S8192x16 ![0, 0] (shapeCast _ n shapeCasts_S512x2048_S8192x128) slices_S8192x128_S8192x16_0_0)⟩]
    concatenates_S1x8192x16_S1x8192x16_S1x8192x16_S3x8192x16_d0

theorem outs_apply (R : Fin 8192) (h : Fin 16) (d : Fin 128) :
    outs o p q (ix4 0 R h d) = o (ix2 R ⟨128 * h.val + d.val, by omega⟩) ∧
    outs o p q (ix4 1 R h d) = p (ix2 ⟨R.val / 4, by omega⟩ ⟨R.val % 4 * 2048 + h.val * 128 + d.val, by omega⟩) ∧
    outs o p q (ix4 2 R h d) = q (ix2 ⟨R.val / 16, by omega⟩ ⟨R.val % 16 * 2048 + h.val * 128 + d.val, by omega⟩) := by
  refine ⟨?_, ?_, ?_⟩
  all_goals pointwise [outs]
  exact congrArg (fun k => o (ix2 R k)) (Fin.ext (by show h.val * 128 + d.val = 128 * h.val + d.val; omega))

theorem nums_apply (R : Fin 8192) (h : Fin 16) :
    nums l m n (ix3 0 R h) = l (ix2 R ⟨h.val, by omega⟩) ∧
    nums l m n (ix3 1 R h) = m (ix2 ⟨R.val / 4, by omega⟩ ⟨R.val % 4 * 128 + h.val, by omega⟩) ∧
    nums l m n (ix3 2 R h) = n (ix2 ⟨R.val / 16, by omega⟩ ⟨R.val % 16 * 128 + h.val, by omega⟩) := by
  refine ⟨?_, ?_, ?_⟩
  all_goals pointwise [nums]

variable (w : FVec Ideal S3x8192x16 .f32) (v : FVec Ideal S3x8192x16x128 .f32)

def spread (x : FVec Ideal S8192x16 .f32) : FVec Ideal S3x8192x16 .f32 :=
  broadcastInDim S3x8192x16 ![0, 1, 2] bcast_S1x8192x16_S3x8192x16_0_1_2 (broadcastInDim S1x8192x16 ![1, 2] bcast_S8192x16_S1x8192x16_1_2 x)

def exps : FVec Ideal S3x8192x16 .f32 :=
  Host.exp (subf w (spread (maximumf (broadcastInDim S8192x16 ![] bcast_S_S8192x16 (constant S_ .f32 0xFF800000#32))
    (Host.reduce FloatOps.maximumf w (constant S_ .f32 0xFF800000#32) reducesTo_S3x8192x16_S8192x16_d0 h_S_))))

def weights : FVec Ideal S3x8192x16 .f32 :=
  Host.divf (exps w) (spread (Host.reduceAdd (exps w) (constant S_ .f32 0x00000000#32) reducesTo_S3x8192x16_S8192x16_d0 h_S_))

def merged : FVec Ideal S8192x2048 .bf16 :=
  shapeCast _ (truncf .bf16 (Host.reduceAdd (mulf v (broadcastInDim S3x8192x16x128 ![0, 1, 2, 3] bcast_S3x8192x16x1_S3x8192x16x128_0_1_2_3
    (broadcastInDim S3x8192x16x1 ![0, 1, 2] bcast_S3x8192x16_S3x8192x16x1_0_1_2 (weights w)))) (constant S_ .f32 0x00000000#32) reducesTo_S3x8192x16x128_S8192x16x128_d0 h_S_) bitsLt_bf16_f32)
    shapeCasts_S8192x16x128_S8192x2048

theorem exps_apply (R : Fin 8192) (h : Fin 16) (g : Fin 3) :
    exps w (ix3 g R h) = Ideal.exp (w (ix3 g R h) - Mix.top (w (ix3 0 R h)) (w (ix3 1 R h)) (w (ix3 2 R h))) := by
  have hb : Ideal.ofBits FTy.f32 0xFF800000#32 = ⊥ := by simp [Ideal.ofBits, Ideal.ieee]
  have hu : (Finset.univ : Finset (Fin 3)) = {0, 1, 2} := rfl
  pointwise [exps, spread]
  rw [hb, hu, Finset.fold_insert (by decide), Finset.fold_insert (by decide), Finset.fold_singleton, max_bot_left, max_bot_right, ← max_assoc]
  rfl

theorem weights_apply (R : Fin 8192) (h : Fin 16) (g : Fin 3) :
    weights w (ix3 g R h) = Ideal.div (Ideal.exp (w (ix3 g R h) - Mix.top (w (ix3 0 R h)) (w (ix3 1 R h)) (w (ix3 2 R h))))
      (Mix.total (w (ix3 0 R h)) (w (ix3 1 R h)) (w (ix3 2 R h))) := by
  pointwise [weights, spread]
  rw [Fin.sum_univ_three, exps_apply, exps_apply, exps_apply, exps_apply]
  rfl

theorem merged_apply (R : Fin 8192) (C : Fin 2048) :
    merged w v (ix2 R C) = v (ix4 0 R ⟨C.val / 128, by omega⟩ ⟨C.val % 128, by omega⟩) * weights w (ix3 0 R ⟨C.val / 128, by omega⟩)
      + v (ix4 1 R ⟨C.val / 128, by omega⟩ ⟨C.val % 128, by omega⟩) * weights w (ix3 1 R ⟨C.val / 128, by omega⟩)
      + v (ix4 2 R ⟨C.val / 128, by omega⟩ ⟨C.val % 128, by omega⟩) * weights w (ix3 2 R ⟨C.val / 128, by omega⟩) := by
  pointwise [merged]
  exact Fin.sum_univ_three _

theorem res (m' : (ℓ : Loc nD τ sig) → Buf (Elt Ideal) ℓ) (c : Dev nD) :
    Value.res_out0 m' c = merged (nums (m' ((c.tc : Thread nD τ).loc main_arg3)) (m' ((c.tc : Thread nD τ).loc main_arg4)) (m' ((c.tc : Thread nD τ).loc main_arg5)))
      (outs (m' ((c.tc : Thread nD τ).loc main_arg0)) (m' ((c.tc : Thread nD τ).loc main_arg1)) (m' ((c.tc : Thread nD τ).loc main_arg2))) := rfl

/-- An entry of the result: token `R`'s three values of a column, weighted by the column's head's three numbers. -/
theorem result_apply (R : Fin 8192) (C : Fin 2048) :
    merged (nums l m n) (outs o p q) (ix2 R C) = Mix.divided (o (ix2 R C))
      (p (ix2 ⟨R.val / 4, by omega⟩ ⟨R.val % 4 * 2048 + C.val, by omega⟩)) (q (ix2 ⟨R.val / 16, by omega⟩ ⟨R.val % 16 * 2048 + C.val, by omega⟩))
      (l (ix2 R ⟨C.val / 128, by omega⟩)) (m (ix2 ⟨R.val / 4, by omega⟩ ⟨R.val % 4 * 128 + C.val / 128, by omega⟩))
      (n (ix2 ⟨R.val / 16, by omega⟩ ⟨R.val % 16 * 128 + C.val / 128, by omega⟩)) := by
  obtain ⟨o0, o1, o2⟩ := outs_apply o p q R ⟨C.val / 128, by omega⟩ ⟨C.val % 128, by omega⟩
  obtain ⟨n0, n1, n2⟩ := nums_apply l m n R ⟨C.val / 128, by omega⟩
  rw [merged_apply, weights_apply, weights_apply, weights_apply, o0, o1, o2, n0, n1, n2]
  have e0 : (⟨128 * (C.val / 128) + C.val % 128, by omega⟩ : Fin 2048) = C := Fin.ext (by show 128 * (C.val / 128) + C.val % 128 = C.val; omega)
  have e1 : (⟨R.val % 4 * 2048 + C.val / 128 * 128 + C.val % 128, by omega⟩ : Fin 8192) = ⟨R.val % 4 * 2048 + C.val, by omega⟩ :=
    Fin.ext (by show R.val % 4 * 2048 + C.val / 128 * 128 + C.val % 128 = R.val % 4 * 2048 + C.val; omega)
  have e2 : (⟨R.val % 16 * 2048 + C.val / 128 * 128 + C.val % 128, by omega⟩ : Fin 32768) = ⟨R.val % 16 * 2048 + C.val, by omega⟩ :=
    Fin.ext (by show R.val % 16 * 2048 + C.val / 128 * 128 + C.val % 128 = R.val % 16 * 2048 + C.val; omega)
  rw [e0, e1, e2]
  rfl

end Cert.ReferenceMixIdeal.Stage

end
-- ==== Proof.Combined.lean ====
/- The merge of the three dilations: with real log-sum-exps the kernel's result is the reference's, and the reference ends quietly. -/
module

public import proofs.«01_k».proof.Defs
public import proofs.«01_k».proof.Pre_finite_mix
public import proofs.«01_k».proof.Proof.Finite
public import proofs.«01_k».proof.Proof.Mix
public import proofs.«01_k».proof.Proof.Merge
public import proofs.«01_k».proof.Proof.Gen.ReferenceMixIdeal
public import Idealize.ShloMosaic.Adequacy
public import Idealize.ShloMosaic.Init

@[expose] public section

noncomputable section

namespace Cert.Pre_finite_mix

open Idealize.ShloMosaic

instance facts : Facts where
  slices_S8192x128_S8192x16_0_0 := by decide
  shapeCasts_S2048x512_S8192x128 := by decide
  shapeCasts_S512x2048_S8192x128 := by decide
  bcast_S_S8192x16 := by decide

theorem lt_of_olt (x : EReal) (h : Ideal.cmp .olt x (Ideal.ofBits .f32 0x7F800000#32) = 1#1) : x < ⊤ := by
  have htop : Ideal.ofBits .f32 0x7F800000#32 = ⊤ := by simp [Ideal.ofBits, Ideal.ieee]
  rw [htop] at h
  by_contra hx
  exact absurd h (by simp [Ideal.cmp, hx])

theorem real_of_lt (x : EReal) (h : max x (-x) < ⊤) : ∃ r : ℝ, x = (r : EReal) := by
  induction x using EReal.rec with
  | bot => exact absurd h (by simp)
  | top => exact absurd h (by simp)
  | coe r => exact ⟨r, rfl⟩

/-- A token's three numbers of a head are real. -/
theorem real (o : FVec Ideal S8192x2048 .f32) (p : FVec Ideal S2048x8192 .f32) (q : FVec Ideal S512x32768 .f32)
    (l : FVec Ideal S8192x128 .f32) (m : FVec Ideal S2048x512 .f32) (n : FVec Ideal S512x2048 .f32) (hx : fn o p q l m n = fun _ => 1#1)
    (R : Fin 8192) (h : Fin 16) :
    (∃ a : ℝ, l (ix2 R ⟨h.val, by omega⟩) = (a : EReal))
      ∧ (∃ a : ℝ, m (ix2 ⟨R.val / 4, by omega⟩ ⟨R.val % 4 * 128 + h.val, by omega⟩) = (a : EReal))
      ∧ (∃ a : ℝ, n (ix2 ⟨R.val / 16, by omega⟩ ⟨R.val % 16 * 128 + h.val, by omega⟩) = (a : EReal)) := by
  have e : fn o p q l m n (ix2 R h) = Ideal.cmp .olt (max (max (max (l (ix2 R ⟨h.val, by omega⟩)) (-l (ix2 R ⟨h.val, by omega⟩)))
      (max (m (ix2 ⟨R.val / 4, by omega⟩ ⟨R.val % 4 * 128 + h.val, by omega⟩)) (-m (ix2 ⟨R.val / 4, by omega⟩ ⟨R.val % 4 * 128 + h.val, by omega⟩))))
      (max (n (ix2 ⟨R.val / 16, by omega⟩ ⟨R.val % 16 * 128 + h.val, by omega⟩)) (-n (ix2 ⟨R.val / 16, by omega⟩ ⟨R.val % 16 * 128 + h.val, by omega⟩))))
      (Ideal.ofBits .f32 0x7F800000#32) := by
    pointwise [fn]
    rfl
  have t := lt_of_olt _ (e.symm.trans (congrFun hx (ix2 R h)))
  exact ⟨real_of_lt _ (lt_of_le_of_lt ((le_max_left _ _).trans (le_max_left _ _)) t),
    real_of_lt _ (lt_of_le_of_lt ((le_max_right _ _).trans (le_max_left _ _)) t), real_of_lt _ (lt_of_le_of_lt (le_max_right _ _) t)⟩

end Cert.Pre_finite_mix

namespace Cert.Proof

open Idealize.ShloMosaic Idealize.SL.Sem

theorem frame_Mix : Cert.quiescent_ReferenceMixIdeal (hReferenceMixIdeal := Cert.ReferenceMixIdeal.Gen.facts) := fun m ρ _ =>
  (θ_run Cert.ReferenceMixIdeal.defs _ _).mono (fun r h => ⟨fun c => (h c).2, sem_eq_zero_of_no_sems (by decide) r.2⟩)
    (Cert.ReferenceMixIdeal.Value.run (F := Ideal) m ρ)

open Cert.KernelMixIdeal.Array in
theorem algebraic_Mix : Cert.algebraic_KernelMixIdeal_ReferenceMixIdeal_pre_finite_mix (hKernelMixIdeal := Cert.KernelMixIdeal.Gen.facts)
    (hReferenceMixIdeal := Cert.ReferenceMixIdeal.Gen.facts) (hPre_finite_mix := Cert.Pre_finite_mix.facts) := by
  intro m ρ m' ρ' hpre hargs
  refine ⟨_, Cert.KernelMixIdeal.Value.run_blocks (F := Ideal) m ρ, ?_⟩
  refine (θ_run (Cert.ReferenceMixIdeal.defs (F := Ideal)) _ _).mono (fun r h c => ⟨(h c).1.trans ?_, (h c).2⟩) (Cert.ReferenceMixIdeal.Value.run (F := Ideal) m' ρ')
  refine (Cert.ReferenceMixIdeal.Stage.res m' c).trans ?_
  rw [(hargs c).1, (hargs c).2.1, (hargs c).2.2.1, (hargs c).2.2.2.1, (hargs c).2.2.2.2.1, (hargs c).2.2.2.2.2]
  refine Product.ext2 fun R C => ?_
  obtain ⟨⟨a, ha⟩, ⟨b, hb⟩, d, hd⟩ := Cert.Pre_finite_mix.real (O1 m c) (O4 m c) (O16 m c) (N1 m c) (N4 m c) (N16 m c) (hpre c) R ⟨C.val / 128, by omega⟩
  refine (Cert.ReferenceMixIdeal.Stage.result_apply (O1 m c) (O4 m c) (O16 m c) (N1 m c) (N4 m c) (N16 m c) R C).trans
    (Eq.trans ?_ (result_apply m c R C).symm)
  dsimp only at ha hb hd
  rw [ha, hb, hd]
  exact (Mix.scaled_eq_divided _ _ _ a b d).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.KernelQkv1
public import proofs.«01_k».proof.Proof.Gen.KernelQkv1.Skeleton
public import proofs.«01_k».proof.Proof.Gen.KernelQkv1.Launch
public import proofs.«01_k».proof.Proof.Gen.KernelQkv1.Points
public import proofs.«01_k».proof.Proof.Gen.KernelQkv1.Frame
public import proofs.«01_k».proof.Proof.Gen.KernelQkv1Ideal
public import proofs.«01_k».proof.Proof.Gen.KernelQkv1Ideal.Skeleton
public import proofs.«01_k».proof.Proof.Gen.KernelQkv1Ideal.Launch
public import proofs.«01_k».proof.Proof.Gen.KernelQkv1Ideal.Points
public import proofs.«01_k».proof.Proof.Gen.KernelQkv1Ideal.Frame
public import proofs.«01_k».proof.Proof.Gen.KernelQkv1Ideal.Value
public import proofs.«01_k».proof.Proof.Gen.ReferenceQkv1Ideal
public import proofs.«01_k».proof.Proof.Gen.ReferenceQkv1Ideal.Run
public import proofs.«01_k».proof.Proof.Gen.KernelQkv4
public import proofs.«01_k».proof.Proof.Gen.KernelQkv4.Skeleton
public import proofs.«01_k».proof.Proof.Gen.KernelQkv4.Launch
public import proofs.«01_k».proof.Proof.Gen.KernelQkv4.Points
public import proofs.«01_k».proof.Proof.Gen.KernelQkv4.Frame
public import proofs.«01_k».proof.Proof.Gen.KernelQkv4Ideal
public import proofs.«01_k».proof.Proof.Gen.KernelQkv4Ideal.Skeleton
public import proofs.«01_k».proof.Proof.Gen.KernelQkv4Ideal.Launch
public import proofs.«01_k».proof.Proof.Gen.KernelQkv4Ideal.Points
public import proofs.«01_k».proof.Proof.Gen.KernelQkv4Ideal.Frame
public import proofs.«01_k».proof.Proof.Gen.KernelQkv4Ideal.Value
public import proofs.«01_k».proof.Proof.Gen.ReferenceQkv4Ideal
public import proofs.«01_k».proof.Proof.Gen.ReferenceQkv4Ideal.Run
public import proofs.«01_k».proof.Proof.Gen.KernelQkv16
public import proofs.«01_k».proof.Proof.Gen.KernelQkv16.Skeleton
public import proofs.«01_k».proof.Proof.Gen.KernelQkv16.Launch
public import proofs.«01_k».proof.Proof.Gen.KernelQkv16.Points
public import proofs.«01_k».proof.Proof.Gen.KernelQkv16.Frame
public import proofs.«01_k».proof.Proof.Gen.KernelQkv16Ideal
public import proofs.«01_k».proof.Proof.Gen.KernelQkv16Ideal.Skeleton
public import proofs.«01_k».proof.Proof.Gen.KernelQkv16Ideal.Launch
public import proofs.«01_k».proof.Proof.Gen.KernelQkv16Ideal.Points
public import proofs.«01_k».proof.Proof.Gen.KernelQkv16Ideal.Frame
public import proofs.«01_k».proof.Proof.Gen.KernelQkv16Ideal.Value
public import proofs.«01_k».proof.Proof.Gen.ReferenceQkv16Ideal
public import proofs.«01_k».proof.Proof.Gen.ReferenceQkv16Ideal.Run
public import proofs.«01_k».proof.Proof.Gen.KernelAo
public import proofs.«01_k».proof.Proof.Gen.KernelAo.Skeleton
public import proofs.«01_k».proof.Proof.Gen.KernelAo.Launch
public import proofs.«01_k».proof.Proof.Gen.KernelAo.Points
public import proofs.«01_k».proof.Proof.Gen.KernelAo.Frame
public import proofs.«01_k».proof.Proof.Gen.KernelAoIdeal
public import proofs.«01_k».proof.Proof.Gen.KernelAoIdeal.Skeleton
public import proofs.«01_k».proof.Proof.Gen.KernelAoIdeal.Launch
public import proofs.«01_k».proof.Proof.Gen.KernelAoIdeal.Points
public import proofs.«01_k».proof.Proof.Gen.KernelAoIdeal.Frame
public import proofs.«01_k».proof.Proof.Gen.KernelAoIdeal.Value
public import proofs.«01_k».proof.Proof.Gen.ReferenceAoIdeal
public import proofs.«01_k».proof.Proof.Gen.ReferenceAoIdeal.Run
public import proofs.«01_k».proof.Proof.Gen.KernelBq
public import proofs.«01_k».proof.Proof.Gen.KernelBq.Skeleton
public import proofs.«01_k».proof.Proof.Gen.KernelBq.Launch
public import proofs.«01_k».proof.Proof.Gen.KernelBq.Points
public import proofs.«01_k».proof.Proof.Gen.KernelBq.Frame
public import proofs.«01_k».proof.Proof.Gen.KernelBqIdeal
public import proofs.«01_k».proof.Proof.Gen.KernelBqIdeal.Skeleton
public import proofs.«01_k».proof.Proof.Gen.KernelBqIdeal.Launch
public import proofs.«01_k».proof.Proof.Gen.KernelBqIdeal.Points
public import proofs.«01_k».proof.Proof.Gen.KernelBqIdeal.Frame
public import proofs.«01_k».proof.Proof.Gen.KernelBqIdeal.Value
public import proofs.«01_k».proof.Proof.Gen.ReferenceBqIdeal
public import proofs.«01_k».proof.Proof.Gen.ReferenceBqIdeal.Run
public import proofs.«01_k».proof.Proof.Gen.KernelBo
public import proofs.«01_k».proof.Proof.Gen.KernelBo.Skeleton
public import proofs.«01_k».proof.Proof.Gen.KernelBo.Launch
public import proofs.«01_k».proof.Proof.Gen.KernelBo.Points
public import proofs.«01_k».proof.Proof.Gen.KernelBo.Frame
public import proofs.«01_k».proof.Proof.Gen.KernelBoIdeal
public import proofs.«01_k».proof.Proof.Gen.KernelBoIdeal.Skeleton
public import proofs.«01_k».proof.Proof.Gen.KernelBoIdeal.Launch
public import proofs.«01_k».proof.Proof.Gen.KernelBoIdeal.Points
public import proofs.«01_k».proof.Proof.Gen.KernelBoIdeal.Frame
public import proofs.«01_k».proof.Proof.Gen.KernelBoIdeal.Value
public import proofs.«01_k».proof.Proof.Gen.ReferenceBoIdeal
public import proofs.«01_k».proof.Proof.Gen.ReferenceBoIdeal.Run
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.KernelPro
public import proofs.«01_k».proof.Proof.Gen.KernelPro.Skeleton
public import proofs.«01_k».proof.Proof.Gen.KernelPro.Launch
public import proofs.«01_k».proof.Proof.Gen.KernelPro.Points
public import proofs.«01_k».proof.Proof.Gen.KernelPro.Frame
public import proofs.«01_k».proof.Proof.Gen.KernelProIdeal
public import proofs.«01_k».proof.Proof.Gen.KernelProIdeal.Skeleton
public import proofs.«01_k».proof.Proof.Gen.KernelProIdeal.Launch
public import proofs.«01_k».proof.Proof.Gen.KernelProIdeal.Points
public import proofs.«01_k».proof.Proof.Gen.KernelProIdeal.Frame
public import proofs.«01_k».proof.Proof.Gen.KernelProIdeal.Value
public import proofs.«01_k».proof.Proof.Gen.ReferenceProIdeal
public import proofs.«01_k».proof.Proof.Gen.ReferenceProIdeal.Run
public import proofs.«01_k».proof.Proof.Gen.KernelMean
public import proofs.«01_k».proof.Proof.Gen.KernelMean.Skeleton
public import proofs.«01_k».proof.Proof.Gen.KernelMean.Launch
public import proofs.«01_k».proof.Proof.Gen.KernelMean.Points
public import proofs.«01_k».proof.Proof.Gen.KernelMean.Frame
public import proofs.«01_k».proof.Proof.Gen.KernelMeanIdeal
public import proofs.«01_k».proof.Proof.Gen.KernelMeanIdeal.Skeleton
public import proofs.«01_k».proof.Proof.Gen.KernelMeanIdeal.Launch
public import proofs.«01_k».proof.Proof.Gen.KernelMeanIdeal.Points
public import proofs.«01_k».proof.Proof.Gen.KernelMeanIdeal.Frame
public import proofs.«01_k».proof.Proof.Gen.KernelMeanIdeal.Value
public import proofs.«01_k».proof.Proof.Gen.ReferenceMeanIdeal
public import proofs.«01_k».proof.Proof.Gen.ReferenceMeanIdeal.Run
public import proofs.«01_k».proof.Proof.Gen.KernelLast
public import proofs.«01_k».proof.Proof.Gen.KernelLast.Skeleton
public import proofs.«01_k».proof.Proof.Gen.KernelLast.Launch
public import proofs.«01_k».proof.Proof.Gen.KernelLast.Points
public import proofs.«01_k».proof.Proof.Gen.KernelLast.Frame
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.KernelLastIdeal.Frame
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceIdeal.Run
public import proofs.«01_k».proof.Proof.Whole
public import proofs.«01_k».proof.Proof.Finite
public import proofs.«01_k».proof.Proof.Products
public import proofs.«01_k».proof.Proof.Elementwise
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Outcome
public import proofs.«01_k».proof.Proof.Combined
public import Idealize.ShloMosaic.Adequacy
public import Idealize.ShloMosaic.Init

@[expose] public section

noncomputable section

namespace Cert.Proof

open Idealize.ShloMosaic Idealize.SL.Sem

theorem frame_r : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0x7149F2CA#32 ⊤ rfl,
    IdealRules.named_const.statement Cert.KernelIdeal.κ "log2e_inv_sqrt_e" .f32 0x3E0293EE#32 (((Real.log 2)⁻¹ * (Real.sqrt 128)⁻¹ : ℝ) : EReal) rfl,
    IdealRules.named_const.statement Cert.KernelIdeal.κ "inv_sqrt_e" .f32 0x3DB504F3#32 (((Real.sqrt 128)⁻¹ : ℝ) : EReal) rfl,
    IdealRules.named_const.statement Cert.KernelIdeal.κ "slope2" .f32 0x40B504F3#32 ((Real.sqrt 32 : ℝ) : EReal) rfl,
    IdealRules.named_const.statement Cert.KernelIdeal.κ "slope4" .f32 0x403504F3#32 ((Real.sqrt 8 : ℝ) : EReal) rfl,
    IdealRules.named_const.statement Cert.KernelIdeal.κ "slope6" .f32 0x3FB504F3#32 ((Real.sqrt 2 : ℝ) : EReal) rfl,
    IdealRules.named_const.statement Cert.KernelIdeal.κ "slope8" .f32 0x3F3504F3#32 ((Real.sqrt (1 / 2) : ℝ) : EReal) rfl,
    IdealRules.named_const.statement Cert.KernelIdeal.κ "slope10" .f32 0x3EB504F3#32 ((Real.sqrt (1 / 8) : ℝ) : EReal) rfl,
    IdealRules.named_const.statement Cert.KernelIdeal.κ "slope12" .f32 0x3E3504F3#32 ((Real.sqrt (1 / 32) : ℝ) : EReal) rfl,
    IdealRules.named_const.statement Cert.KernelIdeal.κ "slope16" .f32 0x3D3504F3#32 ((Real.sqrt (1 / 512) : ℝ) : EReal) rfl⟩

/-- From an argument whose query and key columns are real, the kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hargs
  refine ⟨_, _, Cert.KernelIdeal.Value.run_blocks (F := Ideal) m ρ, ?_⟩
  refine (θ_run (Cert.ReferenceIdeal.defs (F := Ideal)) _ _).mono (fun r h c => ?_) (Cert.ReferenceIdeal.Value.run (F := Ideal) m' ρ')
  obtain ⟨h0, h1, h2⟩ := h c
  have hx : RefRow.Real01 (Cert.KernelIdeal.Array.X m c) := Cert.Pre_finite.real _ (hpre c)
  refine ⟨h0.trans ?_, h1.trans ?_, h2⟩
  · rw [Whole.out m c hx]
    refine (Cert.ReferenceIdeal.Stage.out0 m' c).trans ?_
    rw [hargs c]
    rfl
  · rw [Whole.lse m c hx]
    refine (Cert.ReferenceIdeal.Stage.out1 m' c).trans ?_
    rw [hargs c]
    rfl

theorem claim : Cert.Claim := ⟨Cert.Kernel.Gen.facts, Cert.KernelIdeal.Gen.facts, Cert.ReferenceIdeal.Gen.facts,
  Cert.KernelQkv1.Gen.facts, Cert.KernelQkv1Ideal.Gen.facts, Cert.ReferenceQkv1Ideal.Gen.facts,
  Cert.KernelQkv4.Gen.facts, Cert.KernelQkv4Ideal.Gen.facts, Cert.ReferenceQkv4Ideal.Gen.facts,
  Cert.KernelQkv16.Gen.facts, Cert.KernelQkv16Ideal.Gen.facts, Cert.ReferenceQkv16Ideal.Gen.facts,
  Cert.KernelAo.Gen.facts, Cert.KernelAoIdeal.Gen.facts, Cert.ReferenceAoIdeal.Gen.facts,
  Cert.KernelBq.Gen.facts, Cert.KernelBqIdeal.Gen.facts, Cert.ReferenceBqIdeal.Gen.facts,
  Cert.KernelBo.Gen.facts, Cert.KernelBoIdeal.Gen.facts, Cert.ReferenceBoIdeal.Gen.facts,
  Cert.KernelKv.Gen.facts, Cert.KernelKvIdeal.Gen.facts, Cert.ReferenceKvIdeal.Gen.facts,
  Cert.KernelPro.Gen.facts, Cert.KernelProIdeal.Gen.facts, Cert.ReferenceProIdeal.Gen.facts,
  Cert.KernelMean.Gen.facts, Cert.KernelMeanIdeal.Gen.facts, Cert.ReferenceMeanIdeal.Gen.facts,
  Cert.KernelLast.Gen.facts, Cert.KernelLastIdeal.Gen.facts, Cert.ReferenceLastIdeal.Gen.facts,
  Cert.KernelMod.Gen.facts, Cert.KernelModIdeal.Gen.facts, Cert.ReferenceModIdeal.Gen.facts,
  Cert.KernelMix.Gen.facts, Cert.KernelMixIdeal.Gen.facts, Cert.ReferenceMixIdeal.Gen.facts,
  Cert.Pre_finite.facts, Cert.Pre_finite_mix.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.KernelQkv1.Gen.frame m ρ, fun m ρ _ => Cert.KernelQkv1Ideal.Gen.frame m ρ, frame_Qkv1,
  fun m ρ _ => Cert.KernelQkv4.Gen.frame m ρ, fun m ρ _ => Cert.KernelQkv4Ideal.Gen.frame m ρ, frame_Qkv4,
  fun m ρ _ => Cert.KernelQkv16.Gen.frame m ρ, fun m ρ _ => Cert.KernelQkv16Ideal.Gen.frame m ρ, frame_Qkv16,
  fun m ρ _ => Cert.KernelAo.Gen.frame m ρ, fun m ρ _ => Cert.KernelAoIdeal.Gen.frame m ρ, frame_Ao,
  fun m ρ _ => Cert.KernelBq.Gen.frame m ρ, fun m ρ _ => Cert.KernelBqIdeal.Gen.frame m ρ, frame_Bq,
  fun m ρ _ => Cert.KernelBo.Gen.frame m ρ, fun m ρ _ => Cert.KernelBoIdeal.Gen.frame m ρ, frame_Bo,
  fun m ρ _ => Cert.KernelKv.Gen.frame m ρ, fun m ρ _ => Cert.KernelKvIdeal.Gen.frame m ρ, frame_Kv,
  fun m ρ _ => Cert.KernelPro.Gen.frame m ρ, fun m ρ _ => Cert.KernelProIdeal.Gen.frame m ρ, frame_Pro,
  fun m ρ _ => Cert.KernelMean.Gen.frame m ρ, fun m ρ _ => Cert.KernelMeanIdeal.Gen.frame m ρ, frame_Mean,
  fun m ρ _ => Cert.KernelLast.Gen.frame m ρ, fun m ρ _ => Cert.KernelLastIdeal.Gen.frame m ρ, frame_Last,
  fun m ρ _ => Cert.KernelMod.Gen.frame m ρ, fun m ρ _ => Cert.KernelModIdeal.Gen.frame m ρ, frame_Mod,
  fun m ρ _ => Cert.KernelMix.Gen.frame m ρ, fun m ρ _ => Cert.KernelMixIdeal.Gen.frame m ρ, fun m ρ _ => Cert.KernelMixIdeal.Gen.frame m ρ,
  frame_Mix, fun m ρ _ => frame_Mix m ρ trivial,
  preserves, algebraic,
  trivial, algebraic_Qkv1,
  trivial, algebraic_Qkv4,
  trivial, algebraic_Qkv16,
  trivial, algebraic_Ao,
  trivial, algebraic_Bq,
  trivial, algebraic_Bo,
  trivial, algebraic_Kv,
  trivial, algebraic_Pro,
  trivial, algebraic_Mean,
  trivial, algebraic_Last,
  trivial, algebraic_Mod,
  trivial, algebraic_Mix⟩

end Cert.Proof

end
